-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x512 : Shape := ⟨3, ![2, 4096, 512]⟩
abbrev S256x2048 : Shape := ⟨2, ![256, 2048]⟩
abbrev S16x256x128 : Shape := ⟨3, ![16, 256, 128]⟩
abbrev S8x128 : Shape := ⟨2, ![8, 128]⟩
abbrev S3x8x128 : Shape := ⟨3, ![3, 8, 128]⟩
abbrev S2 : Shape := ⟨1, ![2]⟩
abbrev S_ : Shape := ⟨0, ![]⟩
abbrev S16 : Shape := ⟨1, ![16]⟩
abbrev S6 : Shape := ⟨1, ![6]⟩
abbrev S1 : Shape := ⟨1, ![1]⟩
abbrev S1x4096x512 : Shape := ⟨3, ![1, 4096, 512]⟩
abbrev S4096x512 : Shape := ⟨2, ![4096, 512]⟩
abbrev S256x512 : Shape := ⟨2, ![256, 512]⟩
abbrev S1x256x512 : Shape := ⟨3, ![1, 256, 512]⟩
abbrev S1x1x1 : Shape := ⟨3, ![1, 1, 1]⟩
abbrev S1x256x128 : Shape := ⟨3, ![1, 256, 128]⟩
abbrev S256x128 : Shape := ⟨2, ![256, 128]⟩
abbrev S1x8x128 : Shape := ⟨3, ![1, 8, 128]⟩
abbrev S3x1x128 : Shape := ⟨3, ![3, 1, 128]⟩
abbrev S3x128 : Shape := ⟨2, ![3, 128]⟩
abbrev S1x3x128 : Shape := ⟨3, ![1, 3, 128]⟩

abbrev nBuf : Space → Nat
  | .hbm => 3
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S2x4096x512, .f32⟩
  | .local _ .vmem, ⟨2, _⟩ => ⟨S256x2048, .bf16⟩
  | .local _ .vmem, ⟨3, _⟩ => ⟨S16x256x128, .bf16⟩
  | .local _ .vmem, ⟨4, _⟩ => ⟨S16x256x128, .f32⟩
  | .local _ .vmem, ⟨5, _⟩ => ⟨S8x128, .f32⟩
  | .local _ .vmem, ⟨6, _⟩ => ⟨S3x8x128, .f32⟩
  | .local _ .vmem, ⟨7, _⟩ => ⟨S8x128, .f32⟩
  | .local _ .vmem, ⟨8, _⟩ => ⟨S3x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 : Nat :=
  let c0_i32_14 : BitVec 32 := 0#32
  let c0_i32_12 : BitVec 32 := 0#32
  let c1_i32_13 : BitVec 32 := 1#32
  let v31 : BitVec 32 := Scalar.muli c0_i32_12 c1_i32_13
  let v32 : BitVec 32 := Scalar.addi c0_i32_14 v31
  v32.toNat
def k0_dev2 : Nat :=
  let c0_i32_18 : BitVec 32 := 0#32
  let c1_i32_16 : BitVec 32 := 1#32
  let c1_i32_17 : BitVec 32 := 1#32
  let v33 : BitVec 32 := Scalar.muli c1_i32_16 c1_i32_17
  let v34 : BitVec 32 := Scalar.addi c0_i32_18 v33
  v34.toNat
def k0_dev3 : Nat :=
  let c0_i32_21 : BitVec 32 := 0#32
  let c2_i32 : BitVec 32 := 2#32
  let c1_i32_20 : BitVec 32 := 1#32
  let v35 : BitVec 32 := Scalar.muli c2_i32 c1_i32_20
  let v36 : BitVec 32 := Scalar.addi c0_i32_21 v35
  v36.toNat
def k0_dev4 : Nat :=
  let c0_i32_24 : BitVec 32 := 0#32
  let c3_i32 : BitVec 32 := 3#32
  let c1_i32_23 : BitVec 32 := 1#32
  let v37 : BitVec 32 := Scalar.muli c3_i32 c1_i32_23
  let v38 : BitVec 32 := Scalar.addi c0_i32_24 v37
  v38.toNat
def k0_dev5 : Nat :=
  let c0_i32_28 : BitVec 32 := 0#32
  let c4_i32_26 : BitVec 32 := 4#32
  let c1_i32_27 : BitVec 32 := 1#32
  let v39 : BitVec 32 := Scalar.muli c4_i32_26 c1_i32_27
  let v40 : BitVec 32 := Scalar.addi c0_i32_28 v39
  v40.toNat
def k0_dev6 : Nat :=
  let c0_i32_31 : BitVec 32 := 0#32
  let c5_i32 : BitVec 32 := 5#32
  let c1_i32_30 : BitVec 32 := 1#32
  let v41 : BitVec 32 := Scalar.muli c5_i32 c1_i32_30
  let v42 : BitVec 32 := Scalar.addi c0_i32_31 v41
  v42.toNat
def k0_dev7 : Nat :=
  let c0_i32_34 : BitVec 32 := 0#32
  let c6_i32 : BitVec 32 := 6#32
  let c1_i32_33 : BitVec 32 := 1#32
  let v43 : BitVec 32 := Scalar.muli c6_i32 c1_i32_33
  let v44 : BitVec 32 := Scalar.addi c0_i32_34 v43
  v44.toNat
def k0_dev8 : Nat :=
  let c0_i32_37 : BitVec 32 := 0#32
  let c7_i32 : BitVec 32 := 7#32
  let c1_i32_36 : BitVec 32 := 1#32
  let v45 : BitVec 32 := Scalar.muli c7_i32 c1_i32_36
  let v46 : BitVec 32 := Scalar.addi c0_i32_37 v45
  v46.toNat
def k0_dev9 : Nat :=
  let c0_i32_40 : BitVec 32 := 0#32
  let c8_i32 : BitVec 32 := 8#32
  let c1_i32_39 : BitVec 32 := 1#32
  let v47 : BitVec 32 := Scalar.muli c8_i32 c1_i32_39
  let v48 : BitVec 32 := Scalar.addi c0_i32_40 v47
  v48.toNat
def k0_dev10 : Nat :=
  let c0_i32_43 : BitVec 32 := 0#32
  let c9_i32 : BitVec 32 := 9#32
  let c1_i32_42 : BitVec 32 := 1#32
  let v49 : BitVec 32 := Scalar.muli c9_i32 c1_i32_42
  let v50 : BitVec 32 := Scalar.addi c0_i32_43 v49
  v50.toNat
def k0_dev11 : Nat :=
  let c0_i32_46 : BitVec 32 := 0#32
  let c10_i32 : BitVec 32 := 10#32
  let c1_i32_45 : BitVec 32 := 1#32
  let v51 : BitVec 32 := Scalar.muli c10_i32 c1_i32_45
  let v52 : BitVec 32 := Scalar.addi c0_i32_46 v51
  v52.toNat
def k0_dev12 : Nat :=
  let c0_i32_49 : BitVec 32 := 0#32
  let c11_i32 : BitVec 32 := 11#32
  let c1_i32_48 : BitVec 32 := 1#32
  let v53 : BitVec 32 := Scalar.muli c11_i32 c1_i32_48
  let v54 : BitVec 32 := Scalar.addi c0_i32_49 v53
  v54.toNat
def k0_dev13 : Nat :=
  let c0_i32_52 : BitVec 32 := 0#32
  let c12_i32 : BitVec 32 := 12#32
  let c1_i32_51 : BitVec 32 := 1#32
  let v55 : BitVec 32 := Scalar.muli c12_i32 c1_i32_51
  let v56 : BitVec 32 := Scalar.addi c0_i32_52 v55
  v56.toNat
def k0_dev14 : Nat :=
  let c0_i32_55 : BitVec 32 := 0#32
  let c13_i32 : BitVec 32 := 13#32
  let c1_i32_54 : BitVec 32 := 1#32
  let v57 : BitVec 32 := Scalar.muli c13_i32 c1_i32_54
  let v58 : BitVec 32 := Scalar.addi c0_i32_55 v57
  v58.toNat
def k0_dev15 : Nat :=
  let c0_i32_58 : BitVec 32 := 0#32
  let c14_i32 : BitVec 32 := 14#32
  let c1_i32_57 : BitVec 32 := 1#32
  let v59 : BitVec 32 := Scalar.muli c14_i32 c1_i32_57
  let v60 : BitVec 32 := Scalar.addi c0_i32_58 v59
  v60.toNat
def k0_dev16 : Nat :=
  let c0_i32_61 : BitVec 32 := 0#32
  let c15_i32 : BitVec 32 := 15#32
  let c1_i32_60 : BitVec 32 := 1#32
  let v61 : BitVec 32 := Scalar.muli c15_i32 c1_i32_60
  let v62 : BitVec 32 := Scalar.addi c0_i32_61 v61
  v62.toNat
def k0_off1 (d0 : Dev nD) (c0_i32_63 : BitVec 32) : Fin 2 → Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_62 : BitVec 32 := 1#32
  let v63 : BitVec 32 := Scalar.addi v19 c1_i32_62
  let v64 : BitVec 32 := Scalar.addi v63 c0_i32_63
  let c4_i32_64 : BitVec 32 := 4#32
  let c0_i32_65 : BitVec 32 := 0#32
  let v65 : BitVec 1 := Scalar.cmpi .eq c4_i32_64 c0_i32_65
  let c1_i32_66 : BitVec 32 := 1#32
  let v66 : BitVec 32 := Scalar.select v65 c1_i32_66 c4_i32_64
  let v67 : BitVec 32 := Scalar.remsi v64 v66
  let c0_i32_68 : BitVec 32 := 0#32
  let v69 : BitVec 1 := Scalar.cmpi .slt v67 c0_i32_68
  let c0_i32_69 : BitVec 32 := 0#32
  let v70 : BitVec 1 := Scalar.cmpi .slt v66 c0_i32_69
  let v71 : BitVec 1 := Scalar.xori v69 v70
  let c0_i32_67 : BitVec 32 := 0#32
  let v68 : BitVec 1 := Scalar.cmpi .ne v67 c0_i32_67
  let v72 : BitVec 1 := Scalar.andi v71 v68
  let v73 : BitVec 32 := Scalar.addi v67 v66
  let v74 : BitVec 32 := Scalar.select v72 v73 v67
  let c512_i32 : BitVec 32 := 512#32
  let v75 : BitVec 32 := Scalar.muli v74 c512_i32
  ![0, v75.toNat]
def k0_off2 (d0 : Dev nD) (c0_i32_77 : BitVec 32) : Fin 2 → Nat :=
  let c0_120 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c512_i32_119 : BitVec 32 := 512#32
  let v144 : BitVec 32 := Scalar.muli v95 c512_i32_119
  let v145 : Index := Scalar.indexCast v144
  ![0, v145.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_121 : BitVec 32 := 4#32
  let v149 : BitVec 32 := Scalar.muli v95 c4_i32_121
  let c0_i32_122 : BitVec 32 := 0#32
  let v150 : BitVec 32 := Scalar.addi v149 c0_i32_122
  let v151 : BitVec 1 := Scalar.cmpi .ne v150 v2
  let v152 : BitVec 32 := Scalar.extui v151
  let c0_i32_123 : BitVec 32 := 0#32
  let v153 : BitVec 1 := Scalar.cmpi .ne v152 c0_i32_123
  v153

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off5 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_121 : BitVec 32 := 4#32
  let v149 : BitVec 32 := Scalar.muli v95 c4_i32_121
  let c0_i32_122 : BitVec 32 := 0#32
  let v150 : BitVec 32 := Scalar.addi v149 c0_i32_122
  let c128_i32_945 : BitVec 32 := 128#32
  let v1337 : BitVec 32 := Scalar.muli v150 c128_i32_945
  ![0, v1337.toNat]
def k0_dev17 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_121 : BitVec 32 := 4#32
  let v149 : BitVec 32 := Scalar.muli v95 c4_i32_121
  let c0_i32_122 : BitVec 32 := 0#32
  let v150 : BitVec 32 := Scalar.addi v149 c0_i32_122
  let c1_i32_946 : BitVec 32 := 1#32
  let v1338 : BitVec 32 := Scalar.muli v150 c1_i32_946
  let v1339 : BitVec 32 := Scalar.addi c0_i32_947 v1338
  v1339.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_124 : BitVec 32 := 4#32
  let v154 : BitVec 32 := Scalar.muli v95 c4_i32_124
  let c1_i32_125 : BitVec 32 := 1#32
  let v155 : BitVec 32 := Scalar.addi v154 c1_i32_125
  let v156 : BitVec 1 := Scalar.cmpi .ne v155 v2
  let v157 : BitVec 32 := Scalar.extui v156
  let c0_i32_126 : BitVec 32 := 0#32
  let v158 : BitVec 1 := Scalar.cmpi .ne v157 c0_i32_126
  v158

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off8 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_124 : BitVec 32 := 4#32
  let v154 : BitVec 32 := Scalar.muli v95 c4_i32_124
  let c1_i32_125 : BitVec 32 := 1#32
  let v155 : BitVec 32 := Scalar.addi v154 c1_i32_125
  let c128_i32_945 : BitVec 32 := 128#32
  let v1337 : BitVec 32 := Scalar.muli v155 c128_i32_945
  ![0, v1337.toNat]
def k0_dev18 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_124 : BitVec 32 := 4#32
  let v154 : BitVec 32 := Scalar.muli v95 c4_i32_124
  let c1_i32_125 : BitVec 32 := 1#32
  let v155 : BitVec 32 := Scalar.addi v154 c1_i32_125
  let c1_i32_946 : BitVec 32 := 1#32
  let v1338 : BitVec 32 := Scalar.muli v155 c1_i32_946
  let v1339 : BitVec 32 := Scalar.addi c0_i32_947 v1338
  v1339.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_127 : BitVec 32 := 4#32
  let v159 : BitVec 32 := Scalar.muli v95 c4_i32_127
  let c2_i32_128 : BitVec 32 := 2#32
  let v160 : BitVec 32 := Scalar.addi v159 c2_i32_128
  let v161 : BitVec 1 := Scalar.cmpi .ne v160 v2
  let v162 : BitVec 32 := Scalar.extui v161
  let c0_i32_129 : BitVec 32 := 0#32
  let v163 : BitVec 1 := Scalar.cmpi .ne v162 c0_i32_129
  v163

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off11 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_127 : BitVec 32 := 4#32
  let v159 : BitVec 32 := Scalar.muli v95 c4_i32_127
  let c2_i32_128 : BitVec 32 := 2#32
  let v160 : BitVec 32 := Scalar.addi v159 c2_i32_128
  let c128_i32_945 : BitVec 32 := 128#32
  let v1337 : BitVec 32 := Scalar.muli v160 c128_i32_945
  ![0, v1337.toNat]
def k0_dev19 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_127 : BitVec 32 := 4#32
  let v159 : BitVec 32 := Scalar.muli v95 c4_i32_127
  let c2_i32_128 : BitVec 32 := 2#32
  let v160 : BitVec 32 := Scalar.addi v159 c2_i32_128
  let c1_i32_946 : BitVec 32 := 1#32
  let v1338 : BitVec 32 := Scalar.muli v160 c1_i32_946
  let v1339 : BitVec 32 := Scalar.addi c0_i32_947 v1338
  v1339.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_130 : BitVec 32 := 4#32
  let v164 : BitVec 32 := Scalar.muli v95 c4_i32_130
  let c3_i32_131 : BitVec 32 := 3#32
  let v165 : BitVec 32 := Scalar.addi v164 c3_i32_131
  let v166 : BitVec 1 := Scalar.cmpi .ne v165 v2
  let v167 : BitVec 32 := Scalar.extui v166
  let c0_i32_132 : BitVec 32 := 0#32
  let v168 : BitVec 1 := Scalar.cmpi .ne v167 c0_i32_132
  v168

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off14 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_130 : BitVec 32 := 4#32
  let v164 : BitVec 32 := Scalar.muli v95 c4_i32_130
  let c3_i32_131 : BitVec 32 := 3#32
  let v165 : BitVec 32 := Scalar.addi v164 c3_i32_131
  let c128_i32_945 : BitVec 32 := 128#32
  let v1337 : BitVec 32 := Scalar.muli v165 c128_i32_945
  ![0, v1337.toNat]
def k0_dev20 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v84 : BitVec 32 := Scalar.addi v19 c1_i32_76
  let c0_i32_77 : BitVec 32 := 0#32
  let v85 : BitVec 32 := Scalar.addi v84 c0_i32_77
  let c4_i32_78 : BitVec 32 := 4#32
  let c0_i32_79 : BitVec 32 := 0#32
  let v86 : BitVec 1 := Scalar.cmpi .eq c4_i32_78 c0_i32_79
  let c1_i32_80 : BitVec 32 := 1#32
  let v87 : BitVec 32 := Scalar.select v86 c1_i32_80 c4_i32_78
  let v88 : BitVec 32 := Scalar.remsi v85 v87
  let c0_i32_82 : BitVec 32 := 0#32
  let v90 : BitVec 1 := Scalar.cmpi .slt v88 c0_i32_82
  let c0_i32_83 : BitVec 32 := 0#32
  let v91 : BitVec 1 := Scalar.cmpi .slt v87 c0_i32_83
  let v92 : BitVec 1 := Scalar.xori v90 v91
  let c0_i32_81 : BitVec 32 := 0#32
  let v89 : BitVec 1 := Scalar.cmpi .ne v88 c0_i32_81
  let v93 : BitVec 1 := Scalar.andi v92 v89
  let v94 : BitVec 32 := Scalar.addi v88 v87
  let v95 : BitVec 32 := Scalar.select v93 v94 v88
  let c4_i32_130 : BitVec 32 := 4#32
  let v164 : BitVec 32 := Scalar.muli v95 c4_i32_130
  let c3_i32_131 : BitVec 32 := 3#32
  let v165 : BitVec 32 := Scalar.addi v164 c3_i32_131
  let c1_i32_946 : BitVec 32 := 1#32
  let v1338 : BitVec 32 := Scalar.muli v165 c1_i32_946
  let v1339 : BitVec 32 := Scalar.addi c0_i32_947 v1338
  v1339.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_176 : BitVec 32 := 4#32
  let v234 : BitVec 32 := Scalar.muli v180 c4_i32_176
  let c0_i32_177 : BitVec 32 := 0#32
  let v235 : BitVec 32 := Scalar.addi v234 c0_i32_177
  let v236 : BitVec 1 := Scalar.cmpi .ne v235 v2
  let v237 : BitVec 32 := Scalar.extui v236
  let c0_i32_178 : BitVec 32 := 0#32
  let v238 : BitVec 1 := Scalar.cmpi .ne v237 c0_i32_178
  v238

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off17 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_176 : BitVec 32 := 4#32
  let v234 : BitVec 32 := Scalar.muli v180 c4_i32_176
  let c0_i32_177 : BitVec 32 := 0#32
  let v235 : BitVec 32 := Scalar.addi v234 c0_i32_177
  let c128_i32_945 : BitVec 32 := 128#32
  let v1337 : BitVec 32 := Scalar.muli v235 c128_i32_945
  ![0, v1337.toNat]
def k0_dev21 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_176 : BitVec 32 := 4#32
  let v234 : BitVec 32 := Scalar.muli v180 c4_i32_176
  let c0_i32_177 : BitVec 32 := 0#32
  let v235 : BitVec 32 := Scalar.addi v234 c0_i32_177
  let c1_i32_946 : BitVec 32 := 1#32
  let v1338 : BitVec 32 := Scalar.muli v235 c1_i32_946
  let v1339 : BitVec 32 := Scalar.addi c0_i32_947 v1338
  v1339.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_179 : BitVec 32 := 4#32
  let v239 : BitVec 32 := Scalar.muli v180 c4_i32_179
  let c1_i32_180 : BitVec 32 := 1#32
  let v240 : BitVec 32 := Scalar.addi v239 c1_i32_180
  let v241 : BitVec 1 := Scalar.cmpi .ne v240 v2
  let v242 : BitVec 32 := Scalar.extui v241
  let c0_i32_181 : BitVec 32 := 0#32
  let v243 : BitVec 1 := Scalar.cmpi .ne v242 c0_i32_181
  v243

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off20 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_179 : BitVec 32 := 4#32
  let v239 : BitVec 32 := Scalar.muli v180 c4_i32_179
  let c1_i32_180 : BitVec 32 := 1#32
  let v240 : BitVec 32 := Scalar.addi v239 c1_i32_180
  let c128_i32_945 : BitVec 32 := 128#32
  let v1337 : BitVec 32 := Scalar.muli v240 c128_i32_945
  ![0, v1337.toNat]
def k0_dev22 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_179 : BitVec 32 := 4#32
  let v239 : BitVec 32 := Scalar.muli v180 c4_i32_179
  let c1_i32_180 : BitVec 32 := 1#32
  let v240 : BitVec 32 := Scalar.addi v239 c1_i32_180
  let c1_i32_946 : BitVec 32 := 1#32
  let v1338 : BitVec 32 := Scalar.muli v240 c1_i32_946
  let v1339 : BitVec 32 := Scalar.addi c0_i32_947 v1338
  v1339.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_182 : BitVec 32 := 4#32
  let v244 : BitVec 32 := Scalar.muli v180 c4_i32_182
  let c2_i32_183 : BitVec 32 := 2#32
  let v245 : BitVec 32 := Scalar.addi v244 c2_i32_183
  let v246 : BitVec 1 := Scalar.cmpi .ne v245 v2
  let v247 : BitVec 32 := Scalar.extui v246
  let c0_i32_184 : BitVec 32 := 0#32
  let v248 : BitVec 1 := Scalar.cmpi .ne v247 c0_i32_184
  v248

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off23 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_182 : BitVec 32 := 4#32
  let v244 : BitVec 32 := Scalar.muli v180 c4_i32_182
  let c2_i32_183 : BitVec 32 := 2#32
  let v245 : BitVec 32 := Scalar.addi v244 c2_i32_183
  let c128_i32_945 : BitVec 32 := 128#32
  let v1337 : BitVec 32 := Scalar.muli v245 c128_i32_945
  ![0, v1337.toNat]
def k0_dev23 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_182 : BitVec 32 := 4#32
  let v244 : BitVec 32 := Scalar.muli v180 c4_i32_182
  let c2_i32_183 : BitVec 32 := 2#32
  let v245 : BitVec 32 := Scalar.addi v244 c2_i32_183
  let c1_i32_946 : BitVec 32 := 1#32
  let v1338 : BitVec 32 := Scalar.muli v245 c1_i32_946
  let v1339 : BitVec 32 := Scalar.addi c0_i32_947 v1338
  v1339.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_185 : BitVec 32 := 4#32
  let v249 : BitVec 32 := Scalar.muli v180 c4_i32_185
  let c3_i32_186 : BitVec 32 := 3#32
  let v250 : BitVec 32 := Scalar.addi v249 c3_i32_186
  let v251 : BitVec 1 := Scalar.cmpi .ne v250 v2
  let v252 : BitVec 32 := Scalar.extui v251
  let c0_i32_187 : BitVec 32 := 0#32
  let v253 : BitVec 1 := Scalar.cmpi .ne v252 c0_i32_187
  v253

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off26 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_185 : BitVec 32 := 4#32
  let v249 : BitVec 32 := Scalar.muli v180 c4_i32_185
  let c3_i32_186 : BitVec 32 := 3#32
  let v250 : BitVec 32 := Scalar.addi v249 c3_i32_186
  let c128_i32_945 : BitVec 32 := 128#32
  let v1337 : BitVec 32 := Scalar.muli v250 c128_i32_945
  ![0, v1337.toNat]
def k0_dev24 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_133 : BitVec 32 := 1#32
  let v169 : BitVec 32 := Scalar.addi v19 c1_i32_133
  let c1_i32_134 : BitVec 32 := 1#32
  let v170 : BitVec 32 := Scalar.addi v169 c1_i32_134
  let c4_i32_135 : BitVec 32 := 4#32
  let c0_i32_136 : BitVec 32 := 0#32
  let v171 : BitVec 1 := Scalar.cmpi .eq c4_i32_135 c0_i32_136
  let c1_i32_137 : BitVec 32 := 1#32
  let v172 : BitVec 32 := Scalar.select v171 c1_i32_137 c4_i32_135
  let v173 : BitVec 32 := Scalar.remsi v170 v172
  let c0_i32_139 : BitVec 32 := 0#32
  let v175 : BitVec 1 := Scalar.cmpi .slt v173 c0_i32_139
  let c0_i32_140 : BitVec 32 := 0#32
  let v176 : BitVec 1 := Scalar.cmpi .slt v172 c0_i32_140
  let v177 : BitVec 1 := Scalar.xori v175 v176
  let c0_i32_138 : BitVec 32 := 0#32
  let v174 : BitVec 1 := Scalar.cmpi .ne v173 c0_i32_138
  let v178 : BitVec 1 := Scalar.andi v177 v174
  let v179 : BitVec 32 := Scalar.addi v173 v172
  let v180 : BitVec 32 := Scalar.select v178 v179 v173
  let c4_i32_185 : BitVec 32 := 4#32
  let v249 : BitVec 32 := Scalar.muli v180 c4_i32_185
  let c3_i32_186 : BitVec 32 := 3#32
  let v250 : BitVec 32 := Scalar.addi v249 c3_i32_186
  let c1_i32_946 : BitVec 32 := 1#32
  let v1338 : BitVec 32 := Scalar.muli v250 c1_i32_946
  let v1339 : BitVec 32 := Scalar.addi c0_i32_947 v1338
  v1339.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_232 : BitVec 32 := 4#32
  let v319 : BitVec 32 := Scalar.muli v265 c4_i32_232
  let c0_i32_233 : BitVec 32 := 0#32
  let v320 : BitVec 32 := Scalar.addi v319 c0_i32_233
  let v321 : BitVec 1 := Scalar.cmpi .ne v320 v2
  let v322 : BitVec 32 := Scalar.extui v321
  let c0_i32_234 : BitVec 32 := 0#32
  let v323 : BitVec 1 := Scalar.cmpi .ne v322 c0_i32_234
  v323

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off29 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_232 : BitVec 32 := 4#32
  let v319 : BitVec 32 := Scalar.muli v265 c4_i32_232
  let c0_i32_233 : BitVec 32 := 0#32
  let v320 : BitVec 32 := Scalar.addi v319 c0_i32_233
  let c128_i32_945 : BitVec 32 := 128#32
  let v1337 : BitVec 32 := Scalar.muli v320 c128_i32_945
  ![0, v1337.toNat]
def k0_dev25 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_232 : BitVec 32 := 4#32
  let v319 : BitVec 32 := Scalar.muli v265 c4_i32_232
  let c0_i32_233 : BitVec 32 := 0#32
  let v320 : BitVec 32 := Scalar.addi v319 c0_i32_233
  let c1_i32_946 : BitVec 32 := 1#32
  let v1338 : BitVec 32 := Scalar.muli v320 c1_i32_946
  let v1339 : BitVec 32 := Scalar.addi c0_i32_947 v1338
  v1339.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_235 : BitVec 32 := 4#32
  let v324 : BitVec 32 := Scalar.muli v265 c4_i32_235
  let c1_i32_236 : BitVec 32 := 1#32
  let v325 : BitVec 32 := Scalar.addi v324 c1_i32_236
  let v326 : BitVec 1 := Scalar.cmpi .ne v325 v2
  let v327 : BitVec 32 := Scalar.extui v326
  let c0_i32_237 : BitVec 32 := 0#32
  let v328 : BitVec 1 := Scalar.cmpi .ne v327 c0_i32_237
  v328

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off32 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_235 : BitVec 32 := 4#32
  let v324 : BitVec 32 := Scalar.muli v265 c4_i32_235
  let c1_i32_236 : BitVec 32 := 1#32
  let v325 : BitVec 32 := Scalar.addi v324 c1_i32_236
  let c128_i32_945 : BitVec 32 := 128#32
  let v1337 : BitVec 32 := Scalar.muli v325 c128_i32_945
  ![0, v1337.toNat]
def k0_dev26 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_235 : BitVec 32 := 4#32
  let v324 : BitVec 32 := Scalar.muli v265 c4_i32_235
  let c1_i32_236 : BitVec 32 := 1#32
  let v325 : BitVec 32 := Scalar.addi v324 c1_i32_236
  let c1_i32_946 : BitVec 32 := 1#32
  let v1338 : BitVec 32 := Scalar.muli v325 c1_i32_946
  let v1339 : BitVec 32 := Scalar.addi c0_i32_947 v1338
  v1339.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_238 : BitVec 32 := 4#32
  let v329 : BitVec 32 := Scalar.muli v265 c4_i32_238
  let c2_i32_239 : BitVec 32 := 2#32
  let v330 : BitVec 32 := Scalar.addi v329 c2_i32_239
  let v331 : BitVec 1 := Scalar.cmpi .ne v330 v2
  let v332 : BitVec 32 := Scalar.extui v331
  let c0_i32_240 : BitVec 32 := 0#32
  let v333 : BitVec 1 := Scalar.cmpi .ne v332 c0_i32_240
  v333

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off35 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_238 : BitVec 32 := 4#32
  let v329 : BitVec 32 := Scalar.muli v265 c4_i32_238
  let c2_i32_239 : BitVec 32 := 2#32
  let v330 : BitVec 32 := Scalar.addi v329 c2_i32_239
  let c128_i32_945 : BitVec 32 := 128#32
  let v1337 : BitVec 32 := Scalar.muli v330 c128_i32_945
  ![0, v1337.toNat]
def k0_dev27 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_238 : BitVec 32 := 4#32
  let v329 : BitVec 32 := Scalar.muli v265 c4_i32_238
  let c2_i32_239 : BitVec 32 := 2#32
  let v330 : BitVec 32 := Scalar.addi v329 c2_i32_239
  let c1_i32_946 : BitVec 32 := 1#32
  let v1338 : BitVec 32 := Scalar.muli v330 c1_i32_946
  let v1339 : BitVec 32 := Scalar.addi c0_i32_947 v1338
  v1339.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_241 : BitVec 32 := 4#32
  let v334 : BitVec 32 := Scalar.muli v265 c4_i32_241
  let c3_i32_242 : BitVec 32 := 3#32
  let v335 : BitVec 32 := Scalar.addi v334 c3_i32_242
  let v336 : BitVec 1 := Scalar.cmpi .ne v335 v2
  let v337 : BitVec 32 := Scalar.extui v336
  let c0_i32_243 : BitVec 32 := 0#32
  let v338 : BitVec 1 := Scalar.cmpi .ne v337 c0_i32_243
  v338

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off38 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_241 : BitVec 32 := 4#32
  let v334 : BitVec 32 := Scalar.muli v265 c4_i32_241
  let c3_i32_242 : BitVec 32 := 3#32
  let v335 : BitVec 32 := Scalar.addi v334 c3_i32_242
  let c128_i32_945 : BitVec 32 := 128#32
  let v1337 : BitVec 32 := Scalar.muli v335 c128_i32_945
  ![0, v1337.toNat]
def k0_dev28 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_188 : BitVec 32 := 1#32
  let v254 : BitVec 32 := Scalar.addi v19 c1_i32_188
  let c2_i32_189 : BitVec 32 := 2#32
  let v255 : BitVec 32 := Scalar.addi v254 c2_i32_189
  let c4_i32_190 : BitVec 32 := 4#32
  let c0_i32_191 : BitVec 32 := 0#32
  let v256 : BitVec 1 := Scalar.cmpi .eq c4_i32_190 c0_i32_191
  let c1_i32_192 : BitVec 32 := 1#32
  let v257 : BitVec 32 := Scalar.select v256 c1_i32_192 c4_i32_190
  let v258 : BitVec 32 := Scalar.remsi v255 v257
  let c0_i32_194 : BitVec 32 := 0#32
  let v260 : BitVec 1 := Scalar.cmpi .slt v258 c0_i32_194
  let c0_i32_195 : BitVec 32 := 0#32
  let v261 : BitVec 1 := Scalar.cmpi .slt v257 c0_i32_195
  let v262 : BitVec 1 := Scalar.xori v260 v261
  let c0_i32_193 : BitVec 32 := 0#32
  let v259 : BitVec 1 := Scalar.cmpi .ne v258 c0_i32_193
  let v263 : BitVec 1 := Scalar.andi v262 v259
  let v264 : BitVec 32 := Scalar.addi v258 v257
  let v265 : BitVec 32 := Scalar.select v263 v264 v258
  let c4_i32_241 : BitVec 32 := 4#32
  let v334 : BitVec 32 := Scalar.muli v265 c4_i32_241
  let c3_i32_242 : BitVec 32 := 3#32
  let v335 : BitVec 32 := Scalar.addi v334 c3_i32_242
  let c1_i32_946 : BitVec 32 := 1#32
  let v1338 : BitVec 32 := Scalar.muli v335 c1_i32_946
  let v1339 : BitVec 32 := Scalar.addi c0_i32_947 v1338
  v1339.toNat
def k0_dev29 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_274 : BitVec 32 := 4#32
  let v385 : BitVec 32 := Scalar.muli v19 c4_i32_274
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_275 : BitVec 32 := 1#32
  let v386 : BitVec 32 := Scalar.addi v29 c1_i32_275
  let c4_i32_276 : BitVec 32 := 4#32
  let c0_i32_277 : BitVec 32 := 0#32
  let v387 : BitVec 1 := Scalar.cmpi .eq c4_i32_276 c0_i32_277
  let c1_i32_278 : BitVec 32 := 1#32
  let v388 : BitVec 32 := Scalar.select v387 c1_i32_278 c4_i32_276
  let v389 : BitVec 32 := Scalar.remsi v386 v388
  let c0_i32_280 : BitVec 32 := 0#32
  let v391 : BitVec 1 := Scalar.cmpi .slt v389 c0_i32_280
  let c0_i32_281 : BitVec 32 := 0#32
  let v392 : BitVec 1 := Scalar.cmpi .slt v388 c0_i32_281
  let v393 : BitVec 1 := Scalar.xori v391 v392
  let c0_i32_279 : BitVec 32 := 0#32
  let v390 : BitVec 1 := Scalar.cmpi .ne v389 c0_i32_279
  let v394 : BitVec 1 := Scalar.andi v393 v390
  let v395 : BitVec 32 := Scalar.addi v389 v388
  let v396 : BitVec 32 := Scalar.select v394 v395 v389
  let v397 : BitVec 32 := Scalar.addi v385 v396
  let c1_i32_285 : BitVec 32 := 1#32
  let v398 : BitVec 32 := Scalar.muli v397 c1_i32_285
  let v399 : BitVec 32 := Scalar.addi c0_i32_286 v398
  v399.toNat
def k0_dev30 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_289 : BitVec 32 := 4#32
  let v406 : BitVec 32 := Scalar.muli v19 c4_i32_289
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_290 : BitVec 32 := 2#32
  let v407 : BitVec 32 := Scalar.addi v29 c2_i32_290
  let c4_i32_291 : BitVec 32 := 4#32
  let c0_i32_292 : BitVec 32 := 0#32
  let v408 : BitVec 1 := Scalar.cmpi .eq c4_i32_291 c0_i32_292
  let c1_i32_293 : BitVec 32 := 1#32
  let v409 : BitVec 32 := Scalar.select v408 c1_i32_293 c4_i32_291
  let v410 : BitVec 32 := Scalar.remsi v407 v409
  let c0_i32_295 : BitVec 32 := 0#32
  let v412 : BitVec 1 := Scalar.cmpi .slt v410 c0_i32_295
  let c0_i32_296 : BitVec 32 := 0#32
  let v413 : BitVec 1 := Scalar.cmpi .slt v409 c0_i32_296
  let v414 : BitVec 1 := Scalar.xori v412 v413
  let c0_i32_294 : BitVec 32 := 0#32
  let v411 : BitVec 1 := Scalar.cmpi .ne v410 c0_i32_294
  let v415 : BitVec 1 := Scalar.andi v414 v411
  let v416 : BitVec 32 := Scalar.addi v410 v409
  let v417 : BitVec 32 := Scalar.select v415 v416 v410
  let v418 : BitVec 32 := Scalar.addi v406 v417
  let c1_i32_300 : BitVec 32 := 1#32
  let v419 : BitVec 32 := Scalar.muli v418 c1_i32_300
  let v420 : BitVec 32 := Scalar.addi c0_i32_301 v419
  v420.toNat
def k0_dev31 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_304 : BitVec 32 := 4#32
  let v427 : BitVec 32 := Scalar.muli v19 c4_i32_304
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_305 : BitVec 32 := 3#32
  let v428 : BitVec 32 := Scalar.addi v29 c3_i32_305
  let c4_i32_306 : BitVec 32 := 4#32
  let c0_i32_307 : BitVec 32 := 0#32
  let v429 : BitVec 1 := Scalar.cmpi .eq c4_i32_306 c0_i32_307
  let c1_i32_308 : BitVec 32 := 1#32
  let v430 : BitVec 32 := Scalar.select v429 c1_i32_308 c4_i32_306
  let v431 : BitVec 32 := Scalar.remsi v428 v430
  let c0_i32_310 : BitVec 32 := 0#32
  let v433 : BitVec 1 := Scalar.cmpi .slt v431 c0_i32_310
  let c0_i32_311 : BitVec 32 := 0#32
  let v434 : BitVec 1 := Scalar.cmpi .slt v430 c0_i32_311
  let v435 : BitVec 1 := Scalar.xori v433 v434
  let c0_i32_309 : BitVec 32 := 0#32
  let v432 : BitVec 1 := Scalar.cmpi .ne v431 c0_i32_309
  let v436 : BitVec 1 := Scalar.andi v435 v432
  let v437 : BitVec 32 := Scalar.addi v431 v430
  let v438 : BitVec 32 := Scalar.select v436 v437 v431
  let v439 : BitVec 32 := Scalar.addi v427 v438
  let c1_i32_315 : BitVec 32 := 1#32
  let v440 : BitVec 32 := Scalar.muli v439 c1_i32_315
  let v441 : BitVec 32 := Scalar.addi c0_i32_316 v440
  v441.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_321 : BitVec 32 := 4#32
  let v453 : BitVec 32 := Scalar.muli v350 c4_i32_321
  let c0_i32_322 : BitVec 32 := 0#32
  let v454 : BitVec 32 := Scalar.addi v453 c0_i32_322
  let v455 : BitVec 1 := Scalar.cmpi .ne v454 v2
  let v456 : BitVec 32 := Scalar.extui v455
  let c0_i32_323 : BitVec 32 := 0#32
  let v457 : BitVec 1 := Scalar.cmpi .ne v456 c0_i32_323
  v457

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off41 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_321 : BitVec 32 := 4#32
  let v453 : BitVec 32 := Scalar.muli v350 c4_i32_321
  let c0_i32_322 : BitVec 32 := 0#32
  let v454 : BitVec 32 := Scalar.addi v453 c0_i32_322
  let c128_i32_945 : BitVec 32 := 128#32
  let v1337 : BitVec 32 := Scalar.muli v454 c128_i32_945
  ![0, v1337.toNat]
def k0_dev32 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_321 : BitVec 32 := 4#32
  let v453 : BitVec 32 := Scalar.muli v350 c4_i32_321
  let c0_i32_322 : BitVec 32 := 0#32
  let v454 : BitVec 32 := Scalar.addi v453 c0_i32_322
  let c1_i32_946 : BitVec 32 := 1#32
  let v1338 : BitVec 32 := Scalar.muli v454 c1_i32_946
  let v1339 : BitVec 32 := Scalar.addi c0_i32_947 v1338
  v1339.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_324 : BitVec 32 := 4#32
  let v458 : BitVec 32 := Scalar.muli v350 c4_i32_324
  let c1_i32_325 : BitVec 32 := 1#32
  let v459 : BitVec 32 := Scalar.addi v458 c1_i32_325
  let v460 : BitVec 1 := Scalar.cmpi .ne v459 v2
  let v461 : BitVec 32 := Scalar.extui v460
  let c0_i32_326 : BitVec 32 := 0#32
  let v462 : BitVec 1 := Scalar.cmpi .ne v461 c0_i32_326
  v462

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off44 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_324 : BitVec 32 := 4#32
  let v458 : BitVec 32 := Scalar.muli v350 c4_i32_324
  let c1_i32_325 : BitVec 32 := 1#32
  let v459 : BitVec 32 := Scalar.addi v458 c1_i32_325
  let c128_i32_945 : BitVec 32 := 128#32
  let v1337 : BitVec 32 := Scalar.muli v459 c128_i32_945
  ![0, v1337.toNat]
def k0_dev33 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_324 : BitVec 32 := 4#32
  let v458 : BitVec 32 := Scalar.muli v350 c4_i32_324
  let c1_i32_325 : BitVec 32 := 1#32
  let v459 : BitVec 32 := Scalar.addi v458 c1_i32_325
  let c1_i32_946 : BitVec 32 := 1#32
  let v1338 : BitVec 32 := Scalar.muli v459 c1_i32_946
  let v1339 : BitVec 32 := Scalar.addi c0_i32_947 v1338
  v1339.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_327 : BitVec 32 := 4#32
  let v463 : BitVec 32 := Scalar.muli v350 c4_i32_327
  let c2_i32_328 : BitVec 32 := 2#32
  let v464 : BitVec 32 := Scalar.addi v463 c2_i32_328
  let v465 : BitVec 1 := Scalar.cmpi .ne v464 v2
  let v466 : BitVec 32 := Scalar.extui v465
  let c0_i32_329 : BitVec 32 := 0#32
  let v467 : BitVec 1 := Scalar.cmpi .ne v466 c0_i32_329
  v467

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off47 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_327 : BitVec 32 := 4#32
  let v463 : BitVec 32 := Scalar.muli v350 c4_i32_327
  let c2_i32_328 : BitVec 32 := 2#32
  let v464 : BitVec 32 := Scalar.addi v463 c2_i32_328
  let c128_i32_945 : BitVec 32 := 128#32
  let v1337 : BitVec 32 := Scalar.muli v464 c128_i32_945
  ![0, v1337.toNat]
def k0_dev34 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_327 : BitVec 32 := 4#32
  let v463 : BitVec 32 := Scalar.muli v350 c4_i32_327
  let c2_i32_328 : BitVec 32 := 2#32
  let v464 : BitVec 32 := Scalar.addi v463 c2_i32_328
  let c1_i32_946 : BitVec 32 := 1#32
  let v1338 : BitVec 32 := Scalar.muli v464 c1_i32_946
  let v1339 : BitVec 32 := Scalar.addi c0_i32_947 v1338
  v1339.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_330 : BitVec 32 := 4#32
  let v468 : BitVec 32 := Scalar.muli v350 c4_i32_330
  let c3_i32_331 : BitVec 32 := 3#32
  let v469 : BitVec 32 := Scalar.addi v468 c3_i32_331
  let v470 : BitVec 1 := Scalar.cmpi .ne v469 v2
  let v471 : BitVec 32 := Scalar.extui v470
  let c0_i32_332 : BitVec 32 := 0#32
  let v472 : BitVec 1 := Scalar.cmpi .ne v471 c0_i32_332
  v472

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_948 : BitVec 32 := 0#32
  let c0_i32_949 : BitVec 32 := 0#32
  ![v2.toNat, 0, 0]
def k0_off50 (d0 : Dev nD) : Fin 2 → Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_330 : BitVec 32 := 4#32
  let v468 : BitVec 32 := Scalar.muli v350 c4_i32_330
  let c3_i32_331 : BitVec 32 := 3#32
  let v469 : BitVec 32 := Scalar.addi v468 c3_i32_331
  let c128_i32_945 : BitVec 32 := 128#32
  let v1337 : BitVec 32 := Scalar.muli v469 c128_i32_945
  ![0, v1337.toNat]
def k0_dev35 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_244 : BitVec 32 := 1#32
  let v339 : BitVec 32 := Scalar.addi v19 c1_i32_244
  let c3_i32_245 : BitVec 32 := 3#32
  let v340 : BitVec 32 := Scalar.addi v339 c3_i32_245
  let c4_i32_246 : BitVec 32 := 4#32
  let c0_i32_247 : BitVec 32 := 0#32
  let v341 : BitVec 1 := Scalar.cmpi .eq c4_i32_246 c0_i32_247
  let c1_i32_248 : BitVec 32 := 1#32
  let v342 : BitVec 32 := Scalar.select v341 c1_i32_248 c4_i32_246
  let v343 : BitVec 32 := Scalar.remsi v340 v342
  let c0_i32_250 : BitVec 32 := 0#32
  let v345 : BitVec 1 := Scalar.cmpi .slt v343 c0_i32_250
  let c0_i32_251 : BitVec 32 := 0#32
  let v346 : BitVec 1 := Scalar.cmpi .slt v342 c0_i32_251
  let v347 : BitVec 1 := Scalar.xori v345 v346
  let c0_i32_249 : BitVec 32 := 0#32
  let v344 : BitVec 1 := Scalar.cmpi .ne v343 c0_i32_249
  let v348 : BitVec 1 := Scalar.andi v347 v344
  let v349 : BitVec 32 := Scalar.addi v343 v342
  let v350 : BitVec 32 := Scalar.select v348 v349 v343
  let c4_i32_330 : BitVec 32 := 4#32
  let v468 : BitVec 32 := Scalar.muli v350 c4_i32_330
  let c3_i32_331 : BitVec 32 := 3#32
  let v469 : BitVec 32 := Scalar.addi v468 c3_i32_331
  let c1_i32_946 : BitVec 32 := 1#32
  let v1338 : BitVec 32 := Scalar.muli v469 c1_i32_946
  let v1339 : BitVec 32 := Scalar.addi c0_i32_947 v1338
  v1339.toNat
def k0_off51 (d0 : Dev nD) : Fin 2 → Nat :=
  let c0_333 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v473 : BitVec 32 := Scalar.muli v2 c128_i32
  let v474 : Index := Scalar.indexCast v473
  ![0, v474.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v476 : Index := Scalar.indexCast v2
  let c0_334 : Index := 0#32
  let c0_335 : Index := 0#32
  ![v476.toNat, 0, 0]
def k0_dev36 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_363 : BitVec 32 := 1#32
  let v509 : BitVec 32 := Scalar.addi v19 c1_i32_363
  let c4_i32_364 : BitVec 32 := 4#32
  let c0_i32_365 : BitVec 32 := 0#32
  let v510 : BitVec 1 := Scalar.cmpi .eq c4_i32_364 c0_i32_365
  let c1_i32_366 : BitVec 32 := 1#32
  let v511 : BitVec 32 := Scalar.select v510 c1_i32_366 c4_i32_364
  let v512 : BitVec 32 := Scalar.remsi v509 v511
  let c0_i32_368 : BitVec 32 := 0#32
  let v514 : BitVec 1 := Scalar.cmpi .slt v512 c0_i32_368
  let c0_i32_369 : BitVec 32 := 0#32
  let v515 : BitVec 1 := Scalar.cmpi .slt v511 c0_i32_369
  let v516 : BitVec 1 := Scalar.xori v514 v515
  let c0_i32_367 : BitVec 32 := 0#32
  let v513 : BitVec 1 := Scalar.cmpi .ne v512 c0_i32_367
  let v517 : BitVec 1 := Scalar.andi v516 v513
  let v518 : BitVec 32 := Scalar.addi v512 v511
  let v519 : BitVec 32 := Scalar.select v517 v518 v512
  let c4_i32_370 : BitVec 32 := 4#32
  let v520 : BitVec 32 := Scalar.muli v519 c4_i32_370
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v521 : BitVec 32 := Scalar.addi v520 v29
  let c1_i32_374 : BitVec 32 := 1#32
  let v522 : BitVec 32 := Scalar.muli v521 c1_i32_374
  let v523 : BitVec 32 := Scalar.addi c0_i32_375 v522
  v523.toNat
def k0_dev37 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_378 : BitVec 32 := 2#32
  let v530 : BitVec 32 := Scalar.addi v19 c2_i32_378
  let c4_i32_379 : BitVec 32 := 4#32
  let c0_i32_380 : BitVec 32 := 0#32
  let v531 : BitVec 1 := Scalar.cmpi .eq c4_i32_379 c0_i32_380
  let c1_i32_381 : BitVec 32 := 1#32
  let v532 : BitVec 32 := Scalar.select v531 c1_i32_381 c4_i32_379
  let v533 : BitVec 32 := Scalar.remsi v530 v532
  let c0_i32_383 : BitVec 32 := 0#32
  let v535 : BitVec 1 := Scalar.cmpi .slt v533 c0_i32_383
  let c0_i32_384 : BitVec 32 := 0#32
  let v536 : BitVec 1 := Scalar.cmpi .slt v532 c0_i32_384
  let v537 : BitVec 1 := Scalar.xori v535 v536
  let c0_i32_382 : BitVec 32 := 0#32
  let v534 : BitVec 1 := Scalar.cmpi .ne v533 c0_i32_382
  let v538 : BitVec 1 := Scalar.andi v537 v534
  let v539 : BitVec 32 := Scalar.addi v533 v532
  let v540 : BitVec 32 := Scalar.select v538 v539 v533
  let c4_i32_385 : BitVec 32 := 4#32
  let v541 : BitVec 32 := Scalar.muli v540 c4_i32_385
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v542 : BitVec 32 := Scalar.addi v541 v29
  let c1_i32_389 : BitVec 32 := 1#32
  let v543 : BitVec 32 := Scalar.muli v542 c1_i32_389
  let v544 : BitVec 32 := Scalar.addi c0_i32_390 v543
  v544.toNat
def k0_dev38 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_393 : BitVec 32 := 3#32
  let v551 : BitVec 32 := Scalar.addi v19 c3_i32_393
  let c4_i32_394 : BitVec 32 := 4#32
  let c0_i32_395 : BitVec 32 := 0#32
  let v552 : BitVec 1 := Scalar.cmpi .eq c4_i32_394 c0_i32_395
  let c1_i32_396 : BitVec 32 := 1#32
  let v553 : BitVec 32 := Scalar.select v552 c1_i32_396 c4_i32_394
  let v554 : BitVec 32 := Scalar.remsi v551 v553
  let c0_i32_398 : BitVec 32 := 0#32
  let v556 : BitVec 1 := Scalar.cmpi .slt v554 c0_i32_398
  let c0_i32_399 : BitVec 32 := 0#32
  let v557 : BitVec 1 := Scalar.cmpi .slt v553 c0_i32_399
  let v558 : BitVec 1 := Scalar.xori v556 v557
  let c0_i32_397 : BitVec 32 := 0#32
  let v555 : BitVec 1 := Scalar.cmpi .ne v554 c0_i32_397
  let v559 : BitVec 1 := Scalar.andi v558 v555
  let v560 : BitVec 32 := Scalar.addi v554 v553
  let v561 : BitVec 32 := Scalar.select v559 v560 v554
  let c4_i32_400 : BitVec 32 := 4#32
  let v562 : BitVec 32 := Scalar.muli v561 c4_i32_400
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v563 : BitVec 32 := Scalar.addi v562 v29
  let c1_i32_404 : BitVec 32 := 1#32
  let v564 : BitVec 32 := Scalar.muli v563 c1_i32_404
  let v565 : BitVec 32 := Scalar.addi c0_i32_405 v564
  v565.toNat
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v612 : BitVec 32 := Scalar.muli v2 c256_i32
  let c0_i32_438 : BitVec 32 := 0#32
  ![v612.toNat, 0]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_439 : BitVec 32 := 0#32
  let c0_i32_440 : BitVec 32 := 0#32
  ![v2.toNat, 0, 0]
def k0_off56 (d0 : Dev nD) (c1_i32_441 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v618 : BitVec 32 := Scalar.addi v2 c1_i32_441
  let c16_i32_442 : BitVec 32 := 16#32
  let c0_i32_443 : BitVec 32 := 0#32
  let v619 : BitVec 1 := Scalar.cmpi .eq c16_i32_442 c0_i32_443
  let c1_i32_444 : BitVec 32 := 1#32
  let v620 : BitVec 32 := Scalar.select v619 c1_i32_444 c16_i32_442
  let v621 : BitVec 32 := Scalar.remsi v618 v620
  let c0_i32_446 : BitVec 32 := 0#32
  let v623 : BitVec 1 := Scalar.cmpi .slt v621 c0_i32_446
  let c0_i32_447 : BitVec 32 := 0#32
  let v624 : BitVec 1 := Scalar.cmpi .slt v620 c0_i32_447
  let v625 : BitVec 1 := Scalar.xori v623 v624
  let c0_i32_445 : BitVec 32 := 0#32
  let v622 : BitVec 1 := Scalar.cmpi .ne v621 c0_i32_445
  let v626 : BitVec 1 := Scalar.andi v625 v622
  let v627 : BitVec 32 := Scalar.addi v621 v620
  let v628 : BitVec 32 := Scalar.select v626 v627 v621
  ![v628.toNat]
def k0_off57 (d0 : Dev nD) (c1_i32_441 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v618 : BitVec 32 := Scalar.addi v2 c1_i32_441
  let c16_i32_442 : BitVec 32 := 16#32
  let c0_i32_443 : BitVec 32 := 0#32
  let v619 : BitVec 1 := Scalar.cmpi .eq c16_i32_442 c0_i32_443
  let c1_i32_444 : BitVec 32 := 1#32
  let v620 : BitVec 32 := Scalar.select v619 c1_i32_444 c16_i32_442
  let v621 : BitVec 32 := Scalar.remsi v618 v620
  let c0_i32_446 : BitVec 32 := 0#32
  let v623 : BitVec 1 := Scalar.cmpi .slt v621 c0_i32_446
  let c0_i32_447 : BitVec 32 := 0#32
  let v624 : BitVec 1 := Scalar.cmpi .slt v620 c0_i32_447
  let v625 : BitVec 1 := Scalar.xori v623 v624
  let c0_i32_445 : BitVec 32 := 0#32
  let v622 : BitVec 1 := Scalar.cmpi .ne v621 c0_i32_445
  let v626 : BitVec 1 := Scalar.andi v625 v622
  let v627 : BitVec 32 := Scalar.addi v621 v620
  let v628 : BitVec 32 := Scalar.select v626 v627 v621
  let c0_i32_450 : BitVec 32 := 0#32
  let c0_i32_451 : BitVec 32 := 0#32
  ![v628.toNat, 0, 0]
def k0_off58 (d0 : Dev nD) (c1_i32_441 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v618 : BitVec 32 := Scalar.addi v2 c1_i32_441
  let c16_i32_442 : BitVec 32 := 16#32
  let c0_i32_443 : BitVec 32 := 0#32
  let v619 : BitVec 1 := Scalar.cmpi .eq c16_i32_442 c0_i32_443
  let c1_i32_444 : BitVec 32 := 1#32
  let v620 : BitVec 32 := Scalar.select v619 c1_i32_444 c16_i32_442
  let v621 : BitVec 32 := Scalar.remsi v618 v620
  let c0_i32_446 : BitVec 32 := 0#32
  let v623 : BitVec 1 := Scalar.cmpi .slt v621 c0_i32_446
  let c0_i32_447 : BitVec 32 := 0#32
  let v624 : BitVec 1 := Scalar.cmpi .slt v620 c0_i32_447
  let v625 : BitVec 1 := Scalar.xori v623 v624
  let c0_i32_445 : BitVec 32 := 0#32
  let v622 : BitVec 1 := Scalar.cmpi .ne v621 c0_i32_445
  let v626 : BitVec 1 := Scalar.andi v625 v622
  let v627 : BitVec 32 := Scalar.addi v621 v620
  let v628 : BitVec 32 := Scalar.select v626 v627 v621
  let v636 : Index := Scalar.indexCast v628
  let c0_454 : Index := 0#32
  let c0_455 : Index := 0#32
  ![v636.toNat, 0, 0]
def k0_off59 (d0 : Dev nD) (c1_i32_441 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v618 : BitVec 32 := Scalar.addi v2 c1_i32_441
  let c16_i32_442 : BitVec 32 := 16#32
  let c0_i32_443 : BitVec 32 := 0#32
  let v619 : BitVec 1 := Scalar.cmpi .eq c16_i32_442 c0_i32_443
  let c1_i32_444 : BitVec 32 := 1#32
  let v620 : BitVec 32 := Scalar.select v619 c1_i32_444 c16_i32_442
  let v621 : BitVec 32 := Scalar.remsi v618 v620
  let c0_i32_446 : BitVec 32 := 0#32
  let v623 : BitVec 1 := Scalar.cmpi .slt v621 c0_i32_446
  let c0_i32_447 : BitVec 32 := 0#32
  let v624 : BitVec 1 := Scalar.cmpi .slt v620 c0_i32_447
  let v625 : BitVec 1 := Scalar.xori v623 v624
  let c0_i32_445 : BitVec 32 := 0#32
  let v622 : BitVec 1 := Scalar.cmpi .ne v621 c0_i32_445
  let v626 : BitVec 1 := Scalar.andi v625 v622
  let v627 : BitVec 32 := Scalar.addi v621 v620
  let v628 : BitVec 32 := Scalar.select v626 v627 v621
  let c256_i32_458 : BitVec 32 := 256#32
  let v650 : BitVec 32 := Scalar.muli v628 c256_i32_458
  let c0_i32_459 : BitVec 32 := 0#32
  ![v650.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 18
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S1x1, .f32⟩
  | .hbm, ⟨17, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Holdings.lean ====
/-
# Memory operations and copies, stated on what a device holds of a memref

`owns c m q X` says that core `c` holds the elements of the memref `m` at share `q` and reads `X` through
it. This module restates the loads, the stores and the two kinds of copy (within a device, to another
device) in these terms, and relates a memref to its slices and to its squeezed form. Nothing here
depends on a particular kernel.
-/
module

public import Idealize.ShloMosaic.Lib.Memref
public import Idealize.ShloMosaic.Lib.MemrefSat
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Holdings

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-! ## Views that place the same elements -/

section Views
variable (c : Thread nD τ) {sp : Space} {s s' : Shape} {e : EltTy} (m : Memref sig c.2.kind sp s e) (q : PosShare TreeShare)

/-- A memref held at `X` is its squeezed form held at `X` along the matching of indices. -/
theorem owns_squeeze (h : s.Squeezes s') (X : s.Idx → Val e) :
    (owns c (m.squeeze s' h) q (fun j => X (Shape.reshapeEquiv h.numel_eq j)) : sProp 𝕄) = owns c m q X := by
  unfold owns
  have hset : (m.squeeze s' h).view.set = m.view.set := View.set_reshape _ _
  have hread (f : m.view.ty.Contents Val) :
      ((m.squeeze s' h).view.read Val f = fun j => X (Shape.reshapeEquiv h.numel_eq j)) ↔ m.view.read Val f = X := by
    constructor
    · intro hf; funext i
      have := congrFun hf ((Shape.reshapeEquiv h.numel_eq).symm i)
      simpa [View.read, Memref.squeeze, Memref.view] using this
    · intro hf; subst hf; rfl
  simp only [hread, hset]

/-- A slice of a slice held at `X` is the slice at the sum of the offsets held at `X`. -/
theorem owns_slice_slice {off off' off'' size size' : Fin s.rank → Nat} (p : ∀ a, off a + size a ≤ s.size a)
    (p' : ∀ a, off' a + size' a ≤ size a) (p'' : ∀ a, off'' a + size' a ≤ s.size a) (hoff : ∀ a, off'' a = off a + off' a)
    (h₁ : ∀ a, (Rect.unit (s := s) off size p).stride a = 1)
    (h₂ : ∀ a, (Rect.unit (s := (Rect.unit (s := s) off size p).shape) off' size' p').stride a = 1)
    (h₃ : ∀ a, (Rect.unit (s := s) off'' size' p'').stride a = 1) (X : (Rect.unit (s := s) off'' size' p'').shape.Idx → Val e) :
    (owns c ((m.slice (Rect.unit (s := s) off size p) h₁).slice (Rect.unit (s := (Rect.unit (s := s) off size p).shape) off' size' p') h₂) q X : sProp 𝕄)
      = owns c (m.slice (Rect.unit (s := s) off'' size' p'') h₃) q X := by
  have hidx (j : (Rect.unit (s := s) off'' size' p'').shape.Idx) :
      (Rect.unit (s := s) off size p).emb ((Rect.unit (s := (Rect.unit (s := s) off size p).shape) off' size' p').emb j)
        = (Rect.unit (s := s) off'' size' p'').emb j := by
    funext a; apply Fin.ext
    simp [Rect.emb, LoadRect.idx, Rect.unit, hoff a, Nat.add_assoc]
  have hemb (j : (Rect.unit (s := s) off'' size' p'').shape.Idx) :
      ((m.slice (Rect.unit (s := s) off size p) h₁).slice (Rect.unit (s := (Rect.unit (s := s) off size p).shape) off' size' p') h₂).view.emb j
      = (m.slice (Rect.unit (s := s) off'' size' p'') h₃).view.emb j := congrArg m.view.emb (hidx j)
  have hset : ((m.slice (Rect.unit (s := s) off size p) h₁).slice (Rect.unit (s := (Rect.unit (s := s) off size p).shape) off' size' p') h₂).view.set
      = (m.slice (Rect.unit (s := s) off'' size' p'') h₃).view.set :=
    congrArg (Finset.map · Finset.univ) (Function.Embedding.ext hemb)
  have hread (f : m.view.ty.Contents Val) :
      ((m.slice (Rect.unit (s := s) off size p) h₁).slice (Rect.unit (s := (Rect.unit (s := s) off size p).shape) off' size' p') h₂).view.read Val f
        = (m.slice (Rect.unit (s := s) off'' size' p'') h₃).view.read Val f := by
    funext j
    show _root_.cast _ (f (m.view.emb _)) = _root_.cast _ (f (m.view.emb _))
    rw [show (Rect.unit (s := s) off size p).emb ((Rect.unit (s := (Rect.unit (s := s) off size p).shape) off' size' p').emb j) = _ from hidx j]
  unfold owns
  simp only [hread, hset]

end Views

/-! ## Loads and stores -/

section Steps

variable [Preorder Lvl] {Λ : Labels} {defs : Defs nD τ sig Val Λ} (𝒱 : Variants) (c : Thread nD τ)
  (bd : Option 𝒱.V) {Γ : PendingWaitsCtx sig Ix} (E : Set Name)
variable {cs : CoreSpace} {s : Shape} {e : EltTy}
variable {α : Type} {Q : α → sProp (MT nD τ sig Ix Val Name U Lvl)}

/-- Loading a rectangle of a memref held at `X` gives `X` there. -/
theorem wp_load_part {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k fun j => X (r.emb j)) Q)
        -∗ wp frame (wpE' defs 𝒱 c bd Γ) E (.op (.load m r hl) k) Q) := by
  unfold owns
  iintro ⟨%f, %hf, H⟩ Hk
  subst hf
  iapply (wp_load_rect 𝒱 c bd E (m := m) (r := r) (f := f) (S := m.view.set) (View.set_slice_subset _ _)) $$ H
  iintro H
  iapply Hk
  iexists f
  isplitr; · ipureintro; rfl
  iexact H

/-- Loading a rectangle of a memref, the slice there held at `X`, gives `X`. -/
theorem wp_load_slice {m : Memref sig c.2.kind cs s e} {r : Rect s} {hr : ∀ a, r.stride a = 1} {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r hl) k) Q) := by
  unfold owns
  iintro ⟨%f, %hf, H⟩ Hk
  subst hf
  iapply (wp_load_rect 𝒱 c bd E (m := m) (r := r) (f := f) (S := (m.access r).set) subset_rfl) $$ H
  iintro H
  iapply Hk
  iexists f
  isplitr; · ipureintro; rfl
  iexact H

/-- Loading a rectangle of a memref, the slice there held squeezed at `X`, gives `X` along the matching of indices. -/
theorem wp_load_squeezed {m : Memref sig c.2.kind cs s e} {r : Rect s} {hr : ∀ a, r.stride a = 1} {hl : m.view.LoadsAt r}
    {s' : Shape} {h : r.shape.Squeezes s'}
    {k : (r.shape.Idx → Val e) → Prog (TpuEff nD τ sig Val Λ c.2) α} {q : PosShare TreeShare} {X : s'.Idx → Val e} :
    (owns c ((m.slice r hr).squeeze s' h) q X : sProp 𝕄)
      ⊢ iprop((owns c ((m.slice r hr).squeeze s' h) q X
          -∗ wp frame (wpE' defs 𝒱 c bd Γ) E (k fun j => X ((Shape.reshapeEquiv h.numel_eq).symm j)) Q)
        -∗ wp frame (wpE' defs 𝒱 c bd Γ) E (.op (.load m r hl) k) Q) := by
  have hX : (owns c ((m.slice r hr).squeeze s' h) q X : sProp 𝕄)
      = owns c (m.slice r hr) q (fun j => X ((Shape.reshapeEquiv h.numel_eq).symm j)) := by
    rw [← owns_squeeze c (m.slice r hr) q h]
    simp only [Equiv.symm_apply_apply]
  rw [hX]
  exact wp_load_slice 𝒱 c bd E

/-- Storing a whole rectangle of a memref, the slice there held at anything, leaves it held at what is stored. -/
theorem wp_store_slice {m : Memref sig c.2.kind cs s e} {r : Rect s} {hr : ∀ a, r.stride a = 1} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (f := f) (S := (m.access r).set) subset_rfl) $$ H
  iintro H
  iapply Hk
  iexists ((m.access r).write Val f w Finset.univ)
  isplitr; · ipureintro; exact View.read_write_univ _ _
  iexact H

/-- Storing a whole rectangle of a memref, the slice there held squeezed, leaves it held squeezed at what is stored. -/
theorem wp_store_squeezed {m : Memref sig c.2.kind cs s e} {r : Rect s} {hr : ∀ a, r.stride a = 1} {w : r.shape.Idx → Val e}
    {hx : (m.access r).Stores Finset.univ} {hm : (Finset.univ : Finset r.shape.Idx) = Finset.univ ∨ ∀ a, r.stride a = 1}
    {s' : Shape} {h : r.shape.Squeezes s'}
    {k : PUnit → Prog (TpuEff nD τ sig Val Λ c.2) α} {X : s'.Idx → Val e} :
    (owns c ((m.slice r hr).squeeze s' h) fullShare X : sProp 𝕄)
      ⊢ iprop((owns c ((m.slice r hr).squeeze s' h) fullShare (fun j => w (Shape.reshapeEquiv h.numel_eq j))
          -∗ wp frame (wpE' defs 𝒱 c bd Γ) E (k ⟨⟩) Q)
        -∗ wp frame (wpE' defs 𝒱 c bd Γ) E (.op (.store m r w Finset.univ hx hm) k) Q) := by
  have hX : (owns c ((m.slice r hr).squeeze s' h) fullShare X : sProp 𝕄)
      = owns c (m.slice r hr) fullShare (fun j => X ((Shape.reshapeEquiv h.numel_eq).symm j)) := by
    rw [← owns_squeeze c (m.slice r hr) fullShare h]
    simp only [Equiv.symm_apply_apply]
  rw [hX, owns_squeeze c (m.slice r hr) fullShare h]
  exact wp_store_slice 𝒱 c bd E

/-- Storing a whole memref leaves it held at what is stored. -/
theorem wp_store_whole {m : Memref sig c.2.kind cs s e} {w : s.Idx → Val e} {off : Fin s.rank → Nat} (hoff : off = fun _ => 0)
    {inb : ∀ a, off a + s.size a ≤ s.size a}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  subst hoff
  unfold owns
  have hemb (j : s.Idx) : (Rect.unit (fun _ => 0) s.size inb).emb j = j := by
    funext a; apply Fin.ext; simp [Rect.emb, LoadRect.idx, Rect.unit]
  iintro ⟨%f, %hf, H⟩ Hk
  iapply (wp_store 𝒱 c bd E (m := m) (r := Rect.unit (fun _ => 0) s.size inb) (f := f) (S := m.view.set) (View.set_slice_subset _ _)) $$ H
  iintro H
  iapply Hk
  iexists ((m.access (Rect.unit (fun _ => 0) s.size inb)).write Val f w Finset.univ)
  isplitr
  · ipureintro
    have h := View.read_write_univ (Val := Val) (v := m.access (Rect.unit (fun _ => 0) s.size inb)) f w
    funext j
    have hj := congrFun h j
    rw [← hj]
    unfold View.read
    simp only [Memref.access, Function.Embedding.trans_apply, hemb]
  iexact H

/-- Loading the whole of a memref held at `X` gives `X`. -/
theorem wp_load_whole {m : Memref sig c.2.kind cs s e} {off : Fin s.rank → Nat} (hoff : off = fun _ => 0)
    {inb : ∀ a, off a + s.size a ≤ s.size a} {hl : m.view.LoadsAt (Rect.unit off s.size inb)}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit off s.size inb) hl) k) Q) := by
  subst hoff
  have hemb : (fun j => X ((Rect.unit (fun _ => 0) s.size inb).emb j)) = X := by
    funext j; congr 1; funext a; apply Fin.ext; simp [Rect.emb, LoadRect.idx, Rect.unit]
  have h := wp_load_part (defs := defs) (Γ := Γ) (Q := Q) 𝒱 c bd E (m := m) (r := Rect.unit (fun _ => 0) s.size inb) (hl := hl) (k := k) (q := q) (X := X)
  rw [hemb] at h
  exact h

end Steps

/-! ## Copies under a schedule of duties -/

section Copies

variable [Preorder Lvl] {Λ : Labels} {defs : Defs nD τ sig Val Λ} (𝒱 : Variants)
variable {D : Type} [DecidableEq D] (E : Emb (Rounds.URounds (GSem nD τ sig) D) (MT nD τ sig Ix Val Name U Lvl))
  (Rd : Rounds.Schedule (GSem nD τ sig) D (MT nD τ sig Ix Val Name U Lvl))
variable [∀ g r d, Storable (upEmb : UEmb _ (MT nD τ sig Ix Val Name U Lvl)) (Rd.payload g r d)]
variable (c : Thread nD τ) (bd : Option 𝒱.V) {Γ : PendingWaitsCtx sig Ix}
variable {sp sp' : Space} {s : Shape} {e : EltTy}
variable {α : Type} {Q : α → sProp (MT nD τ sig Ix Val Name U Lvl)}

/-- A copy within a core, paying a duty of the cell it credits: the source held at `X` (any share) and the destination
    held whole go in, credit on the cell comes out; the duty's payload is the destination and the source, both at `X`. -/
theorem wp_copy_owns {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {q : PosShare TreeShare} {X Y : s.Idx → Val e} {r : ℕ} {d : D}
    {κ : Name} (hd : d ∈ Rd.duties (c, sem) r) (ι : Ix) (N : ℕ)
    (hN : dst.view.amount sem = N) (hk : Rd.amount (c, sem) r d = N)
    (hpay : iprop(owns c dst fullShare X ∗ owns c src q X) ⊢ Rd.payload (c, sem) r d) {Es : Set Name} :
    iprop(Rounds.cellInv E Rd κ (c, sem) ∗ owns c src q X ∗ owns c dst fullShare Y
        ∗ Rounds.dutyTok E (c, sem) r d ∗ Rounds.reached E (c, sem) r)
      ⊢ iprop((cred (tallyAt (c, sem) ι N) -∗ wp frame (wpE' defs 𝒱 c bd Γ) Es (k ⟨⟩) Q)
          -∗ wp frame (wpE' defs 𝒱 c bd Γ) Es (.op (.enqueueDma src (.here dst) sem hsrc hdst hsem) k) Q) := by
  have h (f fs) (hf : src.view.read Val fs = X) :
      iprop((dst.view.loc c ↦[dst.view.set]{fullShare} (dst.view.write Val f (src.view.read Val fs) Finset.univ)) ∗ (src.view.loc c ↦[src.view.set]{q} fs))
        ⊢ Rd.payload (c, sem) r d := by
    refine BIBase.Entails.trans ?_ hpay
    unfold owns
    iintro ⟨Hd, Hs⟩
    isplitl [Hd]
    · iexists _
      isplitr
      · ipureintro; exact (View.read_write_univ (v := dst.view) f _).trans hf
      iexact Hd
    · iexists fs
      isplitr; · ipureintro; exact hf
      iexact Hs
  unfold owns
  iintro ⟨Hg, ⟨%fs, %hs, Hs⟩, ⟨%fd, -, Hd⟩, Ht, Hr⟩ Hk
  iapply (Rounds.wp_copy_pointsTo 𝒱 E Rd c bd (fs := fs) (fd := fd) hd ι N hN hk (h fd fs hs)) $$ [Hg Hs Hd Ht Hr]
  · isplitl [Hg]; · iexact Hg
    isplitl [Hs]; · iexact Hs
    isplitl [Hd]; · iexact Hd
    isplitl [Ht] <;> iassumption
  iexact Hk

/-- A copy to another core, paying a duty of the sender's own cell (whose payload is the source back) and a duty of the
    receiver's cell (whose payload is the destination holding what the source held). -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X Y : s.Idx → Val e} {r₁ r₂ : ℕ} {d₁ d₂ : D}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : owns c src q X ⊢ Rd.payload (c, sS) r₁ d₁)
    (hpay₂ : owns c' dst fullShare X ⊢ Rd.payload (c', sem) r₂ d₂) {Es : Set Name} (hr : τ.routes c c' = true := by routes) :
    iprop(Rounds.cellInv E Rd κ₁ (c, sS) ∗ Rounds.cellInv E Rd κ₂ (c', sem)
        ∗ owns c src q X ∗ owns c' dst fullShare Y
        ∗ owes c O₀ W
        ∗ Rounds.dutyTok E (c, sS) r₁ d₁ ∗ Rounds.reached E (c, sS) r₁
        ∗ Rounds.dutyTok E (c', sem) r₂ d₂ ∗ Rounds.reached E (c', sem) r₂)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  have h₁ (f) (hf : src.view.read Val f = X) : (src.view.loc c ↦[src.view.set]{q} f) ⊢ Rd.payload (c, sS) r₁ d₁ := by
    refine BIBase.Entails.trans ?_ hpay₁
    unfold owns
    iintro H
    iexists f
    isplitr; · ipureintro; exact hf
    iexact H
  have h₂ (f fs) (hf : src.view.read Val fs = X) :
      (dst.view.loc c' ↦[dst.view.set]{fullShare} (dst.view.write Val f (src.view.read Val fs) Finset.univ)) ⊢ Rd.payload (c', sem) r₂ d₂ := by
    refine BIBase.Entails.trans ?_ hpay₂
    unfold owns
    iintro H
    iexists _
    isplitr
    · ipureintro; exact (View.read_write_univ (v := dst.view) f _).trans hf
    iexact H
  unfold owns
  iintro ⟨Hg, Hg', ⟨%fs, %hs, Hs⟩, ⟨%fd, -, Hd⟩, HO, Ht, Hr, Ht', Hr'⟩ Hk
  iapply (Rounds.wp_send_pointsTo 𝒱 E Rd c bd (fs := fs) (fd := fd) hd₁ hd₂ ι ι' N hN hk₁ hk₂ O hO (h₁ fs hs) (h₂ fd fs hs) (hr := hr))
    $$ [Hg Hg' Hs Hd HO Ht Hr Ht' Hr']
  · isplitl [Hg]; · iexact Hg
    isplitl [Hg']; · iexact Hg'
    isplitl [Hs]; · iexact Hs
    isplitl [Hd]; · iexact Hd
    isplitl [HO]; · iexact HO
    isplitl [Ht]; · iexact Ht
    isplitl [Hr]; · iexact Hr
    isplitl [Ht'] <;> iassumption
  iexact Hk

end Copies

/-! ## A shape cut into equal blocks along one axis -/

section Blocks

variable {s : Shape} {T : Type} [Fintype T] {off : T → Fin s.rank → Nat} {size : Fin s.rank → Nat}
  (p : ∀ t a, off t a + size a ≤ s.size a) (a₀ : Fin s.rank) (w : ℕ) (g : T → ℕ)

omit [Fintype T] in
/-- Blocks at different places along an axis do not meet. -/
theorem blocks_disjoint (hw : size a₀ = w) (hoff : ∀ t, off t a₀ = g t * w) (hg : Function.Injective g) (t t' : T) (h : t ≠ t') :
    Disjoint (Rect.unit (s := s) (off t) size (p t)).set (Rect.unit (s := s) (off t') size (p t')).set := by
  rw [Finset.disjoint_left]
  intro i hi hi'
  have h1 := Rect.mem_set_unit.mp hi a₀
  have h2 := Rect.mem_set_unit.mp hi' a₀
  rw [hoff, hw] at h1 h2
  apply h
  apply hg
  have e1 : (i a₀ : ℕ) / w = g t := Nat.div_eq_of_lt_le h1.1 (by rw [Nat.add_mul]; omega)
  have e2 : (i a₀ : ℕ) / w = g t' := Nat.div_eq_of_lt_le h2.1 (by rw [Nat.add_mul]; omega)
  omega

/-- Blocks at every place along an axis, whole along the others, cover the shape. -/
theorem blocks_cover (hw : size a₀ = w) (hw0 : 0 < w) (hoff : ∀ t, off t a₀ = g t * w) (n : ℕ) (hn : s.size a₀ = n * w)
    (hg : ∀ j < n, ∃ t, g t = j)
    (hrest : ∀ t a, a ≠ a₀ → off t a = 0 ∧ size a = s.size a) :
    (Finset.univ : Finset T).biUnion (fun t => (Rect.unit (s := s) (off t) size (p t)).set) = Finset.univ := by
  rw [Finset.eq_univ_iff_forall]
  intro i
  have hlt : (i a₀ : ℕ) / w < n := Nat.div_lt_of_lt_mul (by rw [Nat.mul_comm, ← hn]; exact (i a₀).isLt)
  obtain ⟨t, ht⟩ := hg _ hlt
  refine Finset.mem_biUnion.mpr ⟨t, Finset.mem_univ _, Rect.mem_set_unit.mpr fun a => ?_⟩
  by_cases h : a = a₀
  · subst h
    rw [hoff, ht, hw]
    exact ⟨Nat.div_mul_le_self _ _, Nat.lt_div_mul_add hw0⟩
  · obtain ⟨h1, h2⟩ := hrest t a h
    rw [h1, h2]
    exact ⟨Nat.zero_le _, by rw [Nat.zero_add]; exact (i a).isLt⟩

end Blocks

/-! ## Contents given by blocks -/

section Glue

variable {s : Shape} {T V : Type} [Fintype T] [DecidableEq T] (r : T → Rect s)
  (hcov : (Finset.univ : Finset T).biUnion (fun t => (r t).set) = Finset.univ)

include hcov in
theorem exists_block (i : s.Idx) : ∃ x : (t : T) × (r t).shape.Idx, (r x.1).emb x.2 = i := by
  obtain ⟨t, -, hx⟩ := Finset.mem_biUnion.mp (hcov.symm ▸ Finset.mem_univ i)
  rw [← Rect.map_emb_univ, Finset.mem_map] at hx
  obtain ⟨j, -, hj⟩ := hx
  exact ⟨⟨t, j⟩, hj⟩

/-- The contents of a shape whose block `t` reads `G t`. -/
def glue (G : ∀ t, (r t).shape.Idx → V) : s.Idx → V :=
  fun i => G (exists_block r hcov i).choose.1 (exists_block r hcov i).choose.2

theorem glue_emb (hd : ∀ t t', t ≠ t' → Disjoint (r t).set (r t').set) (G : ∀ t, (r t).shape.Idx → V) (t : T) (j : (r t).shape.Idx) :
    glue r hcov G ((r t).emb j) = G t j := by
  unfold glue
  generalize hx : (exists_block r hcov ((r t).emb j)).choose = x
  have hh : (r x.1).emb x.2 = (r t).emb j := hx ▸ (exists_block r hcov ((r t).emb j)).choose_spec
  obtain ⟨t', j'⟩ := x
  have htt : t' = t := by
    by_contra hne
    have h1 : (r t).emb j ∈ (r t).set := (r t).map_emb_univ ▸ Finset.mem_map_of_mem _ (Finset.mem_univ j)
    have h2 : (r t').emb j' ∈ (r t').set := (r t').map_emb_univ ▸ Finset.mem_map_of_mem _ (Finset.mem_univ j')
    rw [show (r t').emb j' = (r t).emb j from hh] at h2
    exact Finset.disjoint_left.mp (hd _ _ hne) h2 h1
  subst htt
  rw [(r t').emb.injective hh]

end Glue

/-- Slices of a disjoint covering family held at `G` are the memref held at the contents they make up. -/
theorem owns_glue (c : Thread nD τ) {sp : Space} {s : Shape} {e : EltTy} (m : Memref sig c.2.kind sp s e) (q : PosShare TreeShare)
    {T : Type} [Fintype T] [DecidableEq T] (r : T → Rect s) (hr : ∀ t a, (r t).stride a = 1)
    (hd : ∀ t t', t ≠ t' → Disjoint (r t).set (r t').set)
    (hcov : (Finset.univ : Finset T).biUnion (fun t => (r t).set) = Finset.univ) [∀ e, Nonempty (Val e)]
    (G : ∀ t, (r t).shape.Idx → Val e) :
    (BI.bigSep Finset.univ fun t => owns c (m.slice (r t) (hr t)) q (G t)) ⊢ (owns c m q (glue r hcov G) : sProp 𝕄) := by
  have h : (fun t => (owns c (m.slice (r t) (hr t)) q (G t) : sProp 𝕄))
      = fun t => owns c (m.slice (r t) (hr t)) q (fun j => glue r hcov G ((r t).emb j)) :=
    funext fun t => congrArg (owns c (m.slice (r t) (hr t)) q) (funext fun j => (glue_emb r hcov hd G t j).symm)
  rw [h]
  exact owns_of_rects c m q r hr hd hcov _

/-! ## Holding a memref at contents one does not name -/

section Some

variable (c : Thread nD τ) {sp : Space} {s : Shape} {e : EltTy} (m : Memref sig c.2.kind sp s e)

/-- Core `c` holds the memref's elements whole, at some contents. -/
def ownsSome : sProp 𝕄 := iprop(∃ X, owns c m fullShare X)

instance ownsSome_storable : BI.Storable (upEmb : UEmb _ 𝕄) (ownsSome c m : sProp 𝕄) := by unfold ownsSome; infer_instance

theorem ownsSome_intro (X : s.Idx → Val e) : (owns c m fullShare X : sProp 𝕄) ⊢ ownsSome c m := by
  unfold ownsSome; iintro H; iexists X; iexact H

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A memref held at some contents is each slice of a disjoint covering family held at some contents, -/
theorem ownsSome_rects : (ownsSome c m : sProp 𝕄) ⊢ BI.bigSep Finset.univ fun t => ownsSome c (m.slice (r t) (hr t)) := by
  unfold ownsSome
  iintro ⟨%X, H⟩
  ihave H := (owns_rects c m fullShare r hr hd hcov X) $$ H
  iapply (show (BI.bigSep Finset.univ fun t => owns c (m.slice (r t) (hr t)) fullShare (fun j => X ((r t).emb j)))
      ⊢ BI.bigSep Finset.univ fun t => ownsSome c (m.slice (r t) (hr t)) from
    BI.bigSep_mono fun t _ => ownsSome_intro c (m.slice (r t) (hr t)) (fun j => X ((r t).emb j)))
  iexact H

/-- and back. -/
theorem ownsSome_of_rects [∀ e, Nonempty (Val e)] :
    (BI.bigSep Finset.univ fun t => ownsSome c (m.slice (r t) (hr t))) ⊢ (ownsSome c m : sProp 𝕄) := by
  refine (BI.bigSep_exists_pi Finset.univ (fun t (X : (r t).shape.Idx → Val e) => owns c (m.slice (r t) (hr t)) fullShare X)).trans ?_
  unfold ownsSome
  iintro ⟨%G, H⟩
  iexists (glue r hcov G)
  iapply (owns_glue c m fullShare r hr hd hcov G)
  iexact H

end Some

/-! ## A numbered family, taken one by one -/

section Pend

variable {M : Type} [URA M] {n : ℕ} (Φ : Fin n → sProp M)

/-- The members of a numbered family from number `i` on. -/
def pend (i : ℕ) : sProp M := BI.bigSep (Finset.univ.filter fun t : Fin n => i ≤ t.val) Φ
/-- The members of a numbered family before number `i`. -/
def past (i : ℕ) : sProp M := BI.bigSep (Finset.univ.filter fun t : Fin n => t.val < i) Φ

theorem pend_zero : pend Φ 0 = BI.bigSep Finset.univ Φ := by
  unfold pend; congr 1; ext t; simp
theorem pend_pop {i : ℕ} (h : i < n) : pend Φ i = iprop(Φ ⟨i, h⟩ ∗ pend Φ (i + 1)) := by
  unfold pend
  rw [show (Finset.univ.filter fun t : Fin n => i ≤ t.val) = insert ⟨i, h⟩ (Finset.univ.filter fun t : Fin n => i + 1 ≤ t.val) by
    ext t; simp only [Finset.mem_filter, Finset.mem_univ, true_and, Finset.mem_insert, Fin.ext_iff]; omega]
  exact BI.bigSep_insert (by simp)
theorem pend_end : pend Φ n = (iprop(emp) : sProp M) := by
  unfold pend
  rw [show (Finset.univ.filter fun t : Fin n => n ≤ t.val) = ∅ by ext t; simp]
  exact BI.bigSep_empty
theorem past_zero : past Φ 0 = (iprop(emp) : sProp M) := by
  unfold past
  rw [show (Finset.univ.filter fun t : Fin n => t.val < 0) = ∅ by ext t; simp]
  exact BI.bigSep_empty
theorem past_push {i : ℕ} (h : i < n) : past Φ (i + 1) = iprop(Φ ⟨i, h⟩ ∗ past Φ i) := by
  unfold past
  rw [show (Finset.univ.filter fun t : Fin n => t.val < i + 1) = insert ⟨i, h⟩ (Finset.univ.filter fun t : Fin n => t.val < i) by
    ext t; simp only [Finset.mem_filter, Finset.mem_univ, true_and, Finset.mem_insert, Fin.ext_iff]; omega]
  exact BI.bigSep_insert (by simp)
theorem past_end : past Φ n = BI.bigSep Finset.univ Φ := by
  unfold past; congr 1; ext t; simp

end Pend

end Cert.Holdings
-- ==== Proof.KernelIdeal.Protocol.lean ====
/-
# The protocol of the matmul / all-to-all / quantise kernel, and the contents its transfers carry

Sixteen devices. Device `c` holds a block of rows `x_c`, and all of `W`. It computes `relu (x_c W)` in four column chunks,
sends the column tile `p` to device `p`, takes the maximum over all devices in two hops of three partners each, and then
quantises the sixteen tiles it received, one row block of the result each.

Every semaphore is a cell of the rounds library. Cells are named by `Kind`:

* `bar`: the barrier. Every device signals every device once; the signal of `d` to `c` hands `c` the right to write what
  `c` will write on `d`: the landing slot `c` of `d`, and the slots of the two maximum exchanges `c` fills on `d`.
* `w k`: the two staging slots of `W`, two rounds each. A landing hands over the slot and the column chunk back.
* `ts`: the send semaphore of the tiles, fifteen duties, one per destination; each hands the sent tile back.
* `tr d`: the arrival of the tile of device `d`.
* `a1s j`, `a1r j`, `a2s j`, `a2r j`: the sends and arrivals of the two maximum exchanges.
* `out d`: the copy of row block `d` of the result.
-/
module

public import proofs.«01_k».proof.Proof.Holdings
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who talks to whom -/

section Places
set_option backward.proofsInPublic true

/-- The column chunk device `c` computes at step `k`. -/
def chunk (c : Dev nD) (k : Fin 4) : Fin 4 := ⟨(c.val / 4 + 1 + k.val) % 4, Nat.mod_lt _ (by decide)⟩
/-- The destination of the tile device `c` treats at number `i`. -/
def dest (c : Dev nD) (i : Fin 16) : Dev nD :=
  ⟨((c.val / 4 + 1 + i.val / 4) % 4) * 4 + i.val % 4, by have h : (c.val / 4 + 1 + i.val / 4) % 4 < 4 := Nat.mod_lt _ (by decide); have h' : i.val % 4 < 4 := Nat.mod_lt _ (by decide); show _ < 16; omega⟩
/-- The device whose slot `j` of the first maximum exchange `c` fills: a neighbour in its group of four. -/
def to1 (c : Dev nD) (j : Fin 3) : Dev nD :=
  ⟨(c.val / 4) * 4 + (c.val % 4 + 1 + j.val) % 4, by have h : (c.val % 4 + 1 + j.val) % 4 < 4 := Nat.mod_lt _ (by decide); have := c.isLt; have h2 : c.val < 16 := this; show _ < 16; omega⟩
/-- The device that fills slot `j` of the first exchange of `c`. -/
def from1 (c : Dev nD) (j : Fin 3) : Dev nD :=
  ⟨(c.val / 4) * 4 + (c.val % 4 + 3 - j.val) % 4, by have h : (c.val % 4 + 3 - j.val) % 4 < 4 := Nat.mod_lt _ (by decide); have := c.isLt; have h2 : c.val < 16 := this; show _ < 16; omega⟩
/-- The device whose slot `j` of the second maximum exchange `c` fills: the same place in another group. -/
def to2 (c : Dev nD) (j : Fin 3) : Dev nD :=
  ⟨((c.val / 4 + 1 + j.val) % 4) * 4 + c.val % 4, by have h : (c.val / 4 + 1 + j.val) % 4 < 4 := Nat.mod_lt _ (by decide); have h' : c.val % 4 < 4 := Nat.mod_lt _ (by decide); show _ < 16; omega⟩
/-- The device that fills slot `j` of the second exchange of `c`. -/
def from2 (c : Dev nD) (j : Fin 3) : Dev nD :=
  ⟨((c.val / 4 + 3 - j.val) % 4) * 4 + c.val % 4, by have h : (c.val / 4 + 3 - j.val) % 4 < 4 := Nat.mod_lt _ (by decide); have h' : c.val % 4 < 4 := Nat.mod_lt _ (by decide); show _ < 16; omega⟩
/-- The device whose tile device `c` treats at number `s`: itself first, then the following ones. -/
def nth (c : Dev nD) (s : Fin 16) : Dev nD := ⟨(c.val + s.val) % 16, Nat.mod_lt _ (by decide)⟩

/-- The one duty name of a cell that has one duty. -/
def one : Dev nD := ⟨0, by decide⟩

end Places

theorem from1_to1 : ∀ (c : Dev nD) (j : Fin 3), from1 (to1 c j) j = c := by decide +kernel
theorem to1_from1 : ∀ (c : Dev nD) (j : Fin 3), to1 (from1 c j) j = c := by decide +kernel
theorem from2_to2 : ∀ (c : Dev nD) (j : Fin 3), from2 (to2 c j) j = c := by decide +kernel
theorem to2_from2 : ∀ (c : Dev nD) (j : Fin 3), to2 (from2 c j) j = c := by decide +kernel
theorem dest_bij : ∀ c : Dev nD, Function.Bijective (dest c) := by
  intro c; rw [Fintype.bijective_iff_injective_and_card]; exact ⟨by revert c; decide +kernel, rfl⟩
theorem nth_bij : ∀ c : Dev nD, Function.Bijective (nth c) := by
  intro c; rw [Fintype.bijective_iff_injective_and_card]; exact ⟨by revert c; decide +kernel, rfl⟩
theorem nth_zero : ∀ c : Dev nD, nth c 0 = c := by decide +kernel
theorem nth_ne : ∀ (c : Dev nD) (s : Fin 16), s ≠ 0 → nth c s ≠ c := by decide +kernel

/-! ## The memrefs -/

abbrev xM : Memref sig .tc .vmem S256x4096 .f32 := Memref.whole cc0_stg0_0
abbrev wM : Memref sig .tc .hbm S4096x2048 .f32 := Memref.whole main_arg1
abbrev oM : Memref sig .tc .hbm S4096x128 .f32 := Memref.whole main_v1
abbrev bufM : Memref sig .tc .vmem S2x4096x512 .f32 := Memref.whole cc0_scratch0
abbrev ysM : Memref sig .tc .vmem S256x2048 .bf16 := Memref.whole cc0_scratch1
abbrev rvM : Memref sig .tc .vmem S16x256x128 .bf16 := Memref.whole cc0_scratch2
abbrev qsM : Memref sig .tc .vmem S16x256x128 .f32 := Memref.whole cc0_scratch3
abbrev m1M : Memref sig .tc .vmem S8x128 .f32 := Memref.whole cc0_scratch4
abbrev r1M : Memref sig .tc .vmem S3x8x128 .f32 := Memref.whole cc0_scratch5
abbrev m2M : Memref sig .tc .vmem S8x128 .f32 := Memref.whole cc0_scratch6
abbrev r2M : Memref sig .tc .vmem S3x8x128 .f32 := Memref.whole cc0_scratch7

theorem p_buf : ∀ (k : Fin 2) a, (![k.val, 0, 0] : Fin 3 → Nat) a + S1x4096x512.size a ≤ S2x4096x512.size a := by decide +kernel
theorem p_wcol : ∀ (j : Fin 4) a, (![0, 512 * j.val] : Fin 2 → Nat) a + S4096x512.size a ≤ S4096x2048.size a := by decide +kernel
theorem p_ycol : ∀ (j : Fin 4) a, (![0, 512 * j.val] : Fin 2 → Nat) a + S256x512.size a ≤ S256x2048.size a := by decide +kernel
theorem p_ytile : ∀ (p : Fin 16) a, (![0, 128 * p.val] : Fin 2 → Nat) a + S256x128.size a ≤ S256x2048.size a := by decide +kernel
theorem p_sub : ∀ (b : Fin 4) a, (![0, 128 * b.val] : Fin 2 → Nat) a + S256x128.size a ≤ S256x512.size a := by decide +kernel
theorem p_slot : ∀ (d : Fin 16) a, (![d.val, 0, 0] : Fin 3 → Nat) a + S1x256x128.size a ≤ S16x256x128.size a := by decide +kernel
theorem p_orow : ∀ (d : Fin 16) a, (![256 * d.val, 0] : Fin 2 → Nat) a + S256x128.size a ≤ S4096x128.size a := by decide +kernel
theorem p_am : ∀ (j : Fin 3) a, (![j.val, 0, 0] : Fin 3 → Nat) a + S1x8x128.size a ≤ S3x8x128.size a := by decide +kernel

abbrev bufR (k : Fin 2) : Rect S2x4096x512 := Rect.unit (s := S2x4096x512) ![k.val, 0, 0] S1x4096x512.size (p_buf k)
abbrev wcolR (j : Fin 4) : Rect S4096x2048 := Rect.unit (s := S4096x2048) ![0, 512 * j.val] S4096x512.size (p_wcol j)
abbrev ycolR (j : Fin 4) : Rect S256x2048 := Rect.unit (s := S256x2048) ![0, 512 * j.val] S256x512.size (p_ycol j)
abbrev ytileR (p : Fin 16) : Rect S256x2048 := Rect.unit (s := S256x2048) ![0, 128 * p.val] S256x128.size (p_ytile p)
abbrev subR (b : Fin 4) : Rect S256x512 := Rect.unit (s := S256x512) ![0, 128 * b.val] S256x128.size (p_sub b)
abbrev slotR (d : Fin 16) : Rect S16x256x128 := Rect.unit (s := S16x256x128) ![d.val, 0, 0] S1x256x128.size (p_slot d)
abbrev orowR (d : Fin 16) : Rect S4096x128 := Rect.unit (s := S4096x128) ![256 * d.val, 0] S256x128.size (p_orow d)
abbrev amR (j : Fin 3) : Rect S3x8x128 := Rect.unit (s := S3x8x128) ![j.val, 0, 0] S1x8x128.size (p_am j)

/-- Staging slot `k` of `W`. -/
abbrev wslot (k : Fin 2) : Memref sig .tc .vmem S4096x512 .f32 := (bufM.slice (bufR k) (fun _ => rfl)).squeeze S4096x512 squeezes_S1x4096x512_S4096x512
/-- Column chunk `j` of `W`. -/
abbrev wcol (j : Fin 4) : Memref sig .tc .hbm S4096x512 .f32 := wM.slice (wcolR j) (fun _ => rfl)
/-- Column chunk `j` of the product. -/
abbrev ycol (j : Fin 4) : Memref sig .tc .vmem S256x512 .bf16 := ysM.slice (ycolR j) (fun _ => rfl)
/-- Column tile `p` of the product. -/
abbrev ytile (p : Fin 16) : Memref sig .tc .vmem S256x128 .bf16 := ysM.slice (ytileR p) (fun _ => rfl)
/-- Landing slot `d`. -/
abbrev rslot (d : Fin 16) : Memref sig .tc .vmem S256x128 .bf16 := (rvM.slice (slotR d) (fun _ => rfl)).squeeze S256x128 squeezes_S1x256x128_S256x128
/-- Result staging slot `d`. -/
abbrev qslot (d : Fin 16) : Memref sig .tc .vmem S256x128 .f32 := (qsM.slice (slotR d) (fun _ => rfl)).squeeze S256x128 squeezes_S1x256x128_S256x128
/-- Row block `d` of the result. -/
abbrev orow (d : Fin 16) : Memref sig .tc .hbm S256x128 .f32 := oM.slice (orowR d) (fun _ => rfl)
/-- Slot `j` of the first maximum exchange. -/
abbrev r1slot (j : Fin 3) : Memref sig .tc .vmem S8x128 .f32 := (r1M.slice (amR j) (fun _ => rfl)).squeeze S8x128 squeezes_S1x8x128_S8x128
/-- Slot `j` of the second maximum exchange. -/
abbrev r2slot (j : Fin 3) : Memref sig .tc .vmem S8x128 .f32 := (r2M.slice (amR j) (fun _ => rfl)).squeeze S8x128 squeezes_S1x8x128_S8x128

/-! ## The contents -/

/-- A slot's contents as the slice they were read through: one unit axis more. -/
def wide {s s' : Shape} {e : EltTy} (h : s.Squeezes s') (X : s'.Idx → Elt F e) : s.Idx → Elt F e :=
  fun j => X ((Shape.reshapeEquiv h.numel_eq).symm j)
/-- A slice's contents as its slot holds them: the unit axis dropped. -/
def flat {s s' : Shape} {e : EltTy} (h : s.Squeezes s') (X : s.Idx → Elt F e) : s'.Idx → Elt F e :=
  fun j => X (Shape.reshapeEquiv h.numel_eq j)

/-- What device `c` is given of the left operand. -/
def xstg (c : Dev nD) : (cc0_stg0_0 : Ref sig .tc).ty.Contents (Elt F) :=
  (win0_0.blk (0 : Fin 1)).view.read (Elt F) ((s₀ m ρ).mem ((c : Thread nD τ).loc main_arg0))
/-- The left operand in the product's format. -/
def xb (c : Dev nD) : FVec F S256x4096 .bf16 := k0_pay1 (xstg m ρ c)
/-- Column chunk `j` of `W` on device `c`. -/
def wch (c : Dev nD) (j : Fin 4) : S4096x512.Idx → Elt F .f32 :=
  (wcol j).view.read (Elt F) ((s₀ m ρ).mem ((c : Thread nD τ).loc main_arg1))
/-- The same, as the kernel loads it from its staging slot. -/
def wld (c : Dev nD) (j : Fin 4) : Vec F S1x4096x512 .f32 := wide squeezes_S1x4096x512_S4096x512 (wch m ρ c j)
/-- Column chunk `j` of the rectified product of device `c`. -/
def ych (c : Dev nD) (j : Fin 4) : Vec F S256x512 .bf16 := k0_pay8 (xb m ρ c) (wld m ρ c j)
/-- Column tile `p` of it. -/
def tile (c : Dev nD) (p : Fin 16) : Vec F S256x128 .bf16 :=
  fun i => ych m ρ c ⟨p.val / 4, by have := p.isLt; omega⟩ ((subR ⟨p.val % 4, Nat.mod_lt _ (by decide)⟩).emb i)

/-- The running maximum after steps 0, 1 and 2. -/
def am0 (c : Dev nD) : F .f32 := k0_pay4 (k0_pay3 (xb m ρ c) (wld m ρ c (chunk c 0))) (Scalar.ofBits .f32 0x00000000#32)
def am1 (c : Dev nD) : F .f32 := k0_pay7 (xb m ρ c) (am0 m ρ c) (wld m ρ c (chunk c 1))
def am2 (c : Dev nD) : F .f32 := k0_pay10 (xb m ρ c) (am1 m ρ c) (wld m ρ c (chunk c 2))
/-- The maximum of device `c`'s product. -/
def am3 (c : Dev nD) : F .f32 := k0_pay13 (xb m ρ c) (am2 m ρ c) (wld m ρ c (chunk c 3))
/-- The message of the first exchange: that maximum everywhere. -/
def msg1 (c : Dev nD) : Vec F S8x128 .f32 := k0_pay16 (k0_pay15 (xb m ρ c) (am2 m ρ c) (wld m ρ c (chunk c 3)))

theorem am_rest : ∀ (t : Fin 3) (a : Fin 3), a ≠ 0 → (![t.val, 0, 0] : Fin 3 → ℕ) a = 0 ∧ S1x8x128.size a = S3x8x128.size a := by decide
theorem am_disjoint (j j' : Fin 3) (h : j ≠ j') : Disjoint (amR j).set (amR j').set :=
  blocks_disjoint (s := S3x8x128) (off := fun j : Fin 3 => ![j.val, 0, 0]) (size := S1x8x128.size) p_am (0 : Fin 3) 1 (fun j => j.val) rfl
    (fun t => (Nat.mul_one t.val).symm) Fin.val_injective j j' h
theorem am_cover : (Finset.univ : Finset (Fin 3)).biUnion (fun j => (amR j).set) = Finset.univ :=
  blocks_cover (s := S3x8x128) (off := fun j : Fin 3 => ![j.val, 0, 0]) (size := S1x8x128.size) p_am (0 : Fin 3) 1 (fun j => j.val) rfl
    Nat.one_pos (fun t => (Nat.mul_one t.val).symm) 3 rfl (fun j h => ⟨⟨j, h⟩, rfl⟩) am_rest

/-- What device `c` receives in the first exchange, its three slots together. -/
def got1 (c : Dev nD) : S3x8x128.Idx → Elt F .f32 :=
  glue amR am_cover fun j => wide squeezes_S1x8x128_S8x128 (msg1 m ρ (from1 c j))
/-- The part of it the kernel reads: the first row of every slot. -/
def row1 (c : Dev nD) : Vec F S3x1x128 .f32 :=
  fun j => got1 m ρ c ((Rect.unit (s := S3x8x128) ![0, 0, 0] S3x1x128.size inb_S3x8x128_S3x1x128_0_0_0).emb j)
/-- The maximum over the group of device `c`. -/
def gmx (c : Dev nD) : F .f32 := k0_pay19 (am3 m ρ c) (row1 m ρ c)
/-- The message of the second exchange: that maximum everywhere. -/
def msg2 (c : Dev nD) : Vec F S8x128 .f32 := k0_pay20 (am3 m ρ c) (row1 m ρ c)
/-- What device `c` receives in the second exchange, its three slots together. -/
def got2 (c : Dev nD) : S3x8x128.Idx → Elt F .f32 :=
  glue amR am_cover fun j => wide squeezes_S1x8x128_S8x128 (msg2 m ρ (from2 c j))
/-- The part of it the kernel reads: the first row of every slot. -/
def row2 (c : Dev nD) : Vec F S3x1x128 .f32 :=
  fun j => got2 m ρ c ((Rect.unit (s := S3x8x128) ![0, 0, 0] S3x1x128.size inb_S3x8x128_S3x1x128_0_0_0).emb j)
/-- The quantiser's scale: the maximum over all devices over 448. -/
def scl (c : Dev nD) : F .f32 := k0_pay21 (gmx m ρ c) (row2 m ρ c)
/-- Row block `d` of device `c`'s result: the quantised tile of device `d`. -/
def oblk (c d : Dev nD) : Vec F S256x128 .f32 :=
  flat squeezes_S1x256x128_S256x128 (k0_pay23 (scl m ρ c) (wide squeezes_S1x256x128_S256x128 (tile m ρ d c)))

/-! ## The cells -/

/-- The kinds of cell; `none` is the staging semaphore of the launch. -/
inductive Kind
  | none | bar | w (k : Fin 2) | ts | tr (d : Fin 16) | a1s (j : Fin 3) | a1r (j : Fin 3) | a2s (j : Fin 3) | a2r (j : Fin 3) | out (d : Fin 16)

/-- The number of a cell: the barrier at 0, every other at its place among the DMA semaphores. -/
def ix : Kind → ℕ
  | .none => 0 | .bar => 0 | .w k => 1 + k.val | .ts => 3 | .tr d => 4 + d.val | .a1s j => 20 + j.val | .a1r j => 23 + j.val
  | .a2s j => 26 + j.val | .a2r j => 29 + j.val | .out d => 32 + d.val

section Kinds
set_option backward.proofsInPublic true

theorem ix_lt (k : Kind) : ix k < 48 := by
  cases k with
  | none => decide
  | bar => decide
  | ts => decide
  | w j => have := j.isLt; simp only [ix]; omega
  | tr j => have := j.isLt; simp only [ix]; omega
  | a1s j => have := j.isLt; simp only [ix]; omega
  | a1r j => have := j.isLt; simp only [ix]; omega
  | a2s j => have := j.isLt; simp only [ix]; omega
  | a2r j => have := j.isLt; simp only [ix]; omega
  | out j => have := j.isLt; simp only [ix]; omega

abbrev barS : Sem sig := (SemArray.scalar (sig.barrier 0 rfl) : Sems sig S_).sem

/-- The semaphore of a number. -/
def semN (i : Fin 48) : SemLoc sig := if i.val = 0 then .reg barS else .dma i
/-- The semaphore of a kind. -/
def semOf : Kind → SemLoc sig
  | .none => .dma (0 : Fin 48) | k => semN ⟨ix k, ix_lt k⟩

/-- The kind of a DMA semaphore. -/
def dmaKind (n : ℕ) : Kind :=
  if n = 0 then .none else if h : n < 3 then .w ⟨n - 1, by omega⟩ else if n = 3 then .ts
  else if h : n < 20 then .tr ⟨n - 4, by omega⟩ else if h : n < 23 then .a1s ⟨n - 20, by omega⟩ else if h : n < 26 then .a1r ⟨n - 23, by omega⟩
  else if h : n < 29 then .a2s ⟨n - 26, by omega⟩ else if h : n < 32 then .a2r ⟨n - 29, by omega⟩
  else if h : n < 48 then .out ⟨n - 32, by omega⟩ else .none
/-- The kind of a semaphore. -/
def kindOf : SemLoc sig → Kind
  | .reg _ => .bar
  | .dma q => dmaKind q.val

end Kinds

theorem kindOf_semOf (k : Kind) : kindOf (semOf k) = k := by
  cases k with
  | none => rfl
  | bar => rfl
  | ts => rfl
  | w j => revert j; intro j; fin_cases j <;> rfl
  | tr j => fin_cases j <;> rfl
  | a1s j => fin_cases j <;> rfl
  | a1r j => fin_cases j <;> rfl
  | a2s j => fin_cases j <;> rfl
  | a2r j => fin_cases j <;> rfl
  | out j => fin_cases j <;> rfl

theorem semOf_inj {k k' : Kind} (h : semOf k = semOf k') : k = k' := by rw [← kindOf_semOf k, h, kindOf_semOf]

/-- The cell of kind `k` on device `c`. -/
abbrev cell (c : Dev nD) (k : Kind) : GSem nD τ sig := ((c : Thread nD τ), semOf k)

theorem cell_inj {c c' : Dev nD} {k k' : Kind} (h : cell c k = cell c' k') : c = c' ∧ k = k' :=
  ⟨congrArg (fun g : GSem nD τ sig => g.1.1) h, semOf_inj (congrArg (fun g : GSem nD τ sig => g.2) h)⟩

/-! The semaphores the program names are these. -/

theorem sem_w (k : Fin 2) {o : Fin 1 → ℕ} (p : ∀ a, o a + S1.size a ≤ S2.size a) (ho : o = ![k.val]) :
    (SemLoc.dma ((cc0_scratch8.slice (Rect.unit (s := S2) o S1.size p)).squeeze S_ squeezes_S1_S_).sem : SemLoc sig) = semOf (.w k) := by
  subst ho; revert k; decide +kernel
theorem sem_ts : (SemLoc.dma (cc0_scratch9 : DmaSems sig S_).sem : SemLoc sig) = semOf .ts := by decide +kernel
theorem sem_tr (d : Fin 16) {o : Fin 1 → ℕ} (p : ∀ a, o a + S1.size a ≤ S16.size a) (ho : o = ![d.val]) :
    (SemLoc.dma ((cc0_scratch10.slice (Rect.unit (s := S16) o S1.size p)).squeeze S_ squeezes_S1_S_).sem : SemLoc sig) = semOf (.tr d) := by
  subst ho; revert d; decide +kernel
theorem sem_a1s (j : Fin 3) {o : Fin 1 → ℕ} (p : ∀ a, o a + S1.size a ≤ S6.size a) (ho : o = ![j.val]) :
    (SemLoc.dma ((cc0_scratch11.slice (Rect.unit (s := S6) o S1.size p)).squeeze S_ squeezes_S1_S_).sem : SemLoc sig) = semOf (.a1s j) := by
  subst ho; revert j; decide +kernel
theorem sem_a1r (j : Fin 3) {o : Fin 1 → ℕ} (p : ∀ a, o a + S1.size a ≤ S6.size a) (ho : o = ![j.val + 3]) :
    (SemLoc.dma ((cc0_scratch11.slice (Rect.unit (s := S6) o S1.size p)).squeeze S_ squeezes_S1_S_).sem : SemLoc sig) = semOf (.a1r j) := by
  subst ho; revert j; decide +kernel
theorem sem_a2s (j : Fin 3) {o : Fin 1 → ℕ} (p : ∀ a, o a + S1.size a ≤ S6.size a) (ho : o = ![j.val]) :
    (SemLoc.dma ((cc0_scratch12.slice (Rect.unit (s := S6) o S1.size p)).squeeze S_ squeezes_S1_S_).sem : SemLoc sig) = semOf (.a2s j) := by
  subst ho; revert j; decide +kernel
theorem sem_a2r (j : Fin 3) {o : Fin 1 → ℕ} (p : ∀ a, o a + S1.size a ≤ S6.size a) (ho : o = ![j.val + 3]) :
    (SemLoc.dma ((cc0_scratch12.slice (Rect.unit (s := S6) o S1.size p)).squeeze S_ squeezes_S1_S_).sem : SemLoc sig) = semOf (.a2r j) := by
  subst ho; revert j; decide +kernel
theorem sem_out (d : Fin 16) {o : Fin 1 → ℕ} (p : ∀ a, o a + S1.size a ≤ S16.size a) (ho : o = ![d.val]) :
    (SemLoc.dma ((cc0_scratch13.slice (Rect.unit (s := S16) o S1.size p)).squeeze S_ squeezes_S1_S_).sem : SemLoc sig) = semOf (.out d) := by
  subst ho; revert d; decide +kernel

/-! ## The schedule -/

/-- The units of one duty of a cell: what the copy onto it credits, one for the barrier. -/
def amt : Kind → ℕ
  | .none => 1 | .bar => 1 | .w _ => (wslot 0).view.dmaCredit | .ts => (rslot 0).view.dmaCredit | .tr _ => (rslot 0).view.dmaCredit
  | .a1s _ => (r1slot 0).view.dmaCredit | .a1r _ => (r1slot 0).view.dmaCredit | .a2s _ => (r2slot 0).view.dmaCredit | .a2r _ => (r2slot 0).view.dmaCredit
  | .out _ => (orow 0).view.dmaCredit

theorem amt_pos (k : Kind) : 0 < amt k := by
  cases k <;> first | exact Nat.one_pos | exact View.dmaCredit_pos _ (by decide)

/-- The duties of round `r` of the cell of kind `k` on device `c`. -/
def duties (c : Dev nD) (k : Kind) (r : ℕ) : Finset (Dev nD) := match k with
  | .none => ∅
  | .bar => if r = 0 then Finset.univ else ∅
  | .w _ => if r < 2 then {one} else ∅
  | .ts => if r = 0 then Finset.univ.erase c else ∅
  | .tr d => if r = 0 ∧ d ≠ c then {one} else ∅
  | _ => if r = 0 then {one} else ∅

/-- Share `j` of the message of a maximum exchange: three copies read it at once. -/
def share : Fin 3 → PosShare TreeShare
  | 0 => fullShare.left | 1 => fullShare.right.left | 2 => fullShare.right.right

/-- What device `d`'s barrier signal hands device `c`: everything `c` will write on `d`. -/
def barPay (c d : Dev nD) : sProp 𝕄 :=
  iprop((if d = c then iprop(emp) else ownsSome (d : Thread nD τ) (rslot c))
    ∗ (bigSep Finset.univ fun j : Fin 3 => if to1 c j = d then ownsSome (d : Thread nD τ) (r1slot j) else iprop(emp))
    ∗ (bigSep Finset.univ fun j : Fin 3 => if to2 c j = d then ownsSome (d : Thread nD τ) (r2slot j) else iprop(emp)))

/-- The step whose chunk of `W` lands in slot `k` in round `r`. -/
def stepOf (k : Fin 2) (r : ℕ) : Fin 4 := ⟨(k.val + 2 * r) % 4, Nat.mod_lt _ (by decide)⟩

/-- What the duty `d` of round `r` of the cell of kind `k` on device `c` hands over. -/
def pay (c : Dev nD) (k : Kind) (r : ℕ) (d : Dev nD) : sProp 𝕄 := match k with
  | .none => iprop(emp)
  | .bar => barPay c d
  | .w k => iprop(owns (c : Thread nD τ) (wslot k) fullShare (wch m ρ c (chunk c (stepOf k r)))
      ∗ owns (c : Thread nD τ) (wcol (chunk c (stepOf k r))) fullShare (wch m ρ c (chunk c (stepOf k r))))
  | .ts => owns (c : Thread nD τ) (ytile d) fullShare (tile m ρ c d)
  | .tr d' => owns (c : Thread nD τ) (rslot d') fullShare (tile m ρ d' c)
  | .a1s j => owns (c : Thread nD τ) m1M (share j) (msg1 m ρ c)
  | .a1r j => owns (c : Thread nD τ) (r1slot j) fullShare (msg1 m ρ (from1 c j))
  | .a2s j => owns (c : Thread nD τ) m2M (share j) (msg2 m ρ c)
  | .a2r j => owns (c : Thread nD τ) (r2slot j) fullShare (msg2 m ρ (from2 c j))
  | .out d' => iprop(owns (c : Thread nD τ) (orow d') fullShare (oblk m ρ c d') ∗ owns (c : Thread nD τ) (qslot d') fullShare (oblk m ρ c d'))

omit [FloatOps F] in
instance barPay_storable (c d : Dev nD) : BI.Storable (upEmb : UEmb _ 𝕄) (barPay (F := F) c d) := by
  have h (P : Prop) [Decidable P] (A : sProp 𝕄) [BI.Storable (upEmb : UEmb _ 𝕄) A] : BI.Storable (upEmb : UEmb _ 𝕄) (if P then A else iprop(emp)) := by
    split <;> infer_instance
  have h' (P : Prop) [Decidable P] (A : sProp 𝕄) [BI.Storable (upEmb : UEmb _ 𝕄) A] : BI.Storable (upEmb : UEmb _ 𝕄) (if P then iprop(emp) else A) := by
    split <;> infer_instance
  unfold barPay; infer_instance
instance pay_storable (c : Dev nD) (k : Kind) (r : ℕ) (d : Dev nD) : BI.Storable (upEmb : UEmb _ 𝕄) (pay m ρ c k r d) := by
  cases k <;> (unfold pay; infer_instance)

/-- The schedule of the whole kernel. -/
def sched : Rounds.Schedule (GSem nD τ sig) (Dev nD) 𝕄 where
  duties g r := if g.1.2 = .tc then duties g.1.1 (kindOf g.2) r else ∅
  unitless _ := False
  amount g _ _ := amt (kindOf g.2)
  payload g r d := pay m ρ g.1.1 (kindOf g.2) r d
  amount_pos g _ _ _ := amt_pos _

instance sched_storable (g : GSem nD τ sig) (r : ℕ) (d : Dev nD) : BI.Storable (upEmb : UEmb _ 𝕄) ((sched (F := F) m ρ).payload g r d) :=
  pay_storable m ρ g.1.1 (kindOf g.2) r d

theorem sched_duties (c : Dev nD) (k : Kind) (r : ℕ) : (sched m ρ).duties (cell c k) r = duties c k r := by
  dsimp only [sched]; rw [if_pos rfl, kindOf_semOf]
theorem sched_amount (c : Dev nD) (k : Kind) (r : ℕ) (d : Dev nD) : (sched m ρ).amount (cell c k) r d = amt k := by
  dsimp only [sched]; rw [kindOf_semOf]
theorem sched_payload (c : Dev nD) (k : Kind) (r : ℕ) (d : Dev nD) : (sched m ρ).payload (cell c k) r d = pay m ρ c k r d := by
  dsimp only [sched]; rw [kindOf_semOf]
theorem sched_expect (c : Dev nD) (k : Kind) (r : ℕ) : (sched m ρ).expect (cell c k) r = (duties c k r).card * amt k := by
  unfold Schedule.expect Schedule.amountOf
  rw [Finset.sum_congr (sched_duties m ρ c k r) fun d _ => sched_amount m ρ c k r d, Finset.sum_const, smul_eq_mul]

/-! ## What a device owes, in the order it pays -/

/-- The arrival of the tile with number `i`; nothing if the tile is the device's own. -/
def tileDue (c : Dev nD) (i : Fin 16) : CellTallies nD τ sig Unit :=
  if dest c i = c then 0 else tallyAt (cell (dest c i) (.tr c)) () (amt (.tr c))

/-- The debt with number `i`: sixteen barrier signals, twelve tiles, the first exchange, the four tiles of the own group, the
    second exchange. -/
def due (c : Dev nD) (i : ℕ) : CellTallies nD τ sig Unit :=
  if h : i < 16 then tallyAt (cell ⟨i, h⟩ .bar) () 1
  else if h : i < 28 then tileDue c ⟨i - 16, by omega⟩
  else if h : i < 31 then tallyAt (cell (to1 c ⟨i - 28, by omega⟩) (.a1r ⟨i - 28, by omega⟩)) () (amt (.a1r 0))
  else if h : i < 35 then tileDue c ⟨i - 19, by omega⟩
  else if h : i < 38 then tallyAt (cell (to2 c ⟨i - 35, by omega⟩) (.a2r ⟨i - 35, by omega⟩)) () (amt (.a2r 0))
  else 0

/-- The last `k` debts. -/
def rem (c : Dev nD) : ℕ → CellTallies nD τ sig Unit
  | 0 => 0
  | k + 1 => rem c k + due c (37 - k)

/-- Device `c` owes its last `k` debts. -/
def Ow (c : Dev nD) (k : ℕ) : sProp 𝕄 := iprop(∃ W, owes (c : Thread nD τ) (rem c k) W)

/-- Levels: barrier 1, the exchanges 2 and 3, the tiles 4, everything a device fills itself 0. -/
def lvK : Kind → ℕ
  | .bar => 1 | .a1r _ => 2 | .a2r _ => 3 | .tr _ => 4 | _ => 0
def lv (g : GSem nD τ sig) (_ : Unit) : ℕ := lvK (kindOf g.2)
def L (g : GSem nD τ sig) : Finset Unit := if g.1.2 = .tc then {()} else ∅

/-- The level of the debt with number `i`. -/
def dueLv (i : ℕ) : ℕ := if i < 16 then 1 else if i < 28 then 4 else if i < 31 then 2 else if i < 35 then 4 else 3

theorem tally_pos {c : Dev nD} {k : Kind} {n : ℕ} {g : GSem nD τ sig} {u : Unit} (h : 0 < tallyAt (Ix := Unit) (cell c k) () n g u) :
    g = cell c k := by
  rw [tallyAt_apply] at h
  by_contra hn
  rw [if_neg (fun h' => hn h'.1)] at h
  exact Nat.lt_irrefl 0 h

theorem tileDue_pos {c : Dev nD} {i : Fin 16} {g : GSem nD τ sig} {u : Unit} (h : 0 < tileDue c i g u) : g = cell (dest c i) (.tr c) := by
  unfold tileDue at h
  split at h
  · exact absurd h (Nat.lt_irrefl 0)
  · exact tally_pos h

theorem due_pos {c : Dev nD} {i : ℕ} {g : GSem nD τ sig} {u : Unit} (h : 0 < due c i g u) : g.1.2 = .tc ∧ lv g u = dueLv i := by
  unfold due at h
  unfold dueLv lv
  split_ifs at h with h1 h2 h3 h4 h5
  · rw [tally_pos h, kindOf_semOf, if_pos h1]; exact ⟨rfl, rfl⟩
  · rw [tileDue_pos h, kindOf_semOf, if_neg h1, if_pos h2]; exact ⟨rfl, rfl⟩
  · rw [tally_pos h, kindOf_semOf, if_neg h1, if_neg h2, if_pos h3]; exact ⟨rfl, rfl⟩
  · rw [tileDue_pos h, kindOf_semOf, if_neg h1, if_neg h2, if_neg h3, if_pos h4]; exact ⟨rfl, rfl⟩
  · rw [tally_pos h, kindOf_semOf, if_neg h1, if_neg h2, if_neg h3, if_neg h4]; exact ⟨rfl, rfl⟩
  · exact absurd h (Nat.lt_irrefl 0)

theorem rem_pos {c : Dev nD} {k : ℕ} {g : GSem nD τ sig} {u : Unit} (h : 0 < rem c k g u) : ∃ i < k, 0 < due c (37 - i) g u := by
  induction k with
  | zero => exact absurd h (Nat.lt_irrefl 0)
  | succ k ih =>
    have h' : 0 < rem c k g u + due c (37 - k) g u := h
    rcases Nat.eq_zero_or_pos (due c (37 - k) g u) with h0 | h0
    · rw [h0] at h'
      obtain ⟨i, hi, h1⟩ := ih h'
      exact ⟨i, by omega, h1⟩
    · exact ⟨k, by omega, h0⟩

omit [FloatOps F] in
/-- A device may wait for a cell whose level is below every debt it still has. -/
theorem mayWait (c : Dev nD) (sm : SemLoc sig) (k : ℕ) (h : ∀ i < k, lvK (kindOf sm) < dueLv (37 - i)) :
    (levAts L lv : sProp 𝕄) ⊢ MayWait (c : Thread nD τ) sm () (rem c k) :=
  MayOwe.of_cut (L := L) (lev := lv) (lvK (kindOf sm))
    (fun p hp => by rw [Finset.mem_singleton.mp hp]; unfold L; rw [if_pos rfl]; exact Finset.mem_singleton_self _)
    (fun g u hg => by obtain ⟨i, _, hp⟩ := rem_pos hg; unfold L; rw [if_pos (due_pos hp).1]; exact Finset.mem_singleton_self _)
    (fun p hp => by rw [Finset.mem_singleton.mp hp]; exact Nat.le_refl _)
    (fun g u hg => by obtain ⟨i, hi, hp⟩ := rem_pos hg; rw [(due_pos hp).2]; exact h i hi)

/-! ## What all devices share -/

/-- A cell by number. -/
abbrev ncell (x : Dev nD × Fin 48) : GSem nD τ sig := ((x.1 : Thread nD τ), semN x.2)

/-- Every cell's invariant, that its first round is reached, and the levels. -/
def recs (K : Dev nD × Fin 48 → ℕ) : sProp 𝕄 :=
  iprop((bigSep Finset.univ fun x => cellInv ER (sched m ρ) (K x) (ncell x)) ∗ (bigSep Finset.univ fun x => reached ER (ncell x) 0) ∗ levAts L lv)

instance recs_persistent (K) : BI.Persistent (recs (F := F) m ρ K) := by unfold recs; infer_instance

/-- The name the invariant of a cell was allocated at. -/
def nm (K : Dev nD × Fin 48 → ℕ) (c : Dev nD) (k : Kind) : ℕ := K (c, ⟨ix k, ix_lt k⟩)

theorem recs_inv (K) (c : Dev nD) (k : Kind) (hk : k ≠ .none) : recs m ρ K ⊢ cellInv ER (sched m ρ) (nm K c k) (cell c k) := by
  unfold recs
  iintro ⟨H, -, -⟩
  ihave H := (show (bigSep Finset.univ fun x => cellInv ER (sched m ρ) (K x) (ncell x)) ⊢ cellInv ER (sched m ρ) (K (c, ⟨ix k, ix_lt k⟩)) (ncell (c, ⟨ix k, ix_lt k⟩)) from
    BI.bigSep_elim (Finset.mem_univ ((c, ⟨ix k, ix_lt k⟩) : Dev nD × Fin 48))) $$ H
  have e : semOf k = semN ⟨ix k, ix_lt k⟩ := by cases k <;> first | rfl | exact absurd rfl hk
  rw [show cell c k = ncell (c, ⟨ix k, ix_lt k⟩) from congrArg (fun s => ((c : Thread nD τ), s)) e]
  iexact H
theorem recs_reached (K) (c : Dev nD) (k : Kind) (hk : k ≠ .none) : recs m ρ K ⊢ reached ER (cell c k) 0 := by
  unfold recs
  iintro ⟨-, H, -⟩
  ihave H := (show (bigSep Finset.univ fun x => reached ER (ncell x) 0) ⊢ (reached ER (ncell (c, ⟨ix k, ix_lt k⟩)) 0 : sProp 𝕄) from
    BI.bigSep_elim (Finset.mem_univ ((c, ⟨ix k, ix_lt k⟩) : Dev nD × Fin 48))) $$ H
  have e : semOf k = semN ⟨ix k, ix_lt k⟩ := by cases k <;> first | rfl | exact absurd rfl hk
  rw [show cell c k = ncell (c, ⟨ix k, ix_lt k⟩) from congrArg (fun s => ((c : Thread nD τ), s)) e]
  iexact H
theorem recs_lev (K) : recs m ρ K ⊢ (levAts L lv : sProp 𝕄) := by
  unfold recs
  iintro ⟨-, -, H⟩
  iexact H

end Cert.KernelIdeal.Body
-- ==== Proof.KernelIdeal.Steps.lean ====
/-
# One step of the kernel at a symbolic device

Each lemma steps over one operation: what the device must hold before it, and what it holds after it. `Ow c k` says that
device `c` still owes its last `k` debts.
-/
module

public import proofs.«01_k».proof.Proof.KernelIdeal.Protocol

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `P` on device `c` ends in `Q`. -/
abbrev WP {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

theorem card_ts (c : Dev nD) : (duties c .ts 0).card = 15 := by revert c; decide +kernel
theorem card_bar (c : Dev nD) : (duties c .bar 0).card = 16 := by revert c; decide +kernel

/-- A device may wait for a cell whose level is below every debt it still has, by what all devices share. -/
theorem recs_wait (K : Dev nD × Fin 48 → ℕ) (c : Dev nD) (sm : SemLoc sig) (k : ℕ) (h : ∀ i < k, lvK (kindOf sm) < dueLv (37 - i)) :
    recs m ρ K ⊢ (MayWait (c : Thread nD τ) sm () (rem c k) : sProp 𝕄) := by
  unfold recs
  iintro ⟨-, -, H⟩
  iapply (mayWait (F := F) c sm k h)
  iexact H

section Waits

variable (K : Dev nD × Fin 48 → ℕ) (c : Dev nD) {α : Type} {Q : α → sProp (MT nD τ sig Unit (Elt F) ℕ UU ℕ)} {sp sp' : Space} {s s' : Shape} {e e' : EltTy}
  {sem : DmaSem sig} {src : Memref sig .tc sp' s' e'} {dst : Memref sig .tc sp s e}
  {hsrc : src.view.WordExact} {hdst : dst.view.WordExact} {k : PUnit → Prog (TpuEff nD τ sig (Elt F) Λ₀ .tc) α}

/-- A wait for the whole of round `r` of an own cell with one duty: its payload, and the next round. -/
theorem wp_round (κ : Kind) (r n : ℕ) (hκ : κ ≠ .none) (hs : SemLoc.dma sem = semOf κ) (hN : dst.view.dmaCredit = amt κ)
    (hone : duties c κ r = {one}) (hlv : ∀ i < n, lvK κ < dueLv (37 - i)) :
    iprop(recs m ρ K ∗ cred (tallyAt (cell c κ) () (amt κ)) ∗ Ow c n ∗ atPos ER (cell c κ) r ∅ 0)
      ⊢ iprop(((Ow c n ∗ atPos ER (cell c κ) (r + 1) ∅ 0 ∗ reached ER (cell c κ) (r + 1) ∗ pay m ρ c κ r one) -∗ WP c (k ⟨⟩) Q)
        -∗ WP c (.op (.waitDma2 sem src dst hsrc hdst) k) Q) := by
  have hE : 0 + amt κ = (sched m ρ).expect (cell c κ) r := by rw [sched_expect, hone, Finset.card_singleton]; omega
  have hD : bigSep ((sched m ρ).duties (cell c κ) r \ ∅) (fun d => (sched m ρ).payload (cell c κ) r d) = pay m ρ c κ r one := by
    rw [Finset.sdiff_empty, sched_duties, hone, bigSep_singleton, sched_payload]
  have hL := recs_wait m ρ K c (semOf κ) n (by rw [kindOf_semOf]; exact hlv)
  have hI := recs_inv m ρ K c κ hκ
  unfold cell at hE hD hI ⊢
  rw [← hs, ← hN] at hE
  rw [← hs] at hD hL hI
  rw [← hs, ← hN]
  unfold Ow
  iintro ⟨#HR, Hc, ⟨%W, HO⟩, Hat⟩ Hk
  ihave #HI := hI $$ HR
  iapply (Rounds.wp_wait_rest_token 𝒱₀ ER (sched m ρ) (c : Thread nD τ) none (κ := nm K c κ)
    (wpE_waitDma2_eq 𝒱₀ (c : Thread nD τ) none Set.univ) (Set.mem_univ _) () (O := rem c n) (W := W) (R := r) (m := 0) (T := ∅) hE) $$ [Hc HO Hat]
  · isplitr; · iexact HI
    isplitl [Hc]; · iexact Hc
    isplitl [HO]; · iexact HO
    isplitr
    · iapply hL; iexact HR
    iexact Hat
  rw [hD]
  iintro ⟨HO, Hat, Hr, Hp⟩
  iapply Hk
  isplitl [HO]
  · iexists _; iexact HO
  isplitl [Hat]; · iexact Hat
  isplitl [Hr]; · iexact Hr
  iexact Hp

/-- The wait for the last round of an own cell with one duty: its payload, and the counter at zero. -/
theorem wp_last (κ : Kind) (r n : ℕ) (hκ : κ ≠ .none) (hs : SemLoc.dma sem = semOf κ) (hN : dst.view.dmaCredit = amt κ)
    (hone : duties c κ r = {one}) (hno : ∀ r', r + 1 ≤ r' → duties c κ r' = ∅) (hlv : ∀ i < n, lvK κ < dueLv (37 - i)) :
    iprop(recs m ρ K ∗ cred (tallyAt (cell c κ) () (amt κ)) ∗ Ow c n ∗ atPos ER (cell c κ) r ∅ 0)
      ⊢ iprop(((Ow c n ∗ pay m ρ c κ r one ∗ semVal (cell c κ) 0) -∗ WP c (k ⟨⟩) Q)
        -∗ WP c (.op (.waitDma2 sem src dst hsrc hdst) k) Q) := by
  have hI := recs_inv m ρ K c κ hκ
  iintro ⟨#HR, Hc, HO, Hat⟩ Hk
  iapply (wp_round m ρ K c κ r n hκ hs hN hone hlv) $$ [Hc HO Hat]
  · isplitr; · iexact HR
    isplitl [Hc]; · iexact Hc
    isplitl [HO]; · iexact HO
    iexact Hat
  iintro ⟨HO, Hat, -, Hp⟩
  imod (Rounds.cell_close ER (sched m ρ) (Set.mem_univ (nm K c κ)) (fun h => h) (R := r + 1)
    (fun r' h => (sched_duties m ρ c κ r').trans (hno r' h))) $$ [Hat] with Hz
  · isplitr
    · iapply hI; iexact HR
    iexact Hat
  iapply Hk
  isplitl [HO]; · iexact HO
  isplitl [Hp]; · iexact Hp
  iexact Hz

/-- `j` of the sent tiles have been waited for: some set of them is back. -/
def TsSt (j : ℕ) : sProp 𝕄 :=
  iprop(∃ S : Finset (Dev nD), ⌜S ⊆ duties c .ts 0⌝ ∗ atPos ER (cell c .ts) 0 S (j * amt .ts) ∗ bigSep S (fun d => pay m ρ c .ts 0 d))

theorem TsSt_zero : (atPos ER (cell c .ts) 0 ∅ 0 : sProp 𝕄) ⊢ TsSt m ρ c 0 := by
  unfold TsSt
  iintro H
  iexists ∅
  isplitr; · ipureintro; exact Finset.empty_subset _
  rw [Nat.zero_mul]
  isplitl [H]; · iexact H
  rw [bigSep_empty]
  iempintro

/-- A wait for one sent tile, not the last. -/
theorem wp_ts_part (j : ℕ) (hs : SemLoc.dma sem = semOf .ts) (hN : dst.view.dmaCredit = amt .ts) :
    iprop(recs m ρ K ∗ cred (tallyAt (cell c .ts) () (amt .ts)) ∗ Ow c 0 ∗ TsSt m ρ c j)
      ⊢ iprop(((Ow c 0 ∗ TsSt m ρ c (j + 1)) -∗ WP c (k ⟨⟩) Q)
        -∗ WP c (.op (.waitDma2 sem src dst hsrc hdst) k) Q) := by
  have hL := recs_wait m ρ K c (semOf .ts) 0 (fun i hi => absurd hi (Nat.not_lt_zero i))
  have hI := recs_inv m ρ K c .ts (fun h => nomatch h)
  have hD := sched_duties m ρ c .ts 0
  have hP (d) := sched_payload m ρ c .ts 0 d
  unfold TsSt
  unfold cell at hI hD hP ⊢
  rw [← hs] at hI hL hD
  simp only [← hs] at hP
  simp only [← hs, ← hN]
  unfold Ow
  iintro ⟨#HR, Hc, ⟨%W, HO⟩, ⟨%S, %hS, Hat, HS⟩⟩ Hk
  ihave #HI := hI $$ HR
  iapply (Rounds.wp_wait 𝒱₀ ER (sched m ρ) (c : Thread nD τ) none (κ := nm K c .ts)
    (wpE_waitDma2_eq 𝒱₀ (c : Thread nD τ) none Set.univ) (Set.mem_univ _) (cr := Finsupp.single () (dst.view.dmaCredit)) {(SemLoc.dma sem, ())}
    (O := rem c 0) (W := W) (R := 0) (m := j * dst.view.dmaCredit) (T := S) (by rw [Util.total_single]) (image_single_subset _ () _)) $$ [Hc HO Hat]
  · isplitr; · iexact HI
    isplitl [Hc]; · iexact Hc
    isplitl [HO]; · iexact HO
    isplitr
    · iapply hL; iexact HR
    iexact Hat
  iintro %S' ⟨%hS', HO, Hat, Hp⟩
  iapply Hk
  isplitl [HO]
  · iexists _; iexact HO
  iexists S'
  isplitr
  · ipureintro; rw [← hD]; exact hS'.2.1
  rw [Nat.succ_mul]
  isplitl [Hat]; · iexact Hat
  have e : bigSep S' (fun d => pay m ρ c .ts 0 d) = iprop(bigSep S (fun d => pay m ρ c .ts 0 d) ∗ bigSep (S' \ S) (fun d => pay m ρ c .ts 0 d)) :=
    bigSep_sdiff_split hS'.1
  iapply (Entails.of_eq e.symm)
  isplitl [HS]; · iexact HS
  simp only [hP]
  iexact Hp

/-- The wait for the last of the fifteen sent tiles: every tile is back, and the counter is at zero. -/
theorem wp_ts_last (hs : SemLoc.dma sem = semOf .ts) (hN : dst.view.dmaCredit = amt .ts) :
    iprop(recs m ρ K ∗ cred (tallyAt (cell c .ts) () (amt .ts)) ∗ Ow c 0 ∗ TsSt m ρ c 14)
      ⊢ iprop(((Ow c 0 ∗ (bigSep (Finset.univ.erase c) fun p => owns (c : Thread nD τ) (ytile p) fullShare (tile m ρ c p)) ∗ semVal (cell c .ts) 0)
          -∗ WP c (k ⟨⟩) Q)
        -∗ WP c (.op (.waitDma2 sem src dst hsrc hdst) k) Q) := by
  have hL := recs_wait m ρ K c (semOf .ts) 0 (fun i hi => absurd hi (Nat.not_lt_zero i))
  have hI := recs_inv m ρ K c .ts (fun h => nomatch h)
  have hD := sched_duties m ρ c .ts 0
  have hP (d) := sched_payload m ρ c .ts 0 d
  have hE : 14 * amt .ts + amt .ts = (sched m ρ).expect (cell c .ts) 0 := by
    rw [sched_expect, card_ts]; omega
  have hC := Rounds.cell_close ER (sched m ρ) (g := cell c .ts) (Set.mem_univ (nm K c .ts)) (fun h => h) (R := 0 + 1)
    (fun r' h => (sched_duties m ρ c .ts r').trans (if_neg (by omega)))
  unfold TsSt
  unfold cell at hI hD hP hE hC ⊢
  rw [← hs] at hI hL hD hC
  rw [← hs, ← hN] at hE
  simp only [← hs] at hP
  simp only [← hs, ← hN]
  unfold Ow
  iintro ⟨#HR, Hc, ⟨%W, HO⟩, ⟨%S, %hS, Hat, HS⟩⟩ Hk
  ihave #HI := hI $$ HR
  iapply (Rounds.wp_wait_rest_token 𝒱₀ ER (sched m ρ) (c : Thread nD τ) none (κ := nm K c .ts)
    (wpE_waitDma2_eq 𝒱₀ (c : Thread nD τ) none Set.univ) (Set.mem_univ _) ()
    (O := rem c 0) (W := W) (R := 0) (m := 14 * dst.view.dmaCredit) (T := S) hE) $$ [Hc HO Hat]
  · isplitr; · iexact HI
    isplitl [Hc]; · iexact Hc
    isplitl [HO]; · iexact HO
    isplitr
    · iapply hL; iexact HR
    iexact Hat
  iintro ⟨HO, Hat, -, Hp⟩
  imod hC $$ [Hat] with Hz
  · isplitr; · iexact HI
    iexact Hat
  iapply Hk
  isplitl [HO]
  · iexists _; iexact HO
  isplitr [Hz]
  · have e : (bigSep (Finset.univ.erase c) fun p => owns (c : Thread nD τ) (ytile p) fullShare (tile m ρ c p))
        = iprop(bigSep S (fun d => pay m ρ c .ts 0 d) ∗ bigSep (duties c .ts 0 \ S) (fun d => pay m ρ c .ts 0 d)) :=
      bigSep_sdiff_split hS
    iapply (Entails.of_eq e.symm)
    isplitl [HS]; · iexact HS
    simp only [hP, hD]
    iexact Hp
  iexact Hz

/-- The wait for all sixteen barrier signals: everything the device will write elsewhere, and the counter at zero. -/
theorem wp_bar {v : ℕ} (hv : v = 16) :
    iprop(recs m ρ K ∗ cred (tallyAt (cell c .bar) () 16) ∗ Ow c 22 ∗ atPos ER (cell c .bar) 0 ∅ 0)
      ⊢ iprop(((Ow c 22 ∗ (bigSep Finset.univ fun d => barPay (F := F) c d) ∗ semVal (cell c .bar) 0) -∗ WP c (k ⟨⟩) Q)
        -∗ WP c (.op (.semWait barS v) k) Q) := by
  subst hv
  have hL := recs_wait m ρ K c (semOf .bar) 22 (by rw [kindOf_semOf]; decide)
  have hI := recs_inv m ρ K c .bar (fun h => nomatch h)
  have hD := sched_duties m ρ c .bar 0
  have hP (d) := sched_payload m ρ c .bar 0 d
  have hE : 0 + 16 = (sched m ρ).expect (cell c .bar) 0 := by
    rw [sched_expect, card_bar]; rfl
  have hC := Rounds.cell_close ER (sched m ρ) (g := cell c .bar) (Set.mem_univ (nm K c .bar)) (fun h => h) (R := 0 + 1)
    (fun r' h => (sched_duties m ρ c .bar r').trans (if_neg (by omega)))
  unfold Ow
  iintro ⟨#HR, Hc, ⟨%W, HO⟩, Hat⟩ Hk
  ihave #HI := hI $$ HR
  iapply (Rounds.wp_wait_rest_token 𝒱₀ ER (sched m ρ) (c : Thread nD τ) none (κ := nm K c .bar)
    (wpE_semWait_eq 𝒱₀ (c : Thread nD τ) none Set.univ) (Set.mem_univ _) ()
    (O := rem c 22) (W := W) (R := 0) (m := 0) (T := ∅) hE) $$ [Hc HO Hat]
  · isplitr; · iexact HI
    isplitl [Hc]; · iexact Hc
    isplitl [HO]; · iexact HO
    isplitr
    · iapply hL; iexact HR
    iexact Hat
  iintro ⟨HO, Hat, -, Hp⟩
  imod hC $$ [Hat] with Hz
  · isplitr; · iexact HI
    iexact Hat
  iapply Hk
  isplitl [HO]
  · iexists _; iexact HO
  isplitr [Hz]
  · have e : bigSep ((sched m ρ).duties ((c : Thread nD τ), SemLoc.reg barS) 0 \ ∅) (fun d => (sched m ρ).payload ((c : Thread nD τ), SemLoc.reg barS) 0 d) = bigSep Finset.univ fun d => barPay (F := F) c d := by
      rw [Finset.sdiff_empty]
      exact (congrArg (fun S => bigSep S _) hD).trans (BI.bigSep_congr fun d _ => hP d)
    ihave Hp := (Entails.of_eq e) $$ Hp
    iexact Hp
  iexact Hz

end Waits

section Pays

variable (K : Dev nD × Fin 48 → ℕ) (c : Dev nD) {α : Type} {Q : α → sProp (MT nD τ sig Unit (Elt F) ℕ UU ℕ)} {sp sp' : Space} {s : Shape} {e : EltTy}
  {k : PUnit → Prog (TpuEff nD τ sig (Elt F) Λ₀ .tc) α}

/-- The barrier signal to device `d`. -/
theorem wp_sig (d n : Dev nD) (hn : n = d) {v : ℕ} (hv : v = 1) (i : ℕ) (hi : due c (37 - i) = tallyAt (cell d .bar) () 1) :
    iprop(recs m ρ K ∗ Ow c (i + 1) ∗ dutyTok ER (cell d .bar) 0 c ∗ barPay (F := F) d c)
      ⊢ iprop((Ow c i -∗ WP c (k ⟨⟩) Q)
        -∗ WP c (.op (.semSignal (n, .tc) barS v) k) Q) := by
  subst hn hv
  have hd : c ∈ (sched m ρ).duties (cell n .bar) 0 := by rw [sched_duties]; exact Finset.mem_univ c
  have hP : barPay (F := F) n c ⊢ (sched m ρ).payload ((n : Thread nD τ), .reg barS) 0 c := Entails.of_eq (sched_payload m ρ n .bar 0 c).symm
  have hI := recs_inv m ρ K n .bar (fun h => nomatch h)
  have hr := recs_reached m ρ K n .bar (fun h => nomatch h)
  unfold Ow
  iintro ⟨#HR, ⟨%W, HO⟩, Ht, Hp⟩ Hk
  iapply (Rounds.wp_signal 𝒱₀ ER (sched m ρ) (c : Thread nD τ) none (dst := (n : Thread nD τ)) (κ := nm K n .bar) (d := c) (r := 0) hd
    (sched_amount m ρ n .bar 0 c) () (rem c i) (O₀ := rem c (i + 1)) (congrArg (rem c i + ·) hi)) $$ [HO Ht Hp]
  · isplitr
    · iapply hI; iexact HR
    isplitl [HO]; · iexact HO
    isplitl [Ht]; · iexact Ht
    isplitl [Hp]
    · iapply hP; iexact Hp
    iapply hr; iexact HR
  iintro HO
  iapply Hk
  iexists _; iexact HO

/-- A copy within the device, the one duty of round `r` of its cell of kind `κ`. -/
theorem wp_local {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {q : PosShare TreeShare} {X Y : s.Idx → Elt F e} (κ : Kind) (r : ℕ) (hκ : κ ≠ .none) (hs : SemLoc.dma sem = semOf κ)
    (hN : dst.view.dmaCredit = amt κ) (hone : one ∈ duties c κ r)
    (hpay : iprop(owns (c : Thread nD τ) dst fullShare X ∗ owns (c : Thread nD τ) src q X) ⊢ pay m ρ c κ r one) :
    iprop(recs m ρ K ∗ owns (c : Thread nD τ) src q X ∗ owns (c : Thread nD τ) dst fullShare Y ∗ dutyTok ER (cell c κ) r one ∗ reached ER (cell c κ) r)
      ⊢ iprop((cred (tallyAt (cell c κ) () (amt κ)) -∗ WP c (k ⟨⟩) Q)
        -∗ WP c (.op (.enqueueDma src (.here dst) (.dma sem) hsrc hdst hsem) k) Q) := by
  have hd : one ∈ (sched m ρ).duties (cell c κ) r := by rw [sched_duties]; exact hone
  have hk := sched_amount m ρ c κ r one
  have hP := hpay.trans (Entails.of_eq (sched_payload m ρ c κ r one).symm)
  have hI := recs_inv m ρ K c κ hκ
  unfold cell at hd hk hP hI ⊢
  rw [← hs] at hd hk hP hI ⊢
  iintro ⟨#HR, Hs, Hd, Ht, Hr⟩ Hk
  iapply (wp_copy_owns 𝒱₀ ER (sched m ρ) (c : Thread nD τ) none (κ := nm K c κ) hd () (amt κ) hN hk hP) $$ [Hs Hd Ht Hr]
  · isplitr
    · iapply hI; iexact HR
    isplitl [Hs]; · iexact Hs
    isplitl [Hd]; · iexact Hd
    isplitl [Ht]; · iexact Ht
    iexact Hr
  iexact Hk

/-- A copy to device `d`, the duty `d₁` of the sender's cell of kind `κ₁` and the one duty of `d`'s cell of kind `κ₂`; it
    pays the debt the device has next. -/
theorem wp_away {n : Dev nD} {src : Memref sig .tc sp s e} {dst : Memref sig .tc sp' s e} {hsc : dst.view.ref.isScScratch = false} {sS sR : DmaSem sig}
    {hsrc : src.view.WordExact} {hdst : dst.view.WordExact}
    {hsem : DmaTarget.Typed (nD := nD) (τ := τ) (p := .tc) sp (.dma sR) (.remote (Dev.tc n) dst (.dma sS) hsc)}
    {q : PosShare TreeShare} {X : s.Idx → Elt F e} (d : Dev nD) (hn : n = d) (κ₁ κ₂ : Kind) (d₁ : Dev nD) (h₁ : κ₁ ≠ .none) (h₂ : κ₂ ≠ .none)
    (hs₁ : SemLoc.dma sS = semOf κ₁) (hs₂ : SemLoc.dma sR = semOf κ₂) (hN : dst.view.dmaCredit = amt κ₂) (hN' : amt κ₁ = amt κ₂)
    (hd₁ : d₁ ∈ duties c κ₁ 0) (hd₂ : one ∈ duties d κ₂ 0) (i : ℕ) (hi : due c (37 - i) = tallyAt (cell d κ₂) () (amt κ₂))
    (hpay₁ : owns (c : Thread nD τ) src q X ⊢ pay m ρ c κ₁ 0 d₁)
    (hpay₂ : owns (d : Thread nD τ) dst fullShare X ⊢ pay m ρ d κ₂ 0 one) :
    iprop(recs m ρ K ∗ owns (c : Thread nD τ) src q X ∗ ownsSome (d : Thread nD τ) dst ∗ Ow c (i + 1)
        ∗ dutyTok ER (cell c κ₁) 0 d₁ ∗ dutyTok ER (cell d κ₂) 0 one)
      ⊢ iprop(((cred (tallyAt (cell c κ₁) () (amt κ₁)) ∗ Ow c i) -∗ WP c (k ⟨⟩) Q)
        -∗ WP c (.op (.enqueueDma src (.remote (Dev.tc n) dst (.dma sS) hsc) (.dma sR) hsrc hdst hsem) k) Q) := by
  subst hn
  have hd₁' : d₁ ∈ (sched m ρ).duties (cell c κ₁) 0 := by rw [sched_duties]; exact hd₁
  have hd₂' : one ∈ (sched m ρ).duties (cell n κ₂) 0 := by rw [sched_duties]; exact hd₂
  have hk₁ := (sched_amount m ρ c κ₁ 0 d₁).trans hN'
  have hk₂ := sched_amount m ρ n κ₂ 0 one
  have hP₁ := hpay₁.trans (Entails.of_eq (sched_payload m ρ c κ₁ 0 d₁).symm)
  have hP₂ := hpay₂.trans (Entails.of_eq (sched_payload m ρ n κ₂ 0 one).symm)
  have hI₁ := recs_inv m ρ K c κ₁ h₁
  have hI₂ := recs_inv m ρ K n κ₂ h₂
  have hr₁ := recs_reached m ρ K c κ₁ h₁
  have hr₂ := recs_reached m ρ K n κ₂ h₂
  have hO : rem c (i + 1) = rem c i + tallyAt (cell n κ₂) () (amt κ₂) := congrArg (rem c i + ·) hi
  rw [hN']
  unfold cell at hd₁' hd₂' hk₁ hk₂ hP₁ hP₂ hI₁ hI₂ hr₁ hr₂ hO ⊢
  rw [← hs₁] at hd₁' hk₁ hP₁ hI₁ hr₁ ⊢
  rw [← hs₂] at hd₂' hk₂ hP₂ hI₂ hr₂ hO ⊢
  unfold Ow ownsSome
  iintro ⟨#HR, Hs, ⟨%Y, Hd⟩, ⟨%W, HO⟩, Ht₁, Ht₂⟩ Hk
  iapply (wp_send_owns 𝒱₀ ER (sched m ρ) (c : Thread nD τ) none (κ₁ := nm K c κ₁) (κ₂ := nm K n κ₂) hd₁' hd₂' () () (amt κ₂) hN hk₁ hk₂
    (O₀ := rem c (i + 1)) (rem c i) hO hP₁ hP₂) $$ [Hs Hd HO Ht₁ Ht₂]
  · isplitr
    · iapply hI₁; iexact HR
    isplitr
    · iapply hI₂; iexact HR
    isplitl [Hs]; · iexact Hs
    isplitl [Hd]; · iexact Hd
    isplitl [HO]; · iexact HO
    isplitl [Ht₁]; · iexact Ht₁
    isplitr
    · iapply hr₁; iexact HR
    isplitl [Ht₂]; · iexact Ht₂
    iapply hr₂; iexact HR
  iintro ⟨Hc, HO⟩
  iapply Hk
  isplitl [Hc]; · iexact Hc
  iexists _; iexact HO

end Pays

end Cert.KernelIdeal.Body
-- ==== Proof.KernelIdeal.Offs.lean ====
/-
# The offsets, partners and conditions the kernel computes, in closed form
-/
module

public import proofs.«01_k».proof.Proof.KernelIdeal.Steps

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed offsets, devices and conditions in closed form -/

section Closed
set_option backward.proofsInPublic true
set_option maxRecDepth 100000

theorem off1_eq (c : Dev nD) : ∀ t : Fin 4, k0_off1 c (BitVec.ofNat 32 t.val) = ![0, 512 * (chunk c t).val] := by revert c; decide +kernel
theorem off2_eq (c : Dev nD) : ∀ t : Fin 4, k0_off2 c (BitVec.ofNat 32 t.val) = ![0, 512 * (chunk c t).val] := by revert c; decide +kernel
theorem off51_eq (c : Dev nD) : k0_off51 c = ![0, 128 * c.val] := by revert c; decide +kernel
theorem off52_eq (c : Dev nD) : k0_off52 c = ![(nth c 0).val, 0, 0] := by revert c; decide +kernel
theorem off53_eq (c : Dev nD) : k0_off53 c = ![(nth c 0).val] := by revert c; decide +kernel
theorem off54_eq (c : Dev nD) : k0_off54 c = ![256 * (nth c 0).val, 0] := by revert c; decide +kernel
theorem off55_eq (c : Dev nD) : k0_off55 c = ![(nth c 0).val, 0, 0] := by revert c; decide +kernel
theorem off56_eq (c : Dev nD) : ∀ s : Fin 16, s ≠ 0 → k0_off56 c (BitVec.ofNat 32 s.val) = ![(nth c s).val] := by revert c; decide +kernel
theorem off57_eq (c : Dev nD) : ∀ s : Fin 16, s ≠ 0 → k0_off57 c (BitVec.ofNat 32 s.val) = ![(nth c s).val, 0, 0] := by revert c; decide +kernel
theorem off58_eq (c : Dev nD) : ∀ s : Fin 16, s ≠ 0 → k0_off58 c (BitVec.ofNat 32 s.val) = ![(nth c s).val, 0, 0] := by revert c; decide +kernel
theorem off59_eq (c : Dev nD) : ∀ s : Fin 16, s ≠ 0 → k0_off59 c (BitVec.ofNat 32 s.val) = ![256 * (nth c s).val, 0] := by revert c; decide +kernel
theorem cond0 (c : Dev nD) : k0_cond1 c = 1#1 ↔ dest c 0 ≠ c := by revert c; decide +kernel
theorem offr0 (c : Dev nD) : k0_off3 c = ![c.val] := by revert c; decide +kernel
theorem offd0 (c : Dev nD) : k0_off4 c = ![c.val, 0, 0] := by revert c; decide +kernel
theorem offs0 (c : Dev nD) : k0_off5 c = ![0, 128 * (dest c 0).val] := by revert c; decide +kernel
theorem dev0 (c : Dev nD) : k0_cond1 c = 1#1 → k0_dev17 c = (dest c 0).val := by revert c; decide +kernel
theorem cond1 (c : Dev nD) : k0_cond2 c = 1#1 ↔ dest c 1 ≠ c := by revert c; decide +kernel
theorem offr1 (c : Dev nD) : k0_off6 c = ![c.val] := by revert c; decide +kernel
theorem offd1 (c : Dev nD) : k0_off7 c = ![c.val, 0, 0] := by revert c; decide +kernel
theorem offs1 (c : Dev nD) : k0_off8 c = ![0, 128 * (dest c 1).val] := by revert c; decide +kernel
theorem dev1 (c : Dev nD) : k0_cond2 c = 1#1 → k0_dev18 c = (dest c 1).val := by revert c; decide +kernel
theorem cond2 (c : Dev nD) : k0_cond3 c = 1#1 ↔ dest c 2 ≠ c := by revert c; decide +kernel
theorem offr2 (c : Dev nD) : k0_off9 c = ![c.val] := by revert c; decide +kernel
theorem offd2 (c : Dev nD) : k0_off10 c = ![c.val, 0, 0] := by revert c; decide +kernel
theorem offs2 (c : Dev nD) : k0_off11 c = ![0, 128 * (dest c 2).val] := by revert c; decide +kernel
theorem dev2 (c : Dev nD) : k0_cond3 c = 1#1 → k0_dev19 c = (dest c 2).val := by revert c; decide +kernel
theorem cond3 (c : Dev nD) : k0_cond4 c = 1#1 ↔ dest c 3 ≠ c := by revert c; decide +kernel
theorem offr3 (c : Dev nD) : k0_off12 c = ![c.val] := by revert c; decide +kernel
theorem offd3 (c : Dev nD) : k0_off13 c = ![c.val, 0, 0] := by revert c; decide +kernel
theorem offs3 (c : Dev nD) : k0_off14 c = ![0, 128 * (dest c 3).val] := by revert c; decide +kernel
theorem dev3 (c : Dev nD) : k0_cond4 c = 1#1 → k0_dev20 c = (dest c 3).val := by revert c; decide +kernel
theorem cond4 (c : Dev nD) : k0_cond5 c = 1#1 ↔ dest c 4 ≠ c := by revert c; decide +kernel
theorem offr4 (c : Dev nD) : k0_off15 c = ![c.val] := by revert c; decide +kernel
theorem offd4 (c : Dev nD) : k0_off16 c = ![c.val, 0, 0] := by revert c; decide +kernel
theorem offs4 (c : Dev nD) : k0_off17 c = ![0, 128 * (dest c 4).val] := by revert c; decide +kernel
theorem dev4 (c : Dev nD) : k0_cond5 c = 1#1 → k0_dev21 c = (dest c 4).val := by revert c; decide +kernel
theorem cond5 (c : Dev nD) : k0_cond6 c = 1#1 ↔ dest c 5 ≠ c := by revert c; decide +kernel
theorem offr5 (c : Dev nD) : k0_off18 c = ![c.val] := by revert c; decide +kernel
theorem offd5 (c : Dev nD) : k0_off19 c = ![c.val, 0, 0] := by revert c; decide +kernel
theorem offs5 (c : Dev nD) : k0_off20 c = ![0, 128 * (dest c 5).val] := by revert c; decide +kernel
theorem dev5 (c : Dev nD) : k0_cond6 c = 1#1 → k0_dev22 c = (dest c 5).val := by revert c; decide +kernel
theorem cond6 (c : Dev nD) : k0_cond7 c = 1#1 ↔ dest c 6 ≠ c := by revert c; decide +kernel
theorem offr6 (c : Dev nD) : k0_off21 c = ![c.val] := by revert c; decide +kernel
theorem offd6 (c : Dev nD) : k0_off22 c = ![c.val, 0, 0] := by revert c; decide +kernel
theorem offs6 (c : Dev nD) : k0_off23 c = ![0, 128 * (dest c 6).val] := by revert c; decide +kernel
theorem dev6 (c : Dev nD) : k0_cond7 c = 1#1 → k0_dev23 c = (dest c 6).val := by revert c; decide +kernel
theorem cond7 (c : Dev nD) : k0_cond8 c = 1#1 ↔ dest c 7 ≠ c := by revert c; decide +kernel
theorem offr7 (c : Dev nD) : k0_off24 c = ![c.val] := by revert c; decide +kernel
theorem offd7 (c : Dev nD) : k0_off25 c = ![c.val, 0, 0] := by revert c; decide +kernel
theorem offs7 (c : Dev nD) : k0_off26 c = ![0, 128 * (dest c 7).val] := by revert c; decide +kernel
theorem dev7 (c : Dev nD) : k0_cond8 c = 1#1 → k0_dev24 c = (dest c 7).val := by revert c; decide +kernel
theorem cond8 (c : Dev nD) : k0_cond9 c = 1#1 ↔ dest c 8 ≠ c := by revert c; decide +kernel
theorem offr8 (c : Dev nD) : k0_off27 c = ![c.val] := by revert c; decide +kernel
theorem offd8 (c : Dev nD) : k0_off28 c = ![c.val, 0, 0] := by revert c; decide +kernel
theorem offs8 (c : Dev nD) : k0_off29 c = ![0, 128 * (dest c 8).val] := by revert c; decide +kernel
theorem dev8 (c : Dev nD) : k0_cond9 c = 1#1 → k0_dev25 c = (dest c 8).val := by revert c; decide +kernel
theorem cond9 (c : Dev nD) : k0_cond10 c = 1#1 ↔ dest c 9 ≠ c := by revert c; decide +kernel
theorem offr9 (c : Dev nD) : k0_off30 c = ![c.val] := by revert c; decide +kernel
theorem offd9 (c : Dev nD) : k0_off31 c = ![c.val, 0, 0] := by revert c; decide +kernel
theorem offs9 (c : Dev nD) : k0_off32 c = ![0, 128 * (dest c 9).val] := by revert c; decide +kernel
theorem dev9 (c : Dev nD) : k0_cond10 c = 1#1 → k0_dev26 c = (dest c 9).val := by revert c; decide +kernel
theorem cond10 (c : Dev nD) : k0_cond11 c = 1#1 ↔ dest c 10 ≠ c := by revert c; decide +kernel
theorem offr10 (c : Dev nD) : k0_off33 c = ![c.val] := by revert c; decide +kernel
theorem offd10 (c : Dev nD) : k0_off34 c = ![c.val, 0, 0] := by revert c; decide +kernel
theorem offs10 (c : Dev nD) : k0_off35 c = ![0, 128 * (dest c 10).val] := by revert c; decide +kernel
theorem dev10 (c : Dev nD) : k0_cond11 c = 1#1 → k0_dev27 c = (dest c 10).val := by revert c; decide +kernel
theorem cond11 (c : Dev nD) : k0_cond12 c = 1#1 ↔ dest c 11 ≠ c := by revert c; decide +kernel
theorem offr11 (c : Dev nD) : k0_off36 c = ![c.val] := by revert c; decide +kernel
theorem offd11 (c : Dev nD) : k0_off37 c = ![c.val, 0, 0] := by revert c; decide +kernel
theorem offs11 (c : Dev nD) : k0_off38 c = ![0, 128 * (dest c 11).val] := by revert c; decide +kernel
theorem dev11 (c : Dev nD) : k0_cond12 c = 1#1 → k0_dev28 c = (dest c 11).val := by revert c; decide +kernel
theorem cond12 (c : Dev nD) : k0_cond13 c = 1#1 ↔ dest c 12 ≠ c := by revert c; decide +kernel
theorem offr12 (c : Dev nD) : k0_off39 c = ![c.val] := by revert c; decide +kernel
theorem offd12 (c : Dev nD) : k0_off40 c = ![c.val, 0, 0] := by revert c; decide +kernel
theorem offs12 (c : Dev nD) : k0_off41 c = ![0, 128 * (dest c 12).val] := by revert c; decide +kernel
theorem dev12 (c : Dev nD) : k0_cond13 c = 1#1 → k0_dev32 c = (dest c 12).val := by revert c; decide +kernel
theorem cond13 (c : Dev nD) : k0_cond14 c = 1#1 ↔ dest c 13 ≠ c := by revert c; decide +kernel
theorem offr13 (c : Dev nD) : k0_off42 c = ![c.val] := by revert c; decide +kernel
theorem offd13 (c : Dev nD) : k0_off43 c = ![c.val, 0, 0] := by revert c; decide +kernel
theorem offs13 (c : Dev nD) : k0_off44 c = ![0, 128 * (dest c 13).val] := by revert c; decide +kernel
theorem dev13 (c : Dev nD) : k0_cond14 c = 1#1 → k0_dev33 c = (dest c 13).val := by revert c; decide +kernel
theorem cond14 (c : Dev nD) : k0_cond15 c = 1#1 ↔ dest c 14 ≠ c := by revert c; decide +kernel
theorem offr14 (c : Dev nD) : k0_off45 c = ![c.val] := by revert c; decide +kernel
theorem offd14 (c : Dev nD) : k0_off46 c = ![c.val, 0, 0] := by revert c; decide +kernel
theorem offs14 (c : Dev nD) : k0_off47 c = ![0, 128 * (dest c 14).val] := by revert c; decide +kernel
theorem dev14 (c : Dev nD) : k0_cond15 c = 1#1 → k0_dev34 c = (dest c 14).val := by revert c; decide +kernel
theorem cond15 (c : Dev nD) : k0_cond16 c = 1#1 ↔ dest c 15 ≠ c := by revert c; decide +kernel
theorem offr15 (c : Dev nD) : k0_off48 c = ![c.val] := by revert c; decide +kernel
theorem offd15 (c : Dev nD) : k0_off49 c = ![c.val, 0, 0] := by revert c; decide +kernel
theorem offs15 (c : Dev nD) : k0_off50 c = ![0, 128 * (dest c 15).val] := by revert c; decide +kernel
theorem dev15 (c : Dev nD) : k0_cond16 c = 1#1 → k0_dev35 c = (dest c 15).val := by revert c; decide +kernel
theorem dva0 (c : Dev nD) : k0_dev29 c = (to1 c 0).val := by revert c; decide +kernel
theorem dvb0 (c : Dev nD) : k0_dev36 c = (to2 c 0).val := by revert c; decide +kernel
theorem dva1 (c : Dev nD) : k0_dev30 c = (to1 c 1).val := by revert c; decide +kernel
theorem dvb1 (c : Dev nD) : k0_dev37 c = (to2 c 1).val := by revert c; decide +kernel
theorem dva2 (c : Dev nD) : k0_dev31 c = (to1 c 2).val := by revert c; decide +kernel
theorem dvb2 (c : Dev nD) : k0_dev38 c = (to2 c 2).val := by revert c; decide +kernel
end Closed

end Cert.KernelIdeal.Body
-- ==== Proof.KernelIdeal.Ops.lean ====
/-
# The kernel's operations

What the kernel's own operations do to the families of things a device holds: the chunks of `W`, the tiles it sends, the
messages of the maximum exchanges, the tiles it receives and the row blocks of the result. Offsets are taken as parameters
with an equation each.
-/
module

public import proofs.«01_k».proof.Proof.KernelIdeal.Offs

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- The chunk of `W` of step `t`. -/
def FQ (c : Dev nD) (t : Fin 4) : sProp 𝕄 := owns (c : Thread nD τ) (wcol (chunk c t)) fullShare (wch m ρ c (chunk c t))
/-- Staging slot `k` of `W`, holding the chunk of step `t`. -/
def WB (c : Dev nD) (k : Fin 2) (t : Fin 4) : sProp 𝕄 := owns (c : Thread nD τ) (wslot k) fullShare (wch m ρ c (chunk c t))
/-- The columns of the product of step `t`, at any contents. -/
def YC (c : Dev nD) (t : Fin 4) : sProp 𝕄 := ownsSome (c : Thread nD τ) (ycol (chunk c t))
/-- The tile with number `i`, computed. -/
def TI (c : Dev nD) (i : Fin 16) : sProp 𝕄 := owns (c : Thread nD τ) (ytile (dest c i)) fullShare (tile m ρ c (dest c i))
/-- The duties of sending the tile with number `i`; none if it is the device's own. -/
def TT (c : Dev nD) (i : Fin 16) : sProp 𝕄 :=
  if dest c i = c then iprop(emp)
  else iprop(dutyTok ER (cell c .ts) 0 (dest c i) ∗ dutyTok ER (cell (dest c i) (.tr c)) 0 one)
/-- The slot the tile with number `i` goes to. -/
def TL (c : Dev nD) (i : Fin 16) : sProp 𝕄 := if dest c i = c then iprop(emp) else ownsSome (dest c i : Thread nD τ) (rslot c)
/-- What sending the tile with number `i` takes. -/
def TS (c : Dev nD) (i : Fin 16) : sProp 𝕄 := iprop(TT (F := F) c i ∗ TL (F := F) c i)
/-- What it leaves: the right to wait for it, or the tile itself if it is the device's own. -/
def TD (c : Dev nD) (i : Fin 16) : sProp 𝕄 :=
  if dest c i = c then owns (c : Thread nD τ) (ytile c) fullShare (tile m ρ c c) else cred (tallyAt (cell c .ts) () (amt .ts))
/-- What sending message `j` of the first exchange takes, besides the message. -/
def MA (c : Dev nD) (j : Fin 3) : sProp 𝕄 :=
  iprop(ownsSome (to1 c j : Thread nD τ) (r1slot j) ∗ dutyTok ER (cell c (.a1s j)) 0 one ∗ dutyTok ER (cell (to1 c j) (.a1r j)) 0 one)
/-- What sending message `j` of the second exchange takes, besides the message. -/
def MB (c : Dev nD) (j : Fin 3) : sProp 𝕄 :=
  iprop(ownsSome (to2 c j : Thread nD τ) (r2slot j) ∗ dutyTok ER (cell c (.a2s j)) 0 one ∗ dutyTok ER (cell (to2 c j) (.a2r j)) 0 one)
/-- The right to wait once for the one round of an own cell. -/
def CW (c : Dev nD) (κ : Kind) : sProp 𝕄 := iprop(cred (tallyAt (cell c κ) () (amt κ)) ∗ atPos ER (cell c κ) 0 ∅ 0)
/-- Tile number `s` to be received. -/
def GT (c : Dev nD) (s : Fin 16) : sProp 𝕄 := CW c (.tr (nth c s))
/-- Tile number `s`, received. -/
def RS (c : Dev nD) (s : Fin 16) : sProp 𝕄 := owns (c : Thread nD τ) (rslot (nth c s)) fullShare (tile m ρ (nth c s) c)
/-- The counter of the arrival of tile number `s`, at zero. -/
def ZT (c : Dev nD) (s : Fin 16) : sProp 𝕄 := semVal (cell c (.tr (nth c s))) 0
/-- What copying row block number `s` out takes, besides the block. -/
def OW (c : Dev nD) (s : Fin 16) : sProp 𝕄 :=
  iprop(ownsSome (c : Thread nD τ) (orow (nth c s)) ∗ dutyTok ER (cell c (.out (nth c s))) 0 one ∗ atPos ER (cell c (.out (nth c s))) 0 ∅ 0)
/-- The same with the block's slot, not yet filled, -/
def GO (c : Dev nD) (s : Fin 16) : sProp 𝕄 := iprop(ownsSome (c : Thread nD τ) (qslot (nth c s)) ∗ OW c s)
/-- and filled. -/
def QH (c : Dev nD) (s : Fin 16) : sProp 𝕄 := iprop(owns (c : Thread nD τ) (qslot (nth c s)) fullShare (oblk m ρ c (nth c s)) ∗ OW c s)
/-- Row block number `s` on its way out. -/
def D2 (c : Dev nD) (s : Fin 16) : sProp 𝕄 := iprop(RS m ρ c s ∗ CW c (.out (nth c s)))
/-- Row block number `s` out. -/
def D3 (c : Dev nD) (s : Fin 16) : sProp 𝕄 :=
  iprop(RS m ρ c s ∗ (owns (c : Thread nD τ) (orow (nth c s)) fullShare (oblk m ρ c (nth c s)) ∗ owns (c : Thread nD τ) (qslot (nth c s)) fullShare (oblk m ρ c (nth c s)))
    ∗ semVal (cell c (.out (nth c s))) 0)
/-- What the barrier signal to device `d` takes. -/
def BP (c d : Dev nD) : sProp 𝕄 := iprop(dutyTok ER (cell d .bar) 0 c ∗ barPay (F := F) d c)
/-- The rights to wait for `n` sent tiles. -/
def CR (c : Dev nD) (n : ℕ) : sProp 𝕄 := iprop(∃ S : Finset (Dev nD), ⌜S.card = n⌝ ∗ bigSep S fun _ => cred (tallyAt (cell c .ts) () (amt .ts)))

/-- The number of tile `b` of step `t`. -/
def bi (t b : Fin 4) : Fin 16 := ⟨4 * t.val + b.val, by have := t.isLt; have := b.isLt; omega⟩

section Ops

variable (K : Dev nD × Fin 48 → ℕ) (c : Dev nD) {α : Type} {Q : α → sProp (MT nD τ sig Unit (Elt F) ℕ UU ℕ)}
  {k : PUnit → Prog (TpuEff nD τ sig (Elt F) Λ₀ .tc) α}

/-! ## Loads and stores -/

/-- Loading a slice held at any contents. -/
theorem wp_load_any {cs : CoreSpace} {s : Shape} {e : EltTy} {M : Memref sig .tc cs s e} {r : Rect s} {hr : ∀ a, r.stride a = 1} {hl : M.view.LoadsAt r}
    {k : (r.shape.Idx → Elt F e) → Prog (TpuEff nD τ sig (Elt F) Λ₀ .tc) α} :
    ownsSome (c : Thread nD τ) (M.slice r hr)
      ⊢ iprop((∀ X, ownsSome (c : Thread nD τ) (M.slice r hr) -∗ WP c (k X) Q) -∗ WP c (.op (.load M r hl) k) Q) := by
  unfold ownsSome
  iintro ⟨%X, H⟩ Hk
  iapply (wp_load_slice 𝒱₀ (c : Thread nD τ) none Set.univ) $$ H
  iintro H
  iapply Hk
  iexists X; iexact H

/-- Loading a squeezed slice held at any contents. -/
theorem wp_load_any_squeezed {cs : CoreSpace} {s : Shape} {e : EltTy} {M : Memref sig .tc cs s e} {r : Rect s} {hr : ∀ a, r.stride a = 1} {hl : M.view.LoadsAt r}
    {s' : Shape} {h : r.shape.Squeezes s'} {k : (r.shape.Idx → Elt F e) → Prog (TpuEff nD τ sig (Elt F) Λ₀ .tc) α} :
    ownsSome (c : Thread nD τ) ((M.slice r hr).squeeze s' h)
      ⊢ iprop((∀ X, ownsSome (c : Thread nD τ) ((M.slice r hr).squeeze s' h) -∗ WP c (k X) Q) -∗ WP c (.op (.load M r hl) k) Q) := by
  unfold ownsSome
  iintro ⟨%X, H⟩ Hk
  iapply (wp_load_squeezed 𝒱₀ (c : Thread nD τ) none Set.univ) $$ H
  iintro H
  iapply Hk
  iexists X; iexact H

/-- Loading the chunk of step `t` from its staging slot. -/
theorem wp_ldw (kk : Fin 2) (t : Fin 4) {o : Fin 3 → ℕ} {p : ∀ a, o a + S1x4096x512.size a ≤ S2x4096x512.size a} (ho : o = ![kk.val, 0, 0])
    {hl : bufM.view.LoadsAt (Rect.unit (s := S2x4096x512) o S1x4096x512.size p)}
    {k : (S1x4096x512.Idx → Elt F .f32) → Prog (TpuEff nD τ sig (Elt F) Λ₀ .tc) α} :
    WB m ρ c kk t ⊢ iprop((WB m ρ c kk t -∗ WP c (k (wld m ρ c (chunk c t))) Q)
      -∗ WP c (.op (.load bufM (Rect.unit (s := S2x4096x512) o S1x4096x512.size p) hl) k) Q) := by
  subst ho
  exact wp_load_squeezed 𝒱₀ (c : Thread nD τ) none Set.univ

/-- Loading the columns of step `t` before they are stored. -/
theorem wp_ldy (t : Fin 4) {o : Fin 2 → ℕ} {p : ∀ a, o a + S256x512.size a ≤ S256x2048.size a} (ho : o = ![0, 512 * (chunk c t).val])
    {hl : ysM.view.LoadsAt (Rect.unit (s := S256x2048) o S256x512.size p)}
    {k : (S256x512.Idx → Elt F .bf16) → Prog (TpuEff nD τ sig (Elt F) Λ₀ .tc) α} :
    YC (F := F) c t ⊢ iprop((∀ X, YC (F := F) c t -∗ WP c (k X) Q)
      -∗ WP c (.op (.load ysM (Rect.unit (s := S256x2048) o S256x512.size p) hl) k) Q) := by
  subst ho
  exact wp_load_any c

theorem dest_bi (c : Dev nD) (t b : Fin 4) : (dest c (bi t b)).val = 4 * (chunk c t).val + b.val := by revert c t b; decide +kernel

theorem sub_rest : ∀ (t : Fin 4) (a : Fin 2), a ≠ 1 → (![0, 128 * t.val] : Fin 2 → ℕ) a = 0 ∧ S256x128.size a = S256x512.size a := by decide
theorem sub_disjoint (j j' : Fin 4) (h : j ≠ j') : Disjoint (subR j).set (subR j').set :=
  blocks_disjoint (s := S256x512) (off := fun j : Fin 4 => ![0, 128 * j.val]) (size := S256x128.size) p_sub (1 : Fin 2) 128 (fun j => j.val) rfl
    (fun t => Nat.mul_comm 128 t.val) Fin.val_injective j j' h
theorem sub_cover : (Finset.univ : Finset (Fin 4)).biUnion (fun j => (subR j).set) = Finset.univ :=
  blocks_cover (s := S256x512) (off := fun j : Fin 4 => ![0, 128 * j.val]) (size := S256x128.size) p_sub (1 : Fin 2) 128 (fun j => j.val) rfl
    (by decide) (fun t => Nat.mul_comm 128 t.val) 4 rfl (fun j h => ⟨⟨j, h⟩, rfl⟩) sub_rest

/-- The columns of step `t` are its four tiles. -/
theorem ych_tiles (t : Fin 4) :
    (owns (c : Thread nD τ) (ycol (chunk c t)) fullShare (ych m ρ c (chunk c t)) : sProp 𝕄) ⊢ bigSep Finset.univ fun b : Fin 4 => TI m ρ c (bi t b) := by
  refine (owns_rects (c : Thread nD τ) (ycol (chunk c t)) fullShare subR (fun _ _ => rfl) sub_disjoint sub_cover (ych m ρ c (chunk c t))).trans ?_
  refine Entails.of_eq (BI.bigSep_congr fun b _ => ?_)
  have hd := dest_bi c t b
  have hq : (⟨(dest c (bi t b)).val / 4, by have := (dest c (bi t b)).isLt; have h2 : (dest c (bi t b)).val < 16 := this; omega⟩ : Fin 4) = chunk c t := by
    apply Fin.ext; show (dest c (bi t b)).val / 4 = _; have := b.isLt; omega
  have hr : (⟨(dest c (bi t b)).val % 4, Nat.mod_lt _ (by decide)⟩ : Fin 4) = b := by
    apply Fin.ext; show (dest c (bi t b)).val % 4 = _; have := b.isLt; omega
  have hX : tile m ρ c (dest c (bi t b)) = fun j => ych m ρ c (chunk c t) ((subR b).emb j) := by
    unfold tile; rw [hq, hr]; rfl
  unfold TI
  rw [hX]
  refine owns_slice_slice (c : Thread nD τ) ysM fullShare (p_ycol (chunk c t)) (p_sub b) (p_ytile (dest c (bi t b))) ?_ (fun _ => rfl) (fun _ => rfl) (fun _ => rfl) _
  intro a
  fin_cases a
  · rfl
  · show 128 * (dest c (bi t b)).val = 512 * (chunk c t).val + 128 * b.val
    omega

/-- Storing the columns of step `t` gives its four tiles. -/
theorem wp_sty (t : Fin 4) {o : Fin 2 → ℕ} {p : ∀ a, o a + S256x512.size a ≤ S256x2048.size a} (ho : o = ![0, 512 * (chunk c t).val])
    {w : S256x512.Idx → Elt F .bf16} (hw : w = ych m ρ c (chunk c t))
    {hx : (ysM.access (Rect.unit (s := S256x2048) o S256x512.size p)).Stores Finset.univ}
    {hm : (Finset.univ : Finset (Rect.unit (s := S256x2048) o S256x512.size p).shape.Idx) = Finset.univ ∨ ∀ a, (Rect.unit (s := S256x2048) o S256x512.size p).stride a = 1} :
    YC (F := F) c t ⊢ iprop(((TI m ρ c (bi t 0) ∗ TI m ρ c (bi t 1) ∗ TI m ρ c (bi t 2) ∗ TI m ρ c (bi t 3)) -∗ WP c (k ⟨⟩) Q)
      -∗ WP c (.op (.store ysM (Rect.unit (s := S256x2048) o S256x512.size p) w Finset.univ hx hm) k) Q) := by
  subst ho hw
  have h4 : (bigSep Finset.univ fun b : Fin 4 => TI m ρ c (bi t b))
      = iprop(TI m ρ c (bi t 0) ∗ TI m ρ c (bi t 1) ∗ TI m ρ c (bi t 2) ∗ TI m ρ c (bi t 3)) := by
    rw [bigSep_univ_eq_bigSepL [0, 1, 2, 3] (by decide) (by decide)]
    simp only [bigSepL_cons_cons, bigSepL_singleton]
    rfl
  unfold YC ownsSome
  iintro ⟨%X, H⟩ Hk
  iapply (wp_store_slice 𝒱₀ (c : Thread nD τ) none Set.univ) $$ H
  iintro H
  ihave H := (ych_tiles m ρ c t) $$ H
  ihave H := (Entails.of_eq h4) $$ H
  iapply Hk
  iexact H

/-! ## The chunks of `W` -/

/-- The way of staging slot `k`: two chunks to fetch; the first one on its way; it has come; the second one on its way; it has come. -/
def WS (c : Dev nD) (k : Fin 2) : ℕ → sProp 𝕄
  | 0 => iprop(FQ m ρ c (stepOf k 0) ∗ FQ m ρ c (stepOf k 1) ∗ ownsSome (c : Thread nD τ) (wslot k) ∗ dutyTok ER (cell c (.w k)) 0 one
      ∗ dutyTok ER (cell c (.w k)) 1 one ∗ atPos ER (cell c (.w k)) 0 ∅ 0)
  | 1 => iprop(FQ m ρ c (stepOf k 1) ∗ dutyTok ER (cell c (.w k)) 1 one ∗ CW (F := F) c (.w k))
  | 2 => iprop(FQ m ρ c (stepOf k 0) ∗ FQ m ρ c (stepOf k 1) ∗ WB m ρ c k (stepOf k 0) ∗ dutyTok ER (cell c (.w k)) 1 one
      ∗ atPos ER (cell c (.w k)) 1 ∅ 0 ∗ reached ER (cell c (.w k)) 1)
  | 3 => iprop(FQ m ρ c (stepOf k 0) ∗ cred (tallyAt (cell c (.w k)) () (amt (.w k))) ∗ atPos ER (cell c (.w k)) 1 ∅ 0)
  | _ => iprop(FQ m ρ c (stepOf k 0) ∗ FQ m ρ c (stepOf k 1) ∗ WB m ρ c k (stepOf k 1) ∗ semVal (cell c (.w k)) 0)

/-- Starting the copy of the chunk of step `t` into its staging slot. -/
theorem wp_fetch (kk : Fin 2) (r : ℕ) (t : Fin 4) (u : ℕ) (hu : u = 2 * r) (hr : r < 2) (ht : stepOf kk r = t) {o : Fin 2 → ℕ} {o' : Fin 3 → ℕ} {o'' : Fin 1 → ℕ}
    {p : ∀ a, o a + S4096x512.size a ≤ S4096x2048.size a} {p' : ∀ a, o' a + S1x4096x512.size a ≤ S2x4096x512.size a} {p'' : ∀ a, o'' a + S1.size a ≤ S2.size a}
    (ho : o = ![0, 512 * (chunk c t).val]) (ho' : o' = ![kk.val, 0, 0]) (ho'' : o'' = ![kk.val])
    {h₁ : (wM.slice (Rect.unit (s := S4096x2048) o S4096x512.size p) (fun _ => rfl)).view.WordExact}
    {h₂ : ((bufM.slice (Rect.unit (s := S2x4096x512) o' S1x4096x512.size p') (fun _ => rfl)).squeeze S4096x512 squeezes_S1x4096x512_S4096x512).view.WordExact}
    {h₃ : DmaTarget.Typed (nD := nD) (τ := τ) (p := .tc) .hbm (.dma ((cc0_scratch8.slice (Rect.unit (s := S2) o'' S1.size p'')).squeeze S_ squeezes_S1_S_).sem)
      (.here ((bufM.slice (Rect.unit (s := S2x4096x512) o' S1x4096x512.size p') (fun _ => rfl)).squeeze S4096x512 squeezes_S1x4096x512_S4096x512))} :
    recs m ρ K ⊢ iprop(WS m ρ c kk u -∗ (WS m ρ c kk (u + 1) -∗ WP c (k ⟨⟩) Q)
        -∗ WP c (.op (.enqueueDma (wM.slice (Rect.unit (s := S4096x2048) o S4096x512.size p) (fun _ => rfl))
          (.here ((bufM.slice (Rect.unit (s := S2x4096x512) o' S1x4096x512.size p') (fun _ => rfl)).squeeze S4096x512 squeezes_S1x4096x512_S4096x512))
          (.dma ((cc0_scratch8.slice (Rect.unit (s := S2) o'' S1.size p'')).squeeze S_ squeezes_S1_S_).sem) h₁ h₂ h₃) k) Q) := by
  subst hu ho ho' ht
  have hs := sem_w kk p'' ho''
  have hr0 := recs_reached m ρ K c (.w kk) (fun h => nomatch h)
  obtain rfl | rfl : r = 0 ∨ r = 1 := by omega
  · show _ ⊢ iprop(WS m ρ c kk 0 -∗ (WS m ρ c kk 1 -∗ _) -∗ _)
    simp only [WS, FQ, WB, CW, ownsSome]
    iintro #HR ⟨Hs, HF, ⟨%Y, Hd⟩, Ht, Ht', Ha⟩ Hk
    iapply (wp_local m ρ K c (.w kk) 0 (fun h => nomatch h) hs rfl (Finset.mem_singleton_self _)
      (src := wcol (chunk c (stepOf kk 0))) (dst := wslot kk) (q := fullShare) (X := wch m ρ c (chunk c (stepOf kk 0))) (Y := Y) BIBase.Entails.rfl) $$ [Hs Hd Ht]
    · isplitr; · iexact HR
      isplitl [Hs]; · iexact Hs
      isplitl [Hd]; · iexact Hd
      isplitl [Ht]; · iexact Ht
      iapply hr0; iexact HR
    iintro Hc
    iapply Hk
    isplitl [HF]; · iexact HF
    isplitl [Ht']; · iexact Ht'
    isplitl [Hc]; · iexact Hc
    iexact Ha
  · show _ ⊢ iprop(WS m ρ c kk 2 -∗ (WS m ρ c kk 3 -∗ _) -∗ _)
    simp only [WS, FQ, WB]
    iintro #HR ⟨HF, Hs, Hd, Ht, Ha, Hr⟩ Hk
    iapply (wp_local m ρ K c (.w kk) 1 (fun h => nomatch h) hs rfl (Finset.mem_singleton_self _)
      (src := wcol (chunk c (stepOf kk 1))) (dst := wslot kk) (q := fullShare) (X := wch m ρ c (chunk c (stepOf kk 1)))
      (Y := wch m ρ c (chunk c (stepOf kk 0))) BIBase.Entails.rfl) $$ [Hs Hd Ht Hr]
    · isplitr; · iexact HR
      isplitl [Hs]; · iexact Hs
      isplitl [Hd]; · iexact Hd
      isplitl [Ht]; · iexact Ht
      iexact Hr
    iintro Hc
    iapply Hk
    isplitl [HF]; · iexact HF
    isplitl [Hc]; · iexact Hc
    iexact Ha

/-- The wait for it. -/
theorem wp_fetched (kk : Fin 2) (r : ℕ) (u : ℕ) (hu : u = 2 * r + 1) (hr : r < 2) (n : ℕ) {o'' : Fin 1 → ℕ} {p'' : ∀ a, o'' a + S1.size a ≤ S2.size a} (ho'' : o'' = ![kk.val])
    {sp sp' : Space} {s₂ : Shape} {e' : EltTy} {src : Memref sig .tc sp' s₂ e'} {dst : Memref sig .tc sp S4096x512 .f32}
    {hsrc : src.view.WordExact} {hdst : dst.view.WordExact} :
    recs m ρ K ⊢ iprop(WS m ρ c kk u -∗ Ow (F := F) c n -∗ (WS m ρ c kk (u + 1) -∗ Ow (F := F) c n -∗ WP c (k ⟨⟩) Q)
        -∗ WP c (.op (.waitDma2 ((cc0_scratch8.slice (Rect.unit (s := S2) o'' S1.size p'')).squeeze S_ squeezes_S1_S_).sem src dst hsrc hdst) k) Q) := by
  have hN : dst.view.dmaCredit = (wslot 0).view.dmaCredit := rfl
  subst hu
  have hs := sem_w kk p'' ho''
  have hlv : ∀ i < n, lvK (.w kk) < dueLv (37 - i) := by
    intro i _; unfold dueLv; show 0 < _; split_ifs <;> decide
  obtain rfl | rfl : r = 0 ∨ r = 1 := by omega
  · show _ ⊢ iprop(WS m ρ c kk 1 -∗ _ -∗ (WS m ρ c kk 2 -∗ _) -∗ _)
    simp only [WS, CW, FQ, WB]
    iintro #HR ⟨HF, Ht, Hc, Ha⟩ HO Hk
    iapply (wp_round m ρ K c (.w kk) 0 n (fun h => nomatch h) hs hN rfl hlv) $$ [Hc HO Ha]
    · isplitr; · iexact HR
      isplitl [Hc]; · iexact Hc
      isplitl [HO]; · iexact HO
      iexact Ha
    unfold pay
    iintro ⟨HO, Ha, Hr, Hw, Hf⟩
    iapply Hk $$ [HF Ht Ha Hr Hw Hf] HO
    isplitl [Hf]; · iexact Hf
    isplitl [HF]; · iexact HF
    isplitl [Hw]; · iexact Hw
    isplitl [Ht]; · iexact Ht
    isplitl [Ha]; · iexact Ha
    iexact Hr
  · show _ ⊢ iprop(WS m ρ c kk 3 -∗ _ -∗ (WS m ρ c kk 4 -∗ _) -∗ _)
    simp only [WS, FQ, WB]
    iintro #HR ⟨HF, Hc, Ha⟩ HO Hk
    iapply (wp_last m ρ K c (.w kk) 1 n (fun h => nomatch h) hs hN rfl (fun r' hr => if_neg (by omega)) hlv) $$ [Hc HO Ha]
    · isplitr; · iexact HR
      isplitl [Hc]; · iexact Hc
      isplitl [HO]; · iexact HO
      iexact Ha
    unfold pay
    iintro ⟨HO, ⟨Hw, Hf⟩, Hz⟩
    iapply Hk $$ [HF Hz Hw Hf] HO
    isplitl [HF]; · iexact HF
    isplitl [Hf]; · iexact Hf
    isplitl [Hw]; · iexact Hw
    iexact Hz

/-- Loading it. -/
theorem wp_ldc (kk : Fin 2) (r : ℕ) (t : Fin 4) (u : ℕ) (hu : u = 2 * r + 2) (hr : r < 2) (ht : stepOf kk r = t)
    {o : Fin 3 → ℕ} {p : ∀ a, o a + S1x4096x512.size a ≤ S2x4096x512.size a} (ho : o = ![kk.val, 0, 0])
    {hl : bufM.view.LoadsAt (Rect.unit (s := S2x4096x512) o S1x4096x512.size p)}
    {k : (S1x4096x512.Idx → Elt F .f32) → Prog (TpuEff nD τ sig (Elt F) Λ₀ .tc) α} :
    WS m ρ c kk u ⊢ iprop((WS m ρ c kk u -∗ WP c (k (wld m ρ c (chunk c t))) Q)
      -∗ WP c (.op (.load bufM (Rect.unit (s := S2x4096x512) o S1x4096x512.size p) hl) k) Q) := by
  subst hu ht
  obtain rfl | rfl : r = 0 ∨ r = 1 := by omega
  · show WS m ρ c kk 2 ⊢ iprop((WS m ρ c kk 2 -∗ _) -∗ _)
    simp only [WS]
    iintro ⟨HF, HF', Hw, Hr⟩ Hk
    iapply (wp_ldw m ρ c kk (stepOf kk 0) ho) $$ Hw
    iintro Hw
    iapply Hk
    isplitl [HF]; · iexact HF
    isplitl [HF']; · iexact HF'
    isplitl [Hw]; · iexact Hw
    iexact Hr
  · show WS m ρ c kk 4 ⊢ iprop((WS m ρ c kk 4 -∗ _) -∗ _)
    simp only [WS]
    iintro ⟨HF, HF', Hw, Hr⟩ Hk
    iapply (wp_ldw m ρ c kk (stepOf kk 1) ho) $$ Hw
    iintro Hw
    iapply Hk
    isplitl [HF]; · iexact HF
    isplitl [HF']; · iexact HF'
    isplitl [Hw]; · iexact Hw
    iexact Hr

/-! ## The tiles sent -/

/-- Sending the tile with number `i`, unless it is the device's own. -/
theorem wp_tile {β : Type} (t b : Fin 4) (i : ℕ) (hi : i < 16) (hb : bi t b = ⟨i, hi⟩) (n : ℕ) (hn : due c (37 - n) = tileDue c ⟨i, hi⟩) {C : Prop} [Decidable C] (hC : C ↔ dest c ⟨i, hi⟩ ≠ c)
    {o₁ : Fin 1 → ℕ} {o₂ : Fin 3 → ℕ} {o₃ : Fin 2 → ℕ}
    {p₁ : C → ∀ a, o₁ a + S1.size a ≤ S16.size a} {p₂ : C → ∀ a, o₂ a + S1x256x128.size a ≤ S16x256x128.size a} {p₃ : C → ∀ a, o₃ a + S256x128.size a ≤ S256x2048.size a}
    {v : ℕ} {pv : C → v < nD} (hv : C → v = (dest c ⟨i, hi⟩).val) (ho₁ : o₁ = ![c.val]) (ho₂ : o₂ = ![c.val, 0, 0]) (ho₃ : o₃ = ![0, 128 * (dest c ⟨i, hi⟩).val])
    {h₁ : ∀ h : C, (ysM.slice (Rect.unit (s := S256x2048) o₃ S256x128.size (p₃ h)) (fun _ => rfl)).view.WordExact}
    {h₂ : ∀ h : C, ((rvM.slice (Rect.unit (s := S16x256x128) o₂ S1x256x128.size (p₂ h)) (fun _ => rfl)).squeeze S256x128 squeezes_S1x256x128_S256x128).view.WordExact}
    {h₃ : ∀ h : C, DmaTarget.Typed (nD := nD) (τ := τ) (p := .tc) .vmem (.dma ((cc0_scratch10.slice (Rect.unit (s := S16) o₁ S1.size (p₁ h))).squeeze S_ squeezes_S1_S_).sem)
      (.remote (Dev.tc (⟨v, pv h⟩ : Dev nD)) ((rvM.slice (Rect.unit (s := S16x256x128) o₂ S1x256x128.size (p₂ h)) (fun _ => rfl)).squeeze S256x128 squeezes_S1x256x128_S256x128)
        (.dma (cc0_scratch9 : DmaSems sig S_).sem))}
    {k : Prog (TpuEff nD τ sig (Elt F) Λ₀ .tc) β} {Q : β → sProp (MT nD τ sig Unit (Elt F) ℕ UU ℕ)} :
    recs m ρ K ⊢ iprop(TI m ρ c (bi t b) -∗ pend (TS (F := F) c) i -∗ past (TD m ρ c) i -∗ Ow (F := F) c (n + 1)
        -∗ (pend (TS (F := F) c) (i + 1) -∗ past (TD m ρ c) (i + 1) -∗ Ow (F := F) c n -∗ WP c k Q)
        -∗ WP c (if h : C then
            .op (.enqueueDma (ysM.slice (Rect.unit (s := S256x2048) o₃ S256x128.size (p₃ h)) (fun _ => rfl))
              (.remote (Dev.tc (⟨v, pv h⟩ : Dev nD)) ((rvM.slice (Rect.unit (s := S16x256x128) o₂ S1x256x128.size (p₂ h)) (fun _ => rfl)).squeeze S256x128 squeezes_S1x256x128_S256x128)
                (.dma (cc0_scratch9 : DmaSems sig S_).sem))
              (.dma ((cc0_scratch10.slice (Rect.unit (s := S16) o₁ S1.size (p₁ h))).squeeze S_ squeezes_S1_S_).sem) (h₁ h) (h₂ h) (h₃ h)) (fun _ => k)
          else k) Q) := by
  rw [pend_pop (TS (F := F) c) hi, past_push (TD m ρ c) hi, hb]
  by_cases h : C
  · have hne := hC.mp h
    have hdue : due c (37 - n) = tallyAt (cell (dest c ⟨i, hi⟩) (.tr c)) () (amt (.tr c)) := by rw [hn]; unfold tileDue; rw [if_neg hne]
    have hd₂ : one ∈ duties (dest c ⟨i, hi⟩) (.tr c) 0 := by
      show one ∈ if 0 = 0 ∧ c ≠ dest c ⟨i, hi⟩ then {one} else ∅
      rw [if_pos ⟨rfl, fun h' => hne h'.symm⟩]; exact Finset.mem_singleton_self _
    have hd₁ : dest c ⟨i, hi⟩ ∈ duties c .ts 0 := by
      simp only [duties, if_true]; exact Finset.mem_erase.mpr ⟨hne, Finset.mem_univ _⟩
    have hs := sem_tr c (p₁ h) ho₁
    subst ho₂ ho₃
    rw [dif_pos h]
    rw [show TS (F := F) c ⟨i, hi⟩ = iprop((dutyTok ER (cell c .ts) 0 (dest c ⟨i, hi⟩) ∗ dutyTok ER (cell (dest c ⟨i, hi⟩) (.tr c)) 0 one)
      ∗ ownsSome (dest c ⟨i, hi⟩ : Thread nD τ) (rslot c)) from by unfold TS TT TL; rw [if_neg hne, if_neg hne],
      show TD m ρ c ⟨i, hi⟩ = cred (tallyAt (cell c .ts) () (amt .ts)) from if_neg hne]
    unfold TI
    iintro #HR Hs ⟨⟨⟨Ht₁, Ht₂⟩, Hd⟩, HT⟩ HP HO Hk
    iapply (wp_away m ρ K c (n := ⟨v, pv h⟩) (dest c ⟨i, hi⟩) (Fin.ext (hv h)) .ts (.tr c) (dest c ⟨i, hi⟩) (fun h => nomatch h) (fun h => nomatch h)
      sem_ts hs rfl rfl hd₁ hd₂ n hdue (q := fullShare) (X := tile m ρ c (dest c ⟨i, hi⟩)) (src := ytile (dest c ⟨i, hi⟩)) (dst := rslot c)
      BIBase.Entails.rfl BIBase.Entails.rfl) $$ [Hs Hd HO Ht₁ Ht₂]
    · isplitr; · iexact HR
      isplitl [Hs]; · iexact Hs
      isplitl [Hd]; · iexact Hd
      isplitl [HO]; · iexact HO
      isplitl [Ht₁]; · iexact Ht₁
      iexact Ht₂
    iintro ⟨Hc, HO⟩
    iapply Hk $$ HT [Hc HP] HO
    isplitl [Hc]; · iexact Hc
    iexact HP
  · have he : dest c ⟨i, hi⟩ = c := by by_contra h'; exact h (hC.mpr h')
    have hO : rem c (n + 1) = rem c n := by
      show rem c n + due c (37 - n) = rem c n
      rw [hn]; unfold tileDue; rw [if_pos he, add_zero]
    have hTD : TI m ρ c ⟨i, hi⟩ = TD m ρ c ⟨i, hi⟩ := by unfold TI TD; rw [if_pos he, he]
    rw [dif_neg h, hTD]
    unfold Ow
    rw [hO]
    iintro #HR Hs ⟨-, HT⟩ HP HO Hk
    iapply Hk $$ HT [Hs HP] HO
    isplitl [Hs]; · iexact Hs
    iexact HP

end Ops

end Cert.KernelIdeal.Body
-- ==== Proof.KernelIdeal.OpsB.lean ====
/-
# The kernel's operations, continued

The barrier signals, the two maximum exchanges, the tiles received, the row blocks copied out, and the waits for the tiles
sent.
-/
module

public import proofs.«01_k».proof.Proof.KernelIdeal.Ops

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The debts by number -/

theorem due_bar (c : Dev nD) (i : ℕ) (hi : i < 16) : due c i = tallyAt (cell ⟨i, hi⟩ .bar) () 1 := by unfold due; rw [dif_pos hi]
theorem due_tile (c : Dev nD) (i : ℕ) (hi : i < 12) (n : ℕ) (hn : n + i = 21) : due c (37 - n) = tileDue c ⟨i, by omega⟩ := by
  unfold due
  rw [dif_neg (by omega), dif_pos (by omega)]
  congr 1; apply Fin.ext; show 37 - n - 16 = i; omega
theorem due_own (c : Dev nD) (i : ℕ) (hi : 12 ≤ i) (hi' : i < 16) (n : ℕ) (hn : n + i = 18) : due c (37 - n) = tileDue c ⟨i, hi'⟩ := by
  unfold due
  rw [dif_neg (by omega), dif_neg (by omega), dif_neg (by omega), dif_pos (by omega)]
  congr 1; apply Fin.ext; show 37 - n - 19 = i; omega
theorem due_a1 (c : Dev nD) (j : Fin 3) (n : ℕ) (hn : n + j.val = 9) : due c (37 - n) = tallyAt (cell (to1 c j) (.a1r j)) () (amt (.a1r j)) := by
  have hj := j.isLt
  unfold due
  rw [dif_neg (by omega), dif_neg (by omega), dif_pos (by omega)]
  have e : (⟨37 - n - 28, by omega⟩ : Fin 3) = j := Fin.ext (by show 37 - n - 28 = j.val; omega)
  rw [e]; rfl
theorem due_a2 (c : Dev nD) (j : Fin 3) (n : ℕ) (hn : n + j.val = 2) : due c (37 - n) = tallyAt (cell (to2 c j) (.a2r j)) () (amt (.a2r j)) := by
  have hj := j.isLt
  unfold due
  rw [dif_neg (by omega), dif_neg (by omega), dif_neg (by omega), dif_neg (by omega), dif_pos (by omega)]
  have e : (⟨37 - n - 35, by omega⟩ : Fin 3) = j := Fin.ext (by show 37 - n - 35 = j.val; omega)
  rw [e]; rfl

section Ops

variable (K : Dev nD × Fin 48 → ℕ) (c : Dev nD) {α : Type} {Q : α → sProp (MT nD τ sig Unit (Elt F) ℕ UU ℕ)}
  {k : PUnit → Prog (TpuEff nD τ sig (Elt F) Λ₀ .tc) α}

/-- The barrier signal to the device with number `i`. -/
theorem wp_signal (i : ℕ) (hi : i < 16) (n : ℕ) (hn : n + i = 37) {v : ℕ} {pv : v < nD} (hv : v = i) {w : ℕ} (hw : w = 1) :
    recs m ρ K ⊢ iprop(pend (BP (F := F) c) i -∗ Ow (F := F) c (n + 1)
        -∗ (pend (BP (F := F) c) (i + 1) -∗ Ow (F := F) c n -∗ WP c (k ⟨⟩) Q)
        -∗ WP c (.op (.semSignal ((⟨v, pv⟩ : Dev nD), .tc) barS w) k) Q) := by
  rw [pend_pop (BP (F := F) c) hi]
  unfold BP
  iintro #HR ⟨⟨Ht, Hp⟩, HB⟩ HO Hk
  iapply (wp_sig m ρ K c ⟨i, hi⟩ ⟨v, pv⟩ (Fin.ext hv) hw n (by rw [show 37 - n = i by omega]; exact due_bar c i hi)) $$ [HO Ht Hp]
  · isplitr; · iexact HR
    isplitl [HO]; · iexact HO
    isplitl [Ht]; · iexact Ht
    iexact Hp
  iintro HO
  iapply Hk $$ HB HO

/-! ## The maximum exchanges -/

/-- What sending message `j` of the first exchange takes, -/
def PA (c : Dev nD) (j : Fin 3) : sProp 𝕄 := iprop(MA (F := F) c j ∗ atPos ER (cell c (.a1s j)) 0 ∅ 0)
/-- with the message's share; -/
def XA (c : Dev nD) (j : Fin 3) : sProp 𝕄 := iprop(owns (c : Thread nD τ) m1M (share j) (msg1 m ρ c) ∗ PA (F := F) c j)
/-- the right to wait for it, -/
def CA (c : Dev nD) (j : Fin 3) : sProp 𝕄 := CW c (.a1s j)
/-- and its share back. -/
def EA (c : Dev nD) (j : Fin 3) : sProp 𝕄 := iprop(owns (c : Thread nD τ) m1M (share j) (msg1 m ρ c) ∗ semVal (cell c (.a1s j)) 0)
/-- Slot `j` of the first exchange, to be received, -/
def RA (c : Dev nD) (j : Fin 3) : sProp 𝕄 := CW c (.a1r j)
/-- and received. -/
def GA (c : Dev nD) (j : Fin 3) : sProp 𝕄 := iprop(owns (c : Thread nD τ) (r1slot j) fullShare (msg1 m ρ (from1 c j)) ∗ semVal (cell c (.a1r j)) 0)
/-- The same for the second exchange. -/
def PB (c : Dev nD) (j : Fin 3) : sProp 𝕄 := iprop(MB (F := F) c j ∗ atPos ER (cell c (.a2s j)) 0 ∅ 0)
def XB (c : Dev nD) (j : Fin 3) : sProp 𝕄 := iprop(owns (c : Thread nD τ) m2M (share j) (msg2 m ρ c) ∗ PB (F := F) c j)
def CB (c : Dev nD) (j : Fin 3) : sProp 𝕄 := CW c (.a2s j)
def EB (c : Dev nD) (j : Fin 3) : sProp 𝕄 := iprop(owns (c : Thread nD τ) m2M (share j) (msg2 m ρ c) ∗ semVal (cell c (.a2s j)) 0)
def RB (c : Dev nD) (j : Fin 3) : sProp 𝕄 := CW c (.a2r j)
def GB (c : Dev nD) (j : Fin 3) : sProp 𝕄 := iprop(owns (c : Thread nD τ) (r2slot j) fullShare (msg2 m ρ (from2 c j)) ∗ semVal (cell c (.a2r j)) 0)

/-- A message held whole splits into its three shares, -/
theorem shares_split {sp : Space} {s : Shape} {e : EltTy} (M : Memref sig .tc sp s e) (X : s.Idx → Elt F e) :
    (owns (c : Thread nD τ) M fullShare X : sProp 𝕄)
      ⊢ iprop(owns (c : Thread nD τ) M (share 0) X ∗ owns (c : Thread nD τ) M (share 1) X ∗ owns (c : Thread nD τ) M (share 2) X) := by
  iintro H
  ihave H := (owns_halves (c : Thread nD τ) M fullShare X).1 $$ H
  icases H with ⟨H0, H⟩
  ihave H := (owns_halves (c : Thread nD τ) M fullShare.right X).1 $$ H
  icases H with ⟨H1, H2⟩
  isplitl [H0]; · iexact H0
  isplitl [H1]; · iexact H1
  iexact H2

/-- and the shares join. -/
theorem shares_join {sp : Space} {s : Shape} {e : EltTy} (M : Memref sig .tc sp s e) (X : s.Idx → Elt F e) :
    iprop(owns (c : Thread nD τ) M (share 0) X ∗ owns (c : Thread nD τ) M (share 1) X ∗ owns (c : Thread nD τ) M (share 2) X)
      ⊢ (owns (c : Thread nD τ) M fullShare X : sProp 𝕄) := by
  iintro ⟨H0, H1, H2⟩
  iapply (owns_halves (c : Thread nD τ) M fullShare X).2
  isplitl [H0]; · iexact H0
  iapply (owns_halves (c : Thread nD τ) M fullShare.right X).2
  isplitl [H1]; · iexact H1
  iexact H2

/-- Sending message `j` of the first exchange. -/
theorem wp_msg1 (j : ℕ) (hj : j < 3) (n : ℕ) (hn : n + j = 9) {o₁ o₂ : Fin 1 → ℕ} {o₃ : Fin 3 → ℕ}
    {p₁ : ∀ a, o₁ a + S1.size a ≤ S6.size a} {p₂ : ∀ a, o₂ a + S1.size a ≤ S6.size a} {p₃ : ∀ a, o₃ a + S1x8x128.size a ≤ S3x8x128.size a}
    {v : ℕ} {pv : v < nD} (hv : v = (to1 c ⟨j, hj⟩).val) (ho₁ : o₁ = ![j]) (ho₂ : o₂ = ![j + 3]) (ho₃ : o₃ = ![j, 0, 0])
    {h₁ : m1M.view.WordExact}
    {h₂ : ((r1M.slice (Rect.unit (s := S3x8x128) o₃ S1x8x128.size p₃) (fun _ => rfl)).squeeze S8x128 squeezes_S1x8x128_S8x128).view.WordExact}
    {h₃ : DmaTarget.Typed (nD := nD) (τ := τ) (p := .tc) .vmem (.dma ((cc0_scratch11.slice (Rect.unit (s := S6) o₂ S1.size p₂)).squeeze S_ squeezes_S1_S_).sem)
      (.remote (Dev.tc (⟨v, pv⟩ : Dev nD)) ((r1M.slice (Rect.unit (s := S3x8x128) o₃ S1x8x128.size p₃) (fun _ => rfl)).squeeze S8x128 squeezes_S1x8x128_S8x128)
        (.dma ((cc0_scratch11.slice (Rect.unit (s := S6) o₁ S1.size p₁)).squeeze S_ squeezes_S1_S_).sem))} :
    recs m ρ K ⊢ iprop(pend (XA m ρ c) j -∗ past (CA (F := F) c) j -∗ Ow (F := F) c (n + 1)
        -∗ (pend (XA m ρ c) (j + 1) -∗ past (CA (F := F) c) (j + 1) -∗ Ow (F := F) c n -∗ WP c (k ⟨⟩) Q)
        -∗ WP c (.op (.enqueueDma m1M
            (.remote (Dev.tc (⟨v, pv⟩ : Dev nD)) ((r1M.slice (Rect.unit (s := S3x8x128) o₃ S1x8x128.size p₃) (fun _ => rfl)).squeeze S8x128 squeezes_S1x8x128_S8x128)
              (.dma ((cc0_scratch11.slice (Rect.unit (s := S6) o₁ S1.size p₁)).squeeze S_ squeezes_S1_S_).sem))
            (.dma ((cc0_scratch11.slice (Rect.unit (s := S6) o₂ S1.size p₂)).squeeze S_ squeezes_S1_S_).sem) h₁ h₂ h₃) k) Q) := by
  have hs₁ := sem_a1s ⟨j, hj⟩ p₁ ho₁
  have hs₂ := sem_a1r ⟨j, hj⟩ p₂ ho₂
  subst ho₃
  have hpay : owns (to1 c ⟨j, hj⟩ : Thread nD τ) (r1slot ⟨j, hj⟩) fullShare (msg1 m ρ c) ⊢ pay m ρ (to1 c ⟨j, hj⟩) (.a1r ⟨j, hj⟩) 0 one := by
    show _ ⊢ owns (to1 c ⟨j, hj⟩ : Thread nD τ) (r1slot ⟨j, hj⟩) fullShare (msg1 m ρ (from1 (to1 c ⟨j, hj⟩) ⟨j, hj⟩))
    rw [from1_to1]
  rw [pend_pop (XA m ρ c) hj, past_push (CA (F := F) c) hj]
  unfold XA PA MA CA CW
  iintro #HR ⟨⟨Hs, ⟨Hd, Ht₁, Ht₂⟩, Ha⟩, HX⟩ HC HO Hk
  iapply (wp_away m ρ K c (n := ⟨v, pv⟩) (to1 c ⟨j, hj⟩) (Fin.ext hv) (.a1s ⟨j, hj⟩) (.a1r ⟨j, hj⟩) one (fun h => nomatch h) (fun h => nomatch h)
    hs₁ hs₂ rfl rfl (Finset.mem_singleton_self _) (Finset.mem_singleton_self _) n (due_a1 c ⟨j, hj⟩ n hn) (q := share ⟨j, hj⟩) (X := msg1 m ρ c)
    (src := m1M) (dst := r1slot ⟨j, hj⟩) BIBase.Entails.rfl hpay) $$ [Hs Hd HO Ht₁ Ht₂]
  · isplitr; · iexact HR
    isplitl [Hs]; · iexact Hs
    isplitl [Hd]; · iexact Hd
    isplitl [HO]; · iexact HO
    isplitl [Ht₁]; · iexact Ht₁
    iexact Ht₂
  iintro ⟨Hc, HO⟩
  iapply Hk $$ HX [Hc Ha HC] HO
  isplitl [Hc Ha]
  · isplitl [Hc]; · iexact Hc
    iexact Ha
  iexact HC

/-- Sending message `j` of the second exchange. -/
theorem wp_msg2 (j : ℕ) (hj : j < 3) (n : ℕ) (hn : n + j = 2) {o₁ o₂ : Fin 1 → ℕ} {o₃ : Fin 3 → ℕ}
    {p₁ : ∀ a, o₁ a + S1.size a ≤ S6.size a} {p₂ : ∀ a, o₂ a + S1.size a ≤ S6.size a} {p₃ : ∀ a, o₃ a + S1x8x128.size a ≤ S3x8x128.size a}
    {v : ℕ} {pv : v < nD} (hv : v = (to2 c ⟨j, hj⟩).val) (ho₁ : o₁ = ![j]) (ho₂ : o₂ = ![j + 3]) (ho₃ : o₃ = ![j, 0, 0])
    {h₁ : m2M.view.WordExact}
    {h₂ : ((r2M.slice (Rect.unit (s := S3x8x128) o₃ S1x8x128.size p₃) (fun _ => rfl)).squeeze S8x128 squeezes_S1x8x128_S8x128).view.WordExact}
    {h₃ : DmaTarget.Typed (nD := nD) (τ := τ) (p := .tc) .vmem (.dma ((cc0_scratch12.slice (Rect.unit (s := S6) o₂ S1.size p₂)).squeeze S_ squeezes_S1_S_).sem)
      (.remote (Dev.tc (⟨v, pv⟩ : Dev nD)) ((r2M.slice (Rect.unit (s := S3x8x128) o₃ S1x8x128.size p₃) (fun _ => rfl)).squeeze S8x128 squeezes_S1x8x128_S8x128)
        (.dma ((cc0_scratch12.slice (Rect.unit (s := S6) o₁ S1.size p₁)).squeeze S_ squeezes_S1_S_).sem))} :
    recs m ρ K ⊢ iprop(pend (XB m ρ c) j -∗ past (CB (F := F) c) j -∗ Ow (F := F) c (n + 1)
        -∗ (pend (XB m ρ c) (j + 1) -∗ past (CB (F := F) c) (j + 1) -∗ Ow (F := F) c n -∗ WP c (k ⟨⟩) Q)
        -∗ WP c (.op (.enqueueDma m2M
            (.remote (Dev.tc (⟨v, pv⟩ : Dev nD)) ((r2M.slice (Rect.unit (s := S3x8x128) o₃ S1x8x128.size p₃) (fun _ => rfl)).squeeze S8x128 squeezes_S1x8x128_S8x128)
              (.dma ((cc0_scratch12.slice (Rect.unit (s := S6) o₁ S1.size p₁)).squeeze S_ squeezes_S1_S_).sem))
            (.dma ((cc0_scratch12.slice (Rect.unit (s := S6) o₂ S1.size p₂)).squeeze S_ squeezes_S1_S_).sem) h₁ h₂ h₃) k) Q) := by
  have hs₁ := sem_a2s ⟨j, hj⟩ p₁ ho₁
  have hs₂ := sem_a2r ⟨j, hj⟩ p₂ ho₂
  subst ho₃
  have hpay : owns (to2 c ⟨j, hj⟩ : Thread nD τ) (r2slot ⟨j, hj⟩) fullShare (msg2 m ρ c) ⊢ pay m ρ (to2 c ⟨j, hj⟩) (.a2r ⟨j, hj⟩) 0 one := by
    show _ ⊢ owns (to2 c ⟨j, hj⟩ : Thread nD τ) (r2slot ⟨j, hj⟩) fullShare (msg2 m ρ (from2 (to2 c ⟨j, hj⟩) ⟨j, hj⟩))
    rw [from2_to2]
  rw [pend_pop (XB m ρ c) hj, past_push (CB (F := F) c) hj]
  unfold XB PB MB CB CW
  iintro #HR ⟨⟨Hs, ⟨Hd, Ht₁, Ht₂⟩, Ha⟩, HX⟩ HC HO Hk
  iapply (wp_away m ρ K c (n := ⟨v, pv⟩) (to2 c ⟨j, hj⟩) (Fin.ext hv) (.a2s ⟨j, hj⟩) (.a2r ⟨j, hj⟩) one (fun h => nomatch h) (fun h => nomatch h)
    hs₁ hs₂ rfl rfl (Finset.mem_singleton_self _) (Finset.mem_singleton_self _) n (due_a2 c ⟨j, hj⟩ n hn) (q := share ⟨j, hj⟩) (X := msg2 m ρ c)
    (src := m2M) (dst := r2slot ⟨j, hj⟩) BIBase.Entails.rfl hpay) $$ [Hs Hd HO Ht₁ Ht₂]
  · isplitr; · iexact HR
    isplitl [Hs]; · iexact Hs
    isplitl [Hd]; · iexact Hd
    isplitl [HO]; · iexact HO
    isplitl [Ht₁]; · iexact Ht₁
    iexact Ht₂
  iintro ⟨Hc, HO⟩
  iapply Hk $$ HX [Hc Ha HC] HO
  isplitl [Hc Ha]
  · isplitl [Hc]; · iexact Hc
    iexact Ha
  iexact HC

/-- A wait for the one copy onto an own cell that has one round with one duty. -/
theorem wp_await {sp sp' : Space} {s s' : Shape} {e e' : EltTy} {sem : DmaSem sig} {src : Memref sig .tc sp' s' e'} {dst : Memref sig .tc sp s e}
    {hsrc : src.view.WordExact} {hdst : dst.view.WordExact} (κ : Kind) (n : ℕ) (P Z : sProp 𝕄)
    (hP : pay m ρ c κ 0 one ⊢ P) (hZ : (semVal (cell c κ) 0 : sProp 𝕄) ⊢ Z) (hκ : κ ≠ .none) (hs : SemLoc.dma sem = semOf κ) (hN : dst.view.dmaCredit = amt κ)
    (hone : duties c κ 0 = {one}) (hno : ∀ r', 0 + 1 ≤ r' → duties c κ r' = ∅) (hlv : ∀ i < n, lvK κ < dueLv (37 - i)) :
    recs m ρ K ⊢ iprop(CW (F := F) c κ -∗ Ow (F := F) c n -∗ (P -∗ Z -∗ Ow (F := F) c n -∗ WP c (k ⟨⟩) Q)
        -∗ WP c (.op (.waitDma2 sem src dst hsrc hdst) k) Q) := by
  unfold CW
  iintro #HR ⟨Hc, Ha⟩ HO Hk
  iapply (wp_last m ρ K c κ 0 n hκ hs hN hone hno hlv) $$ [Hc HO Ha]
  · isplitr; · iexact HR
    isplitl [Hc]; · iexact Hc
    isplitl [HO]; · iexact HO
    iexact Ha
  iintro ⟨HO, Hp, Hz⟩
  ihave Hp := hP $$ Hp
  ihave Hz := hZ $$ Hz
  iapply Hk $$ Hp Hz HO

/-- Three slots of messages, together. -/
theorem glue3 (M : Memref sig .tc .vmem S3x8x128 .f32) (X : Fin 3 → S8x128.Idx → Elt F .f32) :
    (iprop(owns (c : Thread nD τ) ((M.slice (amR 0) (fun _ => rfl)).squeeze S8x128 squeezes_S1x8x128_S8x128) fullShare (X 0)
        ∗ owns (c : Thread nD τ) ((M.slice (amR 1) (fun _ => rfl)).squeeze S8x128 squeezes_S1x8x128_S8x128) fullShare (X 1)
        ∗ owns (c : Thread nD τ) ((M.slice (amR 2) (fun _ => rfl)).squeeze S8x128 squeezes_S1x8x128_S8x128) fullShare (X 2)) : sProp 𝕄)
      ⊢ owns (c : Thread nD τ) M fullShare (glue amR am_cover fun j => wide squeezes_S1x8x128_S8x128 (X j)) := by
  have h (j : Fin 3) : (owns (c : Thread nD τ) ((M.slice (amR j) (fun _ => rfl)).squeeze S8x128 squeezes_S1x8x128_S8x128) fullShare (X j) : sProp 𝕄)
      = owns (c : Thread nD τ) (M.slice (amR j) (fun _ => rfl)) fullShare (wide squeezes_S1x8x128_S8x128 (X j)) := by
    rw [← owns_squeeze (c : Thread nD τ) (M.slice (amR j) (fun _ => rfl)) fullShare squeezes_S1x8x128_S8x128]
    unfold wide
    simp only [Equiv.symm_apply_apply]
  rw [h 0, h 1, h 2]
  refine BIBase.Entails.trans (Entails.of_eq ?_) (owns_glue (c : Thread nD τ) M fullShare amR (fun _ _ => rfl) am_disjoint am_cover _)
  rw [bigSep_univ_eq_bigSepL [0, 1, 2] (by decide) (by decide)]
  simp only [bigSepL_cons_cons, bigSepL_singleton]
  rfl

/-- Loading the first rows of the messages received. -/
theorem wp_ldrow {M : Memref sig .tc .vmem S3x8x128 .f32} {X : S3x8x128.Idx → Elt F .f32} {p : ∀ a, (![0, 0, 0] : Fin 3 → ℕ) a + S3x1x128.size a ≤ S3x8x128.size a}
    {hl : M.view.LoadsAt (Rect.unit (s := S3x8x128) ![0, 0, 0] S3x1x128.size p)}
    {k : (S3x1x128.Idx → Elt F .f32) → Prog (TpuEff nD τ sig (Elt F) Λ₀ .tc) α} (Y : Vec F S3x1x128 .f32)
    (hY : Y = fun j => X ((Rect.unit (s := S3x8x128) ![0, 0, 0] S3x1x128.size p).emb j)) :
    owns (c : Thread nD τ) M fullShare X ⊢ iprop((owns (c : Thread nD τ) M fullShare X -∗ WP c (k Y) Q)
      -∗ WP c (.op (.load M (Rect.unit (s := S3x8x128) ![0, 0, 0] S3x1x128.size p) hl) k) Q) := by
  subst hY
  exact wp_load_part 𝒱₀ (c : Thread nD τ) none Set.univ

/-- Loading a whole buffer held at any contents. -/
theorem wp_ldwhole {cs : CoreSpace} {s : Shape} {e : EltTy} {M : Memref sig .tc cs s e} {off : Fin s.rank → Nat} (hoff : off = fun _ => 0)
    {inb : ∀ a, off a + s.size a ≤ s.size a} {hl : M.view.LoadsAt (Rect.unit off s.size inb)}
    {k : (s.Idx → Elt F e) → Prog (TpuEff nD τ sig (Elt F) Λ₀ .tc) α} :
    ownsSome (c : Thread nD τ) M ⊢ iprop((∀ X, ownsSome (c : Thread nD τ) M -∗ WP c (k X) Q)
      -∗ WP c (.op (.load M (Rect.unit off s.size inb) hl) k) Q) := by
  unfold ownsSome
  iintro ⟨%X, H⟩ Hk
  iapply (wp_load_whole 𝒱₀ (c : Thread nD τ) none Set.univ hoff) $$ H
  iintro H
  iapply Hk
  iexists X; iexact H

/-- Storing a message: its three shares. -/
theorem wp_stmsg {M : Memref sig .tc .vmem S8x128 .f32} {w : S8x128.Idx → Elt F .f32} {off : Fin 2 → Nat} (hoff : off = fun _ => 0)
    {inb : ∀ a, off a + S8x128.size a ≤ S8x128.size a} {hx : (M.access (Rect.unit (s := S8x128) off S8x128.size inb)).Stores Finset.univ}
    {hm : (Finset.univ : Finset (Rect.unit (s := S8x128) off S8x128.size inb).shape.Idx) = Finset.univ ∨ ∀ a, (Rect.unit (s := S8x128) off S8x128.size inb).stride a = 1}
    (X : S8x128.Idx → Elt F .f32) (hw : w = X) (P P' : Fin 3 → sProp 𝕄) (hP : P' = fun j => iprop(owns (c : Thread nD τ) M (share j) X ∗ P j)) :
    ownsSome (c : Thread nD τ) M ⊢ iprop(pend P 0 -∗ (pend P' 0 -∗ WP c (k ⟨⟩) Q)
        -∗ WP c (.op (.store M (Rect.unit (s := S8x128) off S8x128.size inb) w Finset.univ hx hm) k) Q) := by
  subst hw hP
  rw [pend_zero, pend_zero]
  have e : (bigSep Finset.univ fun j => iprop(owns (c : Thread nD τ) M (share j) w ∗ P j))
      = iprop((owns (c : Thread nD τ) M (share 0) w ∗ P 0) ∗ (owns (c : Thread nD τ) M (share 1) w ∗ P 1) ∗ (owns (c : Thread nD τ) M (share 2) w ∗ P 2)) := by
    rw [bigSep_univ_eq_bigSepL [0, 1, 2] (by decide) (by decide)]
    simp only [bigSepL_cons_cons, bigSepL_singleton]
    rfl
  have e' : bigSep Finset.univ P = iprop(P 0 ∗ P 1 ∗ P 2) := by
    rw [bigSep_univ_eq_bigSepL [0, 1, 2] (by decide) (by decide)]
    simp only [bigSepL_cons_cons, bigSepL_singleton]
    rfl
  rw [e, e']
  unfold ownsSome
  iintro ⟨%X, H⟩ ⟨P0, P1, P2⟩ Hk
  iapply (wp_store_whole 𝒱₀ (c : Thread nD τ) none Set.univ hoff) $$ H
  iintro H
  ihave H := (shares_split c M w) $$ H
  icases H with ⟨H0, H1, H2⟩
  iapply Hk
  isplitl [H0 P0]
  · isplitl [H0]; · iexact H0
    iexact P0
  isplitl [H1 P1]
  · isplitl [H1]; · iexact H1
    iexact P1
  isplitl [H2]; · iexact H2
  iexact P2

/-- The wait for slot `j` of the first exchange. -/
theorem wp_slot1 (j : ℕ) (hj : j < 3) (n : ℕ) {o : Fin 1 → ℕ} {p : ∀ a, o a + S1.size a ≤ S6.size a} (ho : o = ![j + 3])
    {sp sp' : Space} {s₂ : Shape} {e' : EltTy} {src : Memref sig .tc sp' s₂ e'} {dst : Memref sig .tc sp S8x128 .f32}
    {hsrc : src.view.WordExact} {hdst : dst.view.WordExact} (hlv : ∀ i < n, 2 < dueLv (37 - i)) :
    recs m ρ K ⊢ iprop(pend (RA (F := F) c) j -∗ past (GA m ρ c) j -∗ Ow (F := F) c n
        -∗ (pend (RA (F := F) c) (j + 1) -∗ past (GA m ρ c) (j + 1) -∗ Ow (F := F) c n -∗ WP c (k ⟨⟩) Q)
        -∗ WP c (.op (.waitDma2 ((cc0_scratch11.slice (Rect.unit (s := S6) o S1.size p)).squeeze S_ squeezes_S1_S_).sem src dst hsrc hdst) k) Q) := by
  have hN : dst.view.dmaCredit = (r1slot 0).view.dmaCredit := rfl
  rw [pend_pop (RA (F := F) c) hj, past_push (GA m ρ c) hj]
  unfold RA GA
  iintro #HR ⟨HC, HG⟩ HZ HO Hk
  iapply (wp_await m ρ K c (.a1r ⟨j, hj⟩) n (owns (c : Thread nD τ) (r1slot ⟨j, hj⟩) fullShare (msg1 m ρ (from1 c ⟨j, hj⟩))) iprop(semVal (cell c (.a1r ⟨j, hj⟩)) 0)
    BIBase.Entails.rfl BIBase.Entails.rfl (fun h => nomatch h) (sem_a1r ⟨j, hj⟩ p ho) hN rfl (fun r' hr => if_neg (by omega)) hlv) $$ HR HC HO
  iintro Hp Hz HO
  iapply Hk $$ HG [Hp Hz HZ] HO
  isplitl [Hp Hz]
  · isplitl [Hp]; · iexact Hp
    iexact Hz
  iexact HZ

/-- The wait for message `j` of the first exchange to be sent. -/
theorem wp_sent1 (j : ℕ) (hj : j < 3) {o : Fin 1 → ℕ} {p : ∀ a, o a + S1.size a ≤ S6.size a} (ho : o = ![j])
    {sp sp' : Space} {s₂ : Shape} {e' : EltTy} {src : Memref sig .tc sp' s₂ e'} {dst : Memref sig .tc sp S8x128 .f32}
    {hsrc : src.view.WordExact} {hdst : dst.view.WordExact} :
    recs m ρ K ⊢ iprop(pend (CA (F := F) c) j -∗ past (EA m ρ c) j -∗ Ow (F := F) c 0
        -∗ (pend (CA (F := F) c) (j + 1) -∗ past (EA m ρ c) (j + 1) -∗ Ow (F := F) c 0 -∗ WP c (k ⟨⟩) Q)
        -∗ WP c (.op (.waitDma2 ((cc0_scratch11.slice (Rect.unit (s := S6) o S1.size p)).squeeze S_ squeezes_S1_S_).sem src dst hsrc hdst) k) Q) := by
  have hN : dst.view.dmaCredit = (r1slot 0).view.dmaCredit := rfl
  rw [pend_pop (CA (F := F) c) hj, past_push (EA m ρ c) hj]
  unfold CA EA
  iintro #HR ⟨HC, HG⟩ HZ HO Hk
  iapply (wp_await m ρ K c (.a1s ⟨j, hj⟩) 0 (owns (c : Thread nD τ) m1M (share ⟨j, hj⟩) (msg1 m ρ c)) iprop(semVal (cell c (.a1s ⟨j, hj⟩)) 0)
    BIBase.Entails.rfl BIBase.Entails.rfl (fun h => nomatch h) (sem_a1s ⟨j, hj⟩ p ho) hN rfl (fun r' hr => if_neg (by omega))
    (fun i hi => absurd hi (Nat.not_lt_zero i))) $$ HR HC HO
  iintro Hp Hz HO
  iapply Hk $$ HG [Hp Hz HZ] HO
  isplitl [Hp Hz]
  · isplitl [Hp]; · iexact Hp
    iexact Hz
  iexact HZ

/-- The slots of the first exchange, received, together. -/
theorem slots1 : past (GA m ρ c) 3 ⊢ iprop(owns (c : Thread nD τ) r1M fullShare (got1 m ρ c) ∗ bigSep Finset.univ fun j : Fin 3 => semVal (cell c (.a1r j)) 0) := by
  rw [past_end]
  have e' : bigSep Finset.univ (GA m ρ c) = iprop((bigSep Finset.univ fun j : Fin 3 => (owns (c : Thread nD τ) (r1slot j) fullShare (msg1 m ρ (from1 c j)) : sProp 𝕄))
      ∗ bigSep Finset.univ fun j : Fin 3 => semVal (cell c (.a1r j)) 0) := BI.bigSep_sep _ _ _
  have e : (bigSep Finset.univ fun j : Fin 3 => (owns (c : Thread nD τ) (r1slot j) fullShare (msg1 m ρ (from1 c j)) : sProp 𝕄))
      = iprop(owns (c : Thread nD τ) (r1slot 0) fullShare (msg1 m ρ (from1 c 0)) ∗ owns (c : Thread nD τ) (r1slot 1) fullShare (msg1 m ρ (from1 c 1))
        ∗ owns (c : Thread nD τ) (r1slot 2) fullShare (msg1 m ρ (from1 c 2))) := by
    rw [bigSep_univ_eq_bigSepL [0, 1, 2] (by decide) (by decide)]
    simp only [bigSepL_cons_cons, bigSepL_singleton]
    rfl
  have g := glue3 (F := F) c r1M fun j => msg1 m ρ (from1 c j)
  iintro H
  ihave H := (Entails.of_eq e') $$ H
  icases H with ⟨H, HZ⟩
  isplitl [H]
  · ihave H := (Entails.of_eq e) $$ H
    unfold got1
    iapply g
    iexact H
  iexact HZ

/-- The wait for slot `j` of the second exchange. -/
theorem wp_slot2 (j : ℕ) (hj : j < 3) (n : ℕ) {o : Fin 1 → ℕ} {p : ∀ a, o a + S1.size a ≤ S6.size a} (ho : o = ![j + 3])
    {sp sp' : Space} {s₂ : Shape} {e' : EltTy} {src : Memref sig .tc sp' s₂ e'} {dst : Memref sig .tc sp S8x128 .f32}
    {hsrc : src.view.WordExact} {hdst : dst.view.WordExact} (hlv : ∀ i < n, 3 < dueLv (37 - i)) :
    recs m ρ K ⊢ iprop(pend (RB (F := F) c) j -∗ past (GB m ρ c) j -∗ Ow (F := F) c n
        -∗ (pend (RB (F := F) c) (j + 1) -∗ past (GB m ρ c) (j + 1) -∗ Ow (F := F) c n -∗ WP c (k ⟨⟩) Q)
        -∗ WP c (.op (.waitDma2 ((cc0_scratch12.slice (Rect.unit (s := S6) o S1.size p)).squeeze S_ squeezes_S1_S_).sem src dst hsrc hdst) k) Q) := by
  have hN : dst.view.dmaCredit = (r2slot 0).view.dmaCredit := rfl
  rw [pend_pop (RB (F := F) c) hj, past_push (GB m ρ c) hj]
  unfold RB GB
  iintro #HR ⟨HC, HG⟩ HZ HO Hk
  iapply (wp_await m ρ K c (.a2r ⟨j, hj⟩) n (owns (c : Thread nD τ) (r2slot ⟨j, hj⟩) fullShare (msg2 m ρ (from2 c ⟨j, hj⟩))) iprop(semVal (cell c (.a2r ⟨j, hj⟩)) 0)
    BIBase.Entails.rfl BIBase.Entails.rfl (fun h => nomatch h) (sem_a2r ⟨j, hj⟩ p ho) hN rfl (fun r' hr => if_neg (by omega)) hlv) $$ HR HC HO
  iintro Hp Hz HO
  iapply Hk $$ HG [Hp Hz HZ] HO
  isplitl [Hp Hz]
  · isplitl [Hp]; · iexact Hp
    iexact Hz
  iexact HZ

/-- The wait for message `j` of the second exchange to be sent. -/
theorem wp_sent2 (j : ℕ) (hj : j < 3) {o : Fin 1 → ℕ} {p : ∀ a, o a + S1.size a ≤ S6.size a} (ho : o = ![j])
    {sp sp' : Space} {s₂ : Shape} {e' : EltTy} {src : Memref sig .tc sp' s₂ e'} {dst : Memref sig .tc sp S8x128 .f32}
    {hsrc : src.view.WordExact} {hdst : dst.view.WordExact} :
    recs m ρ K ⊢ iprop(pend (CB (F := F) c) j -∗ past (EB m ρ c) j -∗ Ow (F := F) c 0
        -∗ (pend (CB (F := F) c) (j + 1) -∗ past (EB m ρ c) (j + 1) -∗ Ow (F := F) c 0 -∗ WP c (k ⟨⟩) Q)
        -∗ WP c (.op (.waitDma2 ((cc0_scratch12.slice (Rect.unit (s := S6) o S1.size p)).squeeze S_ squeezes_S1_S_).sem src dst hsrc hdst) k) Q) := by
  have hN : dst.view.dmaCredit = (r2slot 0).view.dmaCredit := rfl
  rw [pend_pop (CB (F := F) c) hj, past_push (EB m ρ c) hj]
  unfold CB EB
  iintro #HR ⟨HC, HG⟩ HZ HO Hk
  iapply (wp_await m ρ K c (.a2s ⟨j, hj⟩) 0 (owns (c : Thread nD τ) m2M (share ⟨j, hj⟩) (msg2 m ρ c)) iprop(semVal (cell c (.a2s ⟨j, hj⟩)) 0)
    BIBase.Entails.rfl BIBase.Entails.rfl (fun h => nomatch h) (sem_a2s ⟨j, hj⟩ p ho) hN rfl (fun r' hr => if_neg (by omega))
    (fun i hi => absurd hi (Nat.not_lt_zero i))) $$ HR HC HO
  iintro Hp Hz HO
  iapply Hk $$ HG [Hp Hz HZ] HO
  isplitl [Hp Hz]
  · isplitl [Hp]; · iexact Hp
    iexact Hz
  iexact HZ

/-- The slots of the second exchange, received, together. -/
theorem slots2 : past (GB m ρ c) 3 ⊢ iprop(owns (c : Thread nD τ) r2M fullShare (got2 m ρ c) ∗ bigSep Finset.univ fun j : Fin 3 => semVal (cell c (.a2r j)) 0) := by
  rw [past_end]
  have e' : bigSep Finset.univ (GB m ρ c) = iprop((bigSep Finset.univ fun j : Fin 3 => (owns (c : Thread nD τ) (r2slot j) fullShare (msg2 m ρ (from2 c j)) : sProp 𝕄))
      ∗ bigSep Finset.univ fun j : Fin 3 => semVal (cell c (.a2r j)) 0) := BI.bigSep_sep _ _ _
  have e : (bigSep Finset.univ fun j : Fin 3 => (owns (c : Thread nD τ) (r2slot j) fullShare (msg2 m ρ (from2 c j)) : sProp 𝕄))
      = iprop(owns (c : Thread nD τ) (r2slot 0) fullShare (msg2 m ρ (from2 c 0)) ∗ owns (c : Thread nD τ) (r2slot 1) fullShare (msg2 m ρ (from2 c 1))
        ∗ owns (c : Thread nD τ) (r2slot 2) fullShare (msg2 m ρ (from2 c 2))) := by
    rw [bigSep_univ_eq_bigSepL [0, 1, 2] (by decide) (by decide)]
    simp only [bigSepL_cons_cons, bigSepL_singleton]
    rfl
  have g := glue3 (F := F) c r2M fun j => msg2 m ρ (from2 c j)
  iintro H
  ihave H := (Entails.of_eq e') $$ H
  icases H with ⟨H, HZ⟩
  isplitl [H]
  · ihave H := (Entails.of_eq e) $$ H
    unfold got2
    iapply g
    iexact H
  iexact HZ

/-! ## The tiles received and the row blocks copied out -/

/-- The tile number `s` as it is loaded. -/
def got (c : Dev nD) (s : ℕ) (h : s < 16) : Vec F S1x256x128 .bf16 := wide squeezes_S1x256x128_S256x128 (tile m ρ (nth c ⟨s, h⟩) c)
/-- Before tile number `s` is received: those before it are on their way out. -/
def LA (c : Dev nD) (s : ℕ) : sProp 𝕄 := iprop(pend (GT (F := F) c) s ∗ past (ZT (F := F) c) s ∗ pend (GO (F := F) c) s ∗ past (D2 m ρ c) s)
/-- Tile number `s` is received. -/
def LB (c : Dev nD) (s : ℕ) (h : s < 16) : sProp 𝕄 :=
  iprop(pend (GT (F := F) c) (s + 1) ∗ past (ZT (F := F) c) (s + 1) ∗ RS m ρ c ⟨s, h⟩ ∗ pend (GO (F := F) c) s ∗ past (D2 m ρ c) s)
/-- Row block number `s` is stored. -/
def LC (c : Dev nD) (s : ℕ) (h : s < 16) : sProp 𝕄 :=
  iprop(pend (GT (F := F) c) (s + 1) ∗ past (ZT (F := F) c) (s + 1) ∗ RS m ρ c ⟨s, h⟩ ∗ QH m ρ c ⟨s, h⟩ ∗ pend (GO (F := F) c) (s + 1) ∗ past (D2 m ρ c) s)

/-- The wait for tile number `s`. -/
theorem wp_got (s : ℕ) (h : s < 16) (h0 : s ≠ 0) {o : Fin 1 → ℕ} {p : ∀ a, o a + S1.size a ≤ S16.size a} (ho : o = ![(nth c ⟨s, h⟩).val])
    {sp sp' : Space} {s₂ : Shape} {e' : EltTy} {src : Memref sig .tc sp' s₂ e'} {dst : Memref sig .tc sp S256x128 .bf16}
    {hsrc : src.view.WordExact} {hdst : dst.view.WordExact} :
    recs m ρ K ⊢ iprop(LA m ρ c s -∗ Ow (F := F) c 0 -∗ (LB m ρ c s h -∗ Ow (F := F) c 0 -∗ WP c (k ⟨⟩) Q)
        -∗ WP c (.op (.waitDma2 ((cc0_scratch10.slice (Rect.unit (s := S16) o S1.size p)).squeeze S_ squeezes_S1_S_).sem src dst hsrc hdst) k) Q) := by
  have hN : dst.view.dmaCredit = (rslot 0).view.dmaCredit := rfl
  have hne : nth c ⟨s, h⟩ ≠ c := nth_ne c ⟨s, h⟩ (fun h' => h0 (congrArg Fin.val h'))
  unfold LA LB
  rw [pend_pop (GT (F := F) c) h, past_push (ZT (F := F) c) h]
  unfold GT
  iintro #HR ⟨⟨HC, HG⟩, HZ, Hr⟩ HO Hk
  iapply (wp_await m ρ K c (.tr (nth c ⟨s, h⟩)) 0 (RS m ρ c ⟨s, h⟩) (ZT (F := F) c ⟨s, h⟩) BIBase.Entails.rfl BIBase.Entails.rfl (fun h => nomatch h)
    (sem_tr (nth c ⟨s, h⟩) p ho) hN (if_pos ⟨rfl, hne⟩) (fun r' hr => if_neg (by rintro ⟨h1, -⟩; omega)) (fun i hi => absurd hi (Nat.not_lt_zero i))) $$ HR HC HO
  iintro Hp Hz HO
  iapply Hk $$ [HG HZ Hp Hz Hr] HO
  isplitl [HG]; · iexact HG
  isplitl [HZ Hz]
  · isplitl [Hz]; · iexact Hz
    iexact HZ
  isplitl [Hp]; · iexact Hp
  iexact Hr

/-- Loading tile number `s`. -/
theorem wp_ldr (s : ℕ) (h : s < 16) {o : Fin 3 → ℕ} {p : ∀ a, o a + S1x256x128.size a ≤ S16x256x128.size a} (ho : o = ![(nth c ⟨s, h⟩).val, 0, 0])
    {hl : rvM.view.LoadsAt (Rect.unit (s := S16x256x128) o S1x256x128.size p)}
    {k : (S1x256x128.Idx → Elt F .bf16) → Prog (TpuEff nD τ sig (Elt F) Λ₀ .tc) α} :
    LB m ρ c s h ⊢ iprop((LB m ρ c s h -∗ WP c (k (got m ρ c s h)) Q)
      -∗ WP c (.op (.load rvM (Rect.unit (s := S16x256x128) o S1x256x128.size p) hl) k) Q) := by
  subst ho
  unfold LB RS
  iintro ⟨HG, HZ, Hs, Hr⟩ Hk
  iapply (wp_load_squeezed 𝒱₀ (c : Thread nD τ) none Set.univ) $$ Hs
  iintro Hs
  iapply Hk
  isplitl [HG]; · iexact HG
  isplitl [HZ]; · iexact HZ
  isplitl [Hs]; · iexact Hs
  iexact Hr

/-- Loading the slot of row block number `s` before it is stored. -/
theorem wp_ldq (s : ℕ) (h : s < 16) {o : Fin 3 → ℕ} {p : ∀ a, o a + S1x256x128.size a ≤ S16x256x128.size a} (ho : o = ![(nth c ⟨s, h⟩).val, 0, 0])
    {hl : qsM.view.LoadsAt (Rect.unit (s := S16x256x128) o S1x256x128.size p)}
    {k : (S1x256x128.Idx → Elt F .f32) → Prog (TpuEff nD τ sig (Elt F) Λ₀ .tc) α} :
    LB m ρ c s h ⊢ iprop((∀ X, LB m ρ c s h -∗ WP c (k X) Q)
      -∗ WP c (.op (.load qsM (Rect.unit (s := S16x256x128) o S1x256x128.size p) hl) k) Q) := by
  subst ho
  unfold LB
  rw [pend_pop (GO (F := F) c) h]
  unfold GO
  iintro ⟨HG, HZ, Hs, ⟨⟨Hq, HW⟩, HO⟩, HP⟩ Hk
  iapply (wp_load_any_squeezed c) $$ Hq
  iintro %X Hq
  iapply Hk
  isplitl [HG]; · iexact HG
  isplitl [HZ]; · iexact HZ
  isplitl [Hs]; · iexact Hs
  isplitr [HP]
  · isplitr [HO]
    · isplitl [Hq]; · iexact Hq
      iexact HW
    iexact HO
  iexact HP

/-- Storing row block number `s` in its slot. -/
theorem wp_stq (s : ℕ) (h : s < 16) {o : Fin 3 → ℕ} {p : ∀ a, o a + S1x256x128.size a ≤ S16x256x128.size a} (ho : o = ![(nth c ⟨s, h⟩).val, 0, 0])
    {w : S1x256x128.Idx → Elt F .f32} (hw : w = k0_pay23 (scl m ρ c) (got m ρ c s h))
    {hx : (qsM.access (Rect.unit (s := S16x256x128) o S1x256x128.size p)).Stores Finset.univ}
    {hm : (Finset.univ : Finset (Rect.unit (s := S16x256x128) o S1x256x128.size p).shape.Idx) = Finset.univ ∨ ∀ a, (Rect.unit (s := S16x256x128) o S1x256x128.size p).stride a = 1} :
    LB m ρ c s h ⊢ iprop((LC m ρ c s h -∗ WP c (k ⟨⟩) Q)
      -∗ WP c (.op (.store qsM (Rect.unit (s := S16x256x128) o S1x256x128.size p) w Finset.univ hx hm) k) Q) := by
  subst ho hw
  unfold LB LC
  rw [pend_pop (GO (F := F) c) h]
  unfold GO QH ownsSome
  iintro ⟨HG, HZ, Hs, ⟨⟨⟨%X, Hq⟩, HW⟩, HO⟩, HP⟩ Hk
  iapply (wp_store_squeezed 𝒱₀ (c : Thread nD τ) none Set.univ) $$ Hq
  iintro Hq
  iapply Hk
  isplitl [HG]; · iexact HG
  isplitl [HZ]; · iexact HZ
  isplitl [Hs]; · iexact Hs
  isplitl [Hq HW]
  · isplitl [Hq]; · iexact Hq
    iexact HW
  isplitl [HO]; · iexact HO
  iexact HP

/-- Starting the copy of row block number `s` into the result. -/
theorem wp_out (s : ℕ) (h : s < 16) {o₁ : Fin 3 → ℕ} {o₂ : Fin 2 → ℕ} {o₃ : Fin 1 → ℕ}
    {p₁ : ∀ a, o₁ a + S1x256x128.size a ≤ S16x256x128.size a} {p₂ : ∀ a, o₂ a + S256x128.size a ≤ S4096x128.size a} {p₃ : ∀ a, o₃ a + S1.size a ≤ S16.size a}
    (ho₁ : o₁ = ![(nth c ⟨s, h⟩).val, 0, 0]) (ho₂ : o₂ = ![256 * (nth c ⟨s, h⟩).val, 0]) (ho₃ : o₃ = ![(nth c ⟨s, h⟩).val])
    {h₁ : ((qsM.slice (Rect.unit (s := S16x256x128) o₁ S1x256x128.size p₁) (fun _ => rfl)).squeeze S256x128 squeezes_S1x256x128_S256x128).view.WordExact}
    {h₂ : (oM.slice (Rect.unit (s := S4096x128) o₂ S256x128.size p₂) (fun _ => rfl)).view.WordExact}
    {h₃ : DmaTarget.Typed (nD := nD) (τ := τ) (p := .tc) .vmem (.dma ((cc0_scratch13.slice (Rect.unit (s := S16) o₃ S1.size p₃)).squeeze S_ squeezes_S1_S_).sem)
      (.here (oM.slice (Rect.unit (s := S4096x128) o₂ S256x128.size p₂) (fun _ => rfl)))} :
    recs m ρ K ⊢ iprop(LC m ρ c s h -∗ (LA m ρ c (s + 1) -∗ WP c (k ⟨⟩) Q)
        -∗ WP c (.op (.enqueueDma ((qsM.slice (Rect.unit (s := S16x256x128) o₁ S1x256x128.size p₁) (fun _ => rfl)).squeeze S256x128 squeezes_S1x256x128_S256x128)
            (.here (oM.slice (Rect.unit (s := S4096x128) o₂ S256x128.size p₂) (fun _ => rfl)))
            (.dma ((cc0_scratch13.slice (Rect.unit (s := S16) o₃ S1.size p₃)).squeeze S_ squeezes_S1_S_).sem) h₁ h₂ h₃) k) Q) := by
  have hs := sem_out (nth c ⟨s, h⟩) p₃ ho₃
  have hr := recs_reached m ρ K c (.out (nth c ⟨s, h⟩)) (fun h => nomatch h)
  subst ho₁ ho₂
  unfold LC LA
  rw [past_push (D2 m ρ c) h]
  unfold QH OW D2 CW ownsSome
  iintro #HR ⟨HG, HZ, HS, ⟨Hq, ⟨%Y, Ho⟩, Ht, Ha⟩, HQ, HP⟩ Hk
  iapply (wp_local m ρ K c (.out (nth c ⟨s, h⟩)) 0 (fun h => nomatch h) hs rfl (Finset.mem_singleton_self _)
    (src := qslot (nth c ⟨s, h⟩)) (dst := orow (nth c ⟨s, h⟩)) (q := fullShare) (X := oblk m ρ c (nth c ⟨s, h⟩)) (Y := Y) BIBase.Entails.rfl) $$ [Hq Ho Ht]
  · isplitr; · iexact HR
    isplitl [Hq]; · iexact Hq
    isplitl [Ho]; · iexact Ho
    isplitl [Ht]; · iexact Ht
    iapply hr; iexact HR
  iintro Hc
  iapply Hk
  isplitl [HG]; · iexact HG
  isplitl [HZ]; · iexact HZ
  isplitl [HQ]; · iexact HQ
  isplitl [HS Hc Ha]
  · isplitl [HS]; · iexact HS
    isplitl [Hc]; · iexact Hc
    iexact Ha
  iexact HP

/-- The last row block is on its way. -/
theorem la_end : LA m ρ c 16 ⊢ iprop(past (ZT (F := F) c) 16 ∗ pend (D2 m ρ c) 0 ∗ past (D3 m ρ c) 0) := by
  unfold LA
  rw [past_zero, pend_zero, ← past_end]
  iintro ⟨-, HZ, -, HP⟩
  isplitl [HZ]; · iexact HZ
  isplitl [HP]; · iexact HP
  iempintro

/-- The wait for row block number `s` to be out. -/
theorem wp_outw (s : ℕ) (h : s < 16) {o : Fin 1 → ℕ} {p : ∀ a, o a + S1.size a ≤ S16.size a} (ho : o = ![(nth c ⟨s, h⟩).val])
    {sp sp' : Space} {s₂ : Shape} {e' : EltTy} {src : Memref sig .tc sp' s₂ e'} {dst : Memref sig .tc sp S256x128 .f32}
    {hsrc : src.view.WordExact} {hdst : dst.view.WordExact} :
    recs m ρ K ⊢ iprop(pend (D2 m ρ c) s -∗ past (D3 m ρ c) s -∗ Ow (F := F) c 0
        -∗ (pend (D2 m ρ c) (s + 1) -∗ past (D3 m ρ c) (s + 1) -∗ Ow (F := F) c 0 -∗ WP c (k ⟨⟩) Q)
        -∗ WP c (.op (.waitDma2 ((cc0_scratch13.slice (Rect.unit (s := S16) o S1.size p)).squeeze S_ squeezes_S1_S_).sem src dst hsrc hdst) k) Q) := by
  have hN : dst.view.dmaCredit = (orow 0).view.dmaCredit := rfl
  rw [pend_pop (D2 m ρ c) h, past_push (D3 m ρ c) h]
  unfold D2 D3
  iintro #HR ⟨⟨HS, HC⟩, HG⟩ HZ HO Hk
  iapply (wp_await m ρ K c (.out (nth c ⟨s, h⟩)) 0
    iprop(owns (c : Thread nD τ) (orow (nth c ⟨s, h⟩)) fullShare (oblk m ρ c (nth c ⟨s, h⟩)) ∗ owns (c : Thread nD τ) (qslot (nth c ⟨s, h⟩)) fullShare (oblk m ρ c (nth c ⟨s, h⟩)))
    iprop(semVal (cell c (.out (nth c ⟨s, h⟩))) 0) BIBase.Entails.rfl BIBase.Entails.rfl (fun h => nomatch h) (sem_out (nth c ⟨s, h⟩) p ho) hN
    rfl (fun r' hr => if_neg (by omega)) (fun i hi => absurd hi (Nat.not_lt_zero i))) $$ HR HC HO
  iintro Hp Hz HO
  iapply Hk $$ HG [HS Hp Hz HZ] HO
  isplitl [HS Hp Hz]
  · isplitl [HS]; · iexact HS
    isplitl [Hp]; · iexact Hp
    iexact Hz
  iexact HZ

/-- Storing the device's own tile in its slot. -/
theorem wp_stown {o : Fin 3 → ℕ} {p : ∀ a, o a + S1x256x128.size a ≤ S16x256x128.size a} (ho : o = ![(nth c 0).val, 0, 0])
    {w : S1x256x128.Idx → Elt F .bf16} (hw : flat squeezes_S1x256x128_S256x128 w = tile m ρ c c)
    {hx : (rvM.access (Rect.unit (s := S16x256x128) o S1x256x128.size p)).Stores Finset.univ}
    {hm : (Finset.univ : Finset (Rect.unit (s := S16x256x128) o S1x256x128.size p).shape.Idx) = Finset.univ ∨ ∀ a, (Rect.unit (s := S16x256x128) o S1x256x128.size p).stride a = 1} :
    ownsSome (c : Thread nD τ) (rslot (nth c 0)) ⊢ iprop((RS m ρ c 0 -∗ WP c (k ⟨⟩) Q)
      -∗ WP c (.op (.store rvM (Rect.unit (s := S16x256x128) o S1x256x128.size p) w Finset.univ hx hm) k) Q) := by
  subst ho
  have e : tile m ρ (nth c 0) c = flat squeezes_S1x256x128_S256x128 w := by rw [hw, nth_zero]
  unfold RS ownsSome
  rw [e]
  iintro ⟨%X, Hq⟩ Hk
  iapply (wp_store_squeezed 𝒱₀ (c : Thread nD τ) none Set.univ) $$ Hq
  iexact Hk

/-- Loading the slot of the device's own tile before it is stored. -/
theorem wp_ldown {o : Fin 3 → ℕ} {p : ∀ a, o a + S1x256x128.size a ≤ S16x256x128.size a} (ho : o = ![(nth c 0).val, 0, 0])
    {hl : rvM.view.LoadsAt (Rect.unit (s := S16x256x128) o S1x256x128.size p)}
    {k : (S1x256x128.Idx → Elt F .bf16) → Prog (TpuEff nD τ sig (Elt F) Λ₀ .tc) α} :
    ownsSome (c : Thread nD τ) (rslot (nth c 0)) ⊢ iprop((∀ X, ownsSome (c : Thread nD τ) (rslot (nth c 0)) -∗ WP c (k X) Q)
      -∗ WP c (.op (.load rvM (Rect.unit (s := S16x256x128) o S1x256x128.size p) hl) k) Q) := by
  subst ho
  exact wp_load_any_squeezed c

/-- Loading the device's own tile out of the product. -/
theorem wp_ldtile {o : Fin 2 → ℕ} {p : ∀ a, o a + S256x128.size a ≤ S256x2048.size a} (ho : o = ![0, 128 * c.val])
    {hl : ysM.view.LoadsAt (Rect.unit (s := S256x2048) o S256x128.size p)}
    {k : (S256x128.Idx → Elt F .bf16) → Prog (TpuEff nD τ sig (Elt F) Λ₀ .tc) α} :
    owns (c : Thread nD τ) (ytile c) fullShare (tile m ρ c c) ⊢ iprop((owns (c : Thread nD τ) (ytile c) fullShare (tile m ρ c c) -∗ WP c (k (tile m ρ c c)) Q)
      -∗ WP c (.op (.load ysM (Rect.unit (s := S256x2048) o S256x128.size p) hl) k) Q) := by
  subst ho
  exact wp_load_slice 𝒱₀ (c : Thread nD τ) none Set.univ

/-- The device's own tile and the rights to wait for the fifteen others. -/
theorem td_split : (bigSep Finset.univ fun i => TD m ρ c i) ⊢ iprop(owns (c : Thread nD τ) (ytile c) fullShare (tile m ρ c c) ∗ CR (F := F) c 15) := by
  have e : (bigSep Finset.univ fun i => TD m ρ c i)
      = bigSep Finset.univ fun d : Dev nD => if d = c then (owns (c : Thread nD τ) (ytile c) fullShare (tile m ρ c c) : sProp 𝕄) else cred (tallyAt (cell c .ts) () (amt .ts)) :=
    (BI.bigSep_univ_equiv (Equiv.ofBijective (dest c) (dest_bij c)) fun d : Dev nD =>
      if d = c then (owns (c : Thread nD τ) (ytile c) fullShare (tile m ρ c c) : sProp 𝕄) else cred (tallyAt (cell c .ts) () (amt .ts))).symm
  have e2 : (bigSep Finset.univ fun d : Dev nD => if d = c then (owns (c : Thread nD τ) (ytile c) fullShare (tile m ρ c c) : sProp 𝕄) else cred (tallyAt (cell c .ts) () (amt .ts)))
      = iprop((owns (c : Thread nD τ) (ytile c) fullShare (tile m ρ c c)) ∗ bigSep (Finset.univ.erase c) fun _ => cred (tallyAt (cell c .ts) () (amt .ts))) := by
    rw [bigSep_erase (Finset.mem_univ c), if_pos rfl]
    congr 1
    exact BI.bigSep_congr fun d hd => if_neg (Finset.ne_of_mem_erase hd)
  rw [e, e2]
  unfold CR
  iintro ⟨H1, H2⟩
  isplitl [H1]; · iexact H1
  iexists (Finset.univ.erase c)
  isplitr; · ipureintro; exact card_ts c
  iexact H2

/-- One of the rights to wait for sent tiles. -/
theorem cr_pop (n : ℕ) : CR (F := F) c (n + 1) ⊢ iprop(cred (tallyAt (cell c .ts) () (amt .ts)) ∗ CR (F := F) c n) := by
  unfold CR
  iintro ⟨%S, %hS, H⟩
  obtain ⟨d, hd⟩ := Finset.card_pos.mp (show 0 < S.card by omega)
  have e : (bigSep S fun _ => cred (tallyAt (cell c .ts) () (amt .ts)))
      = (iprop(cred (tallyAt (cell c .ts) () (amt .ts)) ∗ bigSep (S.erase d) fun _ => cred (tallyAt (cell c .ts) () (amt .ts))) : sProp 𝕄) := bigSep_erase hd
  ihave H := (Entails.of_eq e) $$ H
  icases H with ⟨H1, H2⟩
  isplitl [H1]; · iexact H1
  iexists (S.erase d)
  isplitr; · ipureintro; rw [Finset.card_erase_of_mem hd]; omega
  iexact H2

/-- The wait for one of the sent tiles, not the last. -/
theorem wp_tsw (j n : ℕ) {sp sp' : Space} {s' : Shape} {e' : EltTy} {src : Memref sig .tc sp' s' e'} {dst : Memref sig .tc sp S256x128 .bf16}
    {hsrc : src.view.WordExact} {hdst : dst.view.WordExact} :
    recs m ρ K ⊢ iprop(CR (F := F) c (n + 1) -∗ TsSt m ρ c j -∗ Ow (F := F) c 0
        -∗ (CR (F := F) c n -∗ TsSt m ρ c (j + 1) -∗ Ow (F := F) c 0 -∗ WP c (k ⟨⟩) Q)
        -∗ WP c (.op (.waitDma2 (cc0_scratch9 : DmaSems sig S_).sem src dst hsrc hdst) k) Q) := by
  have hN : dst.view.dmaCredit = (rslot 0).view.dmaCredit := rfl
  iintro #HR HC HS HO Hk
  ihave HC := (cr_pop c n) $$ HC
  icases HC with ⟨Hc, HC⟩
  iapply (wp_ts_part m ρ K c j sem_ts hN) $$ [Hc HO HS]
  · isplitr; · iexact HR
    isplitl [Hc]; · iexact Hc
    isplitl [HO]; · iexact HO
    iexact HS
  iintro ⟨HO, HS⟩
  iapply Hk $$ HC HS HO

/-- All tiles sent are known to be sent. -/
def TSE (c : Dev nD) : sProp 𝕄 :=
  iprop((bigSep (Finset.univ.erase c) fun p => owns (c : Thread nD τ) (ytile p) fullShare (tile m ρ c p)) ∗ semVal (cell c .ts) 0)

/-- The wait for the last of the sent tiles. -/
theorem wp_tsl {sp sp' : Space} {s' : Shape} {e' : EltTy} {src : Memref sig .tc sp' s' e'} {dst : Memref sig .tc sp S256x128 .bf16}
    {hsrc : src.view.WordExact} {hdst : dst.view.WordExact} :
    recs m ρ K ⊢ iprop(CR (F := F) c 1 -∗ TsSt m ρ c 14 -∗ Ow (F := F) c 0
        -∗ (TSE m ρ c -∗ Ow (F := F) c 0 -∗ WP c (k ⟨⟩) Q)
        -∗ WP c (.op (.waitDma2 (cc0_scratch9 : DmaSems sig S_).sem src dst hsrc hdst) k) Q) := by
  have hN : dst.view.dmaCredit = (rslot 0).view.dmaCredit := rfl
  unfold TSE
  iintro #HR HC HS HO Hk
  ihave HC := (cr_pop c 0) $$ HC
  icases HC with ⟨Hc, -⟩
  iapply (wp_ts_last m ρ K c sem_ts hN) $$ [Hc HO HS]
  · isplitr; · iexact HR
    isplitl [Hc]; · iexact Hc
    isplitl [HO]; · iexact HO
    iexact HS
  iintro ⟨HO, HS, Hz⟩
  iapply Hk $$ [HS Hz] HO
  isplitl [HS]; · iexact HS
  iexact Hz

end Ops

end Cert.KernelIdeal.Body
-- ==== Proof.KernelIdeal.OpsC.lean ====
/-
The barrier opened and closed, and the memory references the kernel body runs at.
-/
module

public import proofs.«01_k».proof.Proof.KernelIdeal.OpsB

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

theorem bigSep_two {I : Type} (s : Finset I) (Φ Ψ : I → sProp 𝕄) : bigSep s (fun i => iprop(Φ i ∗ Ψ i)) = iprop(bigSep s Φ ∗ bigSep s Ψ) := BI.bigSep_sep _ _ _
theorem bigSep_out {I : Type} [DecidableEq I] {s : Finset I} {i : I} (h : i ∈ s) (Φ : I → sProp 𝕄) : bigSep s Φ = iprop(Φ i ∗ bigSep (s.erase i) Φ) := bigSep_erase h
theorem bigSep_none {I : Type} (s : Finset I) : (bigSep s fun _ => (iprop(emp) : sProp 𝕄)) = iprop(emp) := BI.bigSep_emp_const _
theorem sep_none (P : sProp 𝕄) : iprop(P ∗ emp) = P := equiv_iff.mp BI.sep_emp
theorem none_sep (P : sProp 𝕄) : iprop(emp ∗ P) = P := equiv_iff.mp BI.emp_sep

/-- A conjunction in which one member is picked out. -/
theorem bigSep_pick {I : Type} [Fintype I] [DecidableEq I] (p : I → Prop) [DecidablePred p] (a : I) (hp : ∀ d, p d ↔ d = a) (X : I → sProp 𝕄) :
    (bigSep Finset.univ fun d => if p d then X d else (iprop(emp) : sProp 𝕄)) = X a := by
  rw [bigSep_erase (Finset.mem_univ a), if_pos ((hp a).mpr rfl)]
  rw [BI.bigSep_congr (Ψ := fun _ => (iprop(emp) : sProp 𝕄)) fun d hd => if_neg fun h => Finset.ne_of_mem_erase hd ((hp d).mp h), bigSep_none]
  exact sep_none _

/-- What the barrier hands a device: the slots its tiles and its messages go to. -/
theorem bar_open : (bigSep Finset.univ fun d => barPay (F := F) c d)
    = iprop((bigSep Finset.univ fun i => TL (F := F) c i)
      ∗ (bigSep Finset.univ fun j : Fin 3 => ownsSome (to1 c j : Thread nD τ) (r1slot j))
      ∗ bigSep Finset.univ fun j : Fin 3 => ownsSome (to2 c j : Thread nD τ) (r2slot j)) := by
  unfold barPay
  rw [bigSep_two, bigSep_two, BI.bigSep_univ_comm, BI.bigSep_univ_comm (fun d j => if to2 c j = d then (ownsSome (d : Thread nD τ) (r2slot j) : sProp 𝕄) else iprop(emp))]
  congr 1
  · exact BI.bigSep_univ_equiv (Equiv.ofBijective (dest c) (dest_bij c)) fun d : Dev nD =>
      if d = c then (iprop(emp) : sProp 𝕄) else ownsSome (d : Thread nD τ) (rslot c)
  · congr 1
    · exact BI.bigSep_congr fun j _ => bigSep_pick (fun d => to1 c j = d) (to1 c j) (fun d => eq_comm) fun d => ownsSome (d : Thread nD τ) (r1slot j)
    · exact BI.bigSep_congr fun j _ => bigSep_pick (fun d => to2 c j = d) (to2 c j) (fun d => eq_comm) fun d => ownsSome (d : Thread nD τ) (r2slot j)

/-- What a device hands out at the barrier: its own slots for the tiles of the others, and its slots for the messages. -/
theorem bar_close : iprop((bigSep (Finset.univ.erase c) fun d => ownsSome (c : Thread nD τ) (rslot d))
      ∗ (bigSep Finset.univ fun j : Fin 3 => ownsSome (c : Thread nD τ) (r1slot j))
      ∗ bigSep Finset.univ fun j : Fin 3 => ownsSome (c : Thread nD τ) (r2slot j))
    = bigSep Finset.univ fun d => barPay (F := F) d c := by
  unfold barPay
  rw [bigSep_two, bigSep_two, BI.bigSep_univ_comm, BI.bigSep_univ_comm (fun d j => if to2 d j = c then (ownsSome (c : Thread nD τ) (r2slot j) : sProp 𝕄) else iprop(emp))]
  congr 1
  · rw [bigSep_out (Finset.mem_univ c), if_pos rfl]
    rw [none_sep]
    exact BI.bigSep_congr fun d hd => (if_neg fun h => Finset.ne_of_mem_erase hd h.symm).symm
  · congr 1
    · exact BI.bigSep_congr fun j _ => (bigSep_pick (fun d => to1 d j = c) (from1 c j) (fun d => ⟨fun h => by rw [← h, from1_to1], fun h => by rw [h, to1_from1]⟩)
        fun _ => ownsSome (c : Thread nD τ) (r1slot j)).symm
    · exact BI.bigSep_congr fun j _ => (bigSep_pick (fun d => to2 d j = c) (from2 c j) (fun d => ⟨fun h => by rw [← h, from2_to2], fun h => by rw [h, to2_from2]⟩)
        fun _ => ownsSome (c : Thread nD τ) (r2slot j)).symm

/-- What sending message `j` takes before the barrier has handed over its slot. -/
def PA0 (c : Dev nD) (j : Fin 3) : sProp 𝕄 :=
  iprop((dutyTok ER (cell c (.a1s j)) 0 one ∗ dutyTok ER (cell (to1 c j) (.a1r j)) 0 one) ∗ atPos ER (cell c (.a1s j)) 0 ∅ 0)
def PB0 (c : Dev nD) (j : Fin 3) : sProp 𝕄 :=
  iprop((dutyTok ER (cell c (.a2s j)) 0 one ∗ dutyTok ER (cell (to2 c j) (.a2r j)) 0 one) ∗ atPos ER (cell c (.a2s j)) 0 ∅ 0)
/-- The wait at the barrier and what is sent after it. -/
def BW (c : Dev nD) : sProp 𝕄 :=
  iprop((cred (tallyAt (cell c .bar) () 16) ∗ atPos ER (cell c .bar) 0 ∅ 0) ∗ (bigSep Finset.univ fun i => TT (F := F) c i)
    ∗ (bigSep Finset.univ fun j => PA0 (F := F) c j) ∗ bigSep Finset.univ fun j => PB0 (F := F) c j)

/-- The wait at the barrier. -/
theorem wp_barrier {α : Type} {k : PUnit → Prog (TpuEff nD τ sig (Elt F) Λ₀ .tc) α} {Q : α → sProp (MT nD τ sig Unit (Elt F) ℕ UU ℕ)} {v : ℕ} (hv : v = 16) :
    recs m ρ K ⊢ iprop(BW (F := F) c -∗ Ow (F := F) c 22
        -∗ (pend (TS (F := F) c) 0 -∗ pend (PA (F := F) c) 0 -∗ pend (PB (F := F) c) 0 -∗ semVal (cell c .bar) 0 -∗ Ow (F := F) c 22 -∗ WP c (k ⟨⟩) Q)
        -∗ WP c (.op (.semWait barS v) k) Q) := by
  rw [pend_zero, pend_zero, pend_zero]
  have e : bigSep Finset.univ (TS (F := F) c) = iprop((bigSep Finset.univ fun i => TT (F := F) c i) ∗ bigSep Finset.univ fun i => TL (F := F) c i) := BI.bigSep_sep _ _ _
  have hA : iprop((bigSep Finset.univ fun j : Fin 3 => ownsSome (to1 c j : Thread nD τ) (r1slot j)) ∗ bigSep Finset.univ fun j => PA0 (F := F) c j)
      ⊢ bigSep Finset.univ (PA (F := F) c) := by
    rw [← bigSep_two]
    refine BI.bigSep_mono fun j _ => (show (iprop(ownsSome (to1 c j : Thread nD τ) (r1slot j) ∗ PA0 (F := F) c j) : sProp 𝕄) ⊢ PA (F := F) c j from ?_)
    unfold PA0 PA MA
    iintro ⟨H, ⟨T, T'⟩, A⟩
    isplitr [A]
    · isplitl [H]; · iexact H
      isplitl [T]; · iexact T
      iexact T'
    iexact A
  have hB : iprop((bigSep Finset.univ fun j : Fin 3 => ownsSome (to2 c j : Thread nD τ) (r2slot j)) ∗ bigSep Finset.univ fun j => PB0 (F := F) c j)
      ⊢ bigSep Finset.univ (PB (F := F) c) := by
    rw [← bigSep_two]
    refine BI.bigSep_mono fun j _ => (show (iprop(ownsSome (to2 c j : Thread nD τ) (r2slot j) ∗ PB0 (F := F) c j) : sProp 𝕄) ⊢ PB (F := F) c j from ?_)
    unfold PB0 PB MB
    iintro ⟨H, ⟨T, T'⟩, A⟩
    isplitr [A]
    · isplitl [H]; · iexact H
      isplitl [T]; · iexact T
      iexact T'
    iexact A
  unfold BW
  iintro #HR ⟨⟨Hc, Ha⟩, HT, HA, HB⟩ HO Hk
  iapply (wp_bar m ρ K c hv) $$ [Hc Ha HO]
  · isplitr; · iexact HR
    isplitl [Hc]; · iexact Hc
    isplitl [HO]; · iexact HO
    iexact Ha
  iintro ⟨HO, Hp, Hz⟩
  ihave Hp := (Entails.of_eq (bar_open c)) $$ Hp
  icases Hp with ⟨HL, H1, H2⟩
  iapply Hk $$ [HT HL] [H1 HA] [H2 HB] Hz HO
  · iapply (Entails.of_eq e.symm)
    isplitl [HT]; · iexact HT
    iexact HL
  · iapply hA
    isplitl [H1]; · iexact H1
    iexact HA
  · iapply hB
    isplitl [H2]; · iexact H2
    iexact HB

theorem o2 : (![0, 0] : Fin 2 → ℕ) = fun _ => 0 := by decide
/-- Nothing is done yet. -/
theorem past_start {n : ℕ} (Φ : Fin n → sProp 𝕄) : ⊢ past Φ 0 := by
  rw [past_zero]
  iempintro
/-- All done of one kind is all to be done of the next. -/
theorem turn {n : ℕ} (Φ : Fin n → sProp 𝕄) : past Φ n ⊢ pend Φ 0 := by rw [past_end, pend_zero]
/-- All tiles are sent. -/
theorem td_end : past (TD m ρ c) 16 ⊢ iprop(owns (c : Thread nD τ) (ytile c) fullShare (tile m ρ c c) ∗ CR (F := F) c 15) := by
  rw [past_end]; exact td_split m ρ c
/-- The device's own tile, in its slot. -/
theorem own_flat (X : Vec F S256x128 .bf16) : flat squeezes_S1x256x128_S256x128 (k0_pay18 X) = X := by
  funext j
  show X (Shape.reshapeEquiv _ (Shape.reshapeEquiv _ j)) = X j
  rw [Shape.reshapeEquiv_reshapeEquiv, Shape.reshapeEquiv_self]
/-- Before the first row block is stored. -/
def LA0 (c : Dev nD) : sProp 𝕄 := iprop(pend (GT (F := F) c) 1 ∗ past (ZT (F := F) c) 1 ∗ pend (GO (F := F) c) 0)
theorem la_start : LA0 (F := F) c ⊢ iprop(RS m ρ c 0 -∗ LB m ρ c 0 (by decide)) := by
  unfold LA0 LB
  rw [past_zero]
  iintro ⟨HG, HZ, HO⟩ HR
  isplitl [HG]; · iexact HG
  isplitl [HZ]; · iexact HZ
  isplitl [HR]; · iexact HR
  isplitl [HO]; · iexact HO
  iempintro
/-- The end of a program. -/
theorem wp_end {α : Type} {a : α} {Q : α → sProp (MT nD τ sig Unit (Elt F) ℕ UU ℕ)} : Q a ⊢ WP c (.ret a) Q := by
  unfold WP; rw [wp_ret]; iintro H; imodintro; iexact H
/-- Asking for the device's number. -/
theorem wp_dev {α : Type} {k : Dev nD → Prog (TpuEff nD τ sig (Elt F) Λ₀ .tc) α} {Q : α → sProp (MT nD τ sig Unit (Elt F) ℕ UU ℕ)} :
    WP c (k c) Q ⊢ WP c (.op .deviceId k) Q := by
  unfold WP; rw [wp_deviceId]
/-- A program and what follows it. -/
theorem wp_seq {α β : Type} {P : Prog (TpuEff nD τ sig (Elt F) Λ₀ .tc) α} {k : α → Prog (TpuEff nD τ sig (Elt F) Λ₀ .tc) β}
    {Q : β → sProp (MT nD τ sig Unit (Elt F) ℕ UU ℕ)} : WP c P (fun a => WP c (k a) Q) ⊢ WP c (P >>= k) Q := by
  unfold WP; rw [wp_bind]

/-- The memory references and semaphores the kernel body runs at. -/
abbrev on {γ : Type 1} (f : (arg0 : Memref sig .tc .vmem S256x4096 .f32) → arg0.IsWhole → (arg1 : Memref sig .tc .hbm S4096x2048 .f32) → arg1.IsWhole
    → (arg2 : Memref sig .tc .hbm S4096x128 .f32) → arg2.IsWhole → (arg3 : Memref sig .tc .vmem S2x4096x512 .f32) → arg3.IsWhole
    → (arg4 : Memref sig .tc .vmem S256x2048 .bf16) → arg4.IsWhole → (arg5 : Memref sig .tc .vmem S16x256x128 .bf16) → arg5.IsWhole
    → (arg6 : Memref sig .tc .vmem S16x256x128 .f32) → arg6.IsWhole → (arg7 : Memref sig .tc .vmem S8x128 .f32) → arg7.IsWhole
    → (arg8 : Memref sig .tc .vmem S3x8x128 .f32) → arg8.IsWhole → (arg9 : Memref sig .tc .vmem S8x128 .f32) → arg9.IsWhole
    → (arg10 : Memref sig .tc .vmem S3x8x128 .f32) → arg10.IsWhole → DmaSems sig S2 → DmaSems sig S_ → DmaSems sig S16 → DmaSems sig S6 → DmaSems sig S6
    → DmaSems sig S16 → γ) : γ :=
  f xM (Memref.isWhole_whole _) wM (Memref.isWhole_whole _) oM (Memref.isWhole_whole _) bufM (Memref.isWhole_whole _) ysM (Memref.isWhole_whole _)
    rvM (Memref.isWhole_whole _) qsM (Memref.isWhole_whole _) m1M (Memref.isWhole_whole _) r1M (Memref.isWhole_whole _) m2M (Memref.isWhole_whole _)
    r2M (Memref.isWhole_whole _) cc0_scratch8 cc0_scratch9 cc0_scratch10 cc0_scratch11 cc0_scratch12 cc0_scratch13

end Cert.KernelIdeal.Body
-- ==== Proof.KernelIdeal.PartsA.lean ====
/-
The parts 1 to 12 of the kernel body: what each takes and what it leaves.
-/
module

public import proofs.«01_k».proof.Proof.KernelIdeal.OpsC

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

/-- Part 1 of the body. -/
theorem part1 {Q : _ → sProp (MT nD τ sig Unit (Elt F) ℕ UU ℕ)} :
    recs m ρ K ⊢ iprop(pend (BP (F := F) c) 0 -∗ Ow (F := F) c 38 -∗ (∀ (w0 w1 w2 : BitVec 32), pend (BP (F := F) c) 1 -∗ Ow (F := F) c 37 -∗ Q ⟨c, w0, w1, w2, (SemArray.scalar (sig.barrier 0 rfl) : Sems sig S_)⟩)
      -∗ WP c (on (k0_part1 (F := F))) Q) := by
  unfold on
  rw [k0_part1_eq_skeleton]
  unfold k0_part1_skel
  simp only [semSignalWord, semWaitWord, Prog.lift, Prog.bind_op, Prog.bind_ret, Prog.pure_eq_ret]
  iintro #HR HB HO Hk
  iapply (wp_dev c)
  iapply (wp_signal m ρ K c 0 (by decide) 37 rfl k0_dev1_eq rfl) $$ HR HB HO
  iintro HB HO
  iapply (wp_end c)
  iapply Hk $$ HB HO

/-- Part 2 of the body. -/
theorem part2 {Q : _ → sProp (MT nD τ sig Unit (Elt F) ℕ UU ℕ)} :
    recs m ρ K ⊢ iprop(pend (BP (F := F) c) 1 -∗ Ow (F := F) c 37 -∗ (∀ (w0 w1 : BitVec 32), pend (BP (F := F) c) 10 -∗ Ow (F := F) c 28 -∗ Q ⟨w0, w1⟩)
      -∗ WP c (on (k0_part2 (F := F)) (SemArray.scalar (sig.barrier 0 rfl) : Sems sig S_)) Q) := by
  unfold on
  rw [k0_part2_eq_skeleton]
  unfold k0_part2_skel
  simp only [semSignalWord, semWaitWord, Prog.lift, Prog.bind_op, Prog.bind_ret, Prog.pure_eq_ret]
  iintro #HR HB HO Hk
  iapply (wp_signal m ρ K c 1 (by decide) 36 rfl k0_dev2_eq rfl) $$ HR HB HO
  iintro HB HO
  iapply (wp_signal m ρ K c 2 (by decide) 35 rfl k0_dev3_eq rfl) $$ HR HB HO
  iintro HB HO
  iapply (wp_signal m ρ K c 3 (by decide) 34 rfl k0_dev4_eq rfl) $$ HR HB HO
  iintro HB HO
  iapply (wp_signal m ρ K c 4 (by decide) 33 rfl k0_dev5_eq rfl) $$ HR HB HO
  iintro HB HO
  iapply (wp_signal m ρ K c 5 (by decide) 32 rfl k0_dev6_eq rfl) $$ HR HB HO
  iintro HB HO
  iapply (wp_signal m ρ K c 6 (by decide) 31 rfl k0_dev7_eq rfl) $$ HR HB HO
  iintro HB HO
  iapply (wp_signal m ρ K c 7 (by decide) 30 rfl k0_dev8_eq rfl) $$ HR HB HO
  iintro HB HO
  iapply (wp_signal m ρ K c 8 (by decide) 29 rfl k0_dev9_eq rfl) $$ HR HB HO
  iintro HB HO
  iapply (wp_signal m ρ K c 9 (by decide) 28 rfl k0_dev10_eq rfl) $$ HR HB HO
  iintro HB HO
  iapply (wp_end c)
  iapply Hk $$ HB HO

/-- Part 3 of the body. -/
theorem part3 (v19 c10_i32 c1_i32_45 : BitVec 32) {Q : _ → sProp (MT nD τ sig Unit (Elt F) ℕ UU ℕ)} :
    recs m ρ K ⊢ iprop(pend (BP (F := F) c) 10 -∗ Ow (F := F) c 28 -∗ (∀ (w0 w1 : BitVec 32), pend (BP (F := F) c) 16 -∗ Ow (F := F) c 22 -∗ Q ⟨w0, w1⟩)
      -∗ WP c (on (k0_part3 (F := F)) v19 (SemArray.scalar (sig.barrier 0 rfl) : Sems sig S_) c10_i32 c1_i32_45) Q) := by
  unfold on
  rw [k0_part3_eq_skeleton]
  unfold k0_part3_skel
  simp only [semSignalWord, semWaitWord, Prog.lift, Prog.bind_op, Prog.bind_ret, Prog.pure_eq_ret]
  iintro #HR HB HO Hk
  iapply (wp_signal m ρ K c 10 (by decide) 27 rfl k0_dev11_eq rfl) $$ HR HB HO
  iintro HB HO
  iapply (wp_signal m ρ K c 11 (by decide) 26 rfl k0_dev12_eq rfl) $$ HR HB HO
  iintro HB HO
  iapply (wp_signal m ρ K c 12 (by decide) 25 rfl k0_dev13_eq rfl) $$ HR HB HO
  iintro HB HO
  iapply (wp_signal m ρ K c 13 (by decide) 24 rfl k0_dev14_eq rfl) $$ HR HB HO
  iintro HB HO
  iapply (wp_signal m ρ K c 14 (by decide) 23 rfl k0_dev15_eq rfl) $$ HR HB HO
  iintro HB HO
  iapply (wp_signal m ρ K c 15 (by decide) 22 rfl k0_dev16_eq rfl) $$ HR HB HO
  iintro HB HO
  iapply (wp_end c)
  iapply Hk $$ HB HO

/-- Part 4 of the body. -/
theorem part4 (v19 v74 c512_i32 : BitVec 32) {Q : _ → sProp (MT nD τ sig Unit (Elt F) ℕ UU ℕ)} :
    recs m ρ K ⊢ iprop(WS m ρ c 0 0 -∗ owns (c : Thread nD τ) xM fullShare (xstg m ρ c) -∗ (∀ (w0 : BitVec 32), WS m ρ c 0 1 -∗ owns (c : Thread nD τ) xM fullShare (xstg m ρ c) -∗ Q ⟨k0_pay1 (xstg m ρ c), w0⟩)
      -∗ WP c (on (k0_part4 (F := F)) c v19 v74 c512_i32) Q) := by
  unfold on
  rw [k0_part4_eq_skeleton]
  unfold k0_part4_skel
  simp only [semSignalWord, semWaitWord, Prog.lift, Prog.bind_op, Prog.bind_ret, Prog.pure_eq_ret]
  iintro #HR HW0 Hx Hk
  iapply (wp_fetch m ρ K c 0 0 0 0 rfl (by decide) rfl (off1_eq c 0) rfl rfl) $$ HR HW0
  iintro HW0
  iapply (wp_load_whole 𝒱₀ (c : Thread nD τ) none Set.univ o2) $$ Hx
  iintro Hx
  iapply (wp_end c)
  iapply Hk $$ HW0 Hx

/-- Part 5 of the body. -/
theorem part5 (v19 : BitVec 32) {Q : _ → sProp (MT nD τ sig Unit (Elt F) ℕ UU ℕ)} :
    recs m ρ K ⊢ iprop(WS m ρ c 1 0 -∗ WS m ρ c 0 1 -∗ Ow (F := F) c 22 -∗ (WS m ρ c 1 1 -∗ WS m ρ c 0 2 -∗ Ow (F := F) c 22 -∗ Q ⟨k0_pay2 (xb m ρ c) (wld m ρ c (chunk c 0)), k0_pay3 (xb m ρ c) (wld m ρ c (chunk c 0)), (Scalar.ofBits .f32 0x00000000#32)⟩)
      -∗ WP c (on (k0_part5 (F := F)) c v19 (xb m ρ c)) Q) := by
  unfold on
  rw [k0_part5_eq_skeleton]
  unfold k0_part5_skel
  simp only [semSignalWord, semWaitWord, Prog.lift, Prog.bind_op, Prog.bind_ret, Prog.pure_eq_ret]
  iintro #HR HW1 HW0 HO Hk
  iapply (wp_fetch m ρ K c 1 0 1 0 rfl (by decide) rfl (off1_eq c 1) rfl rfl) $$ HR HW1
  iintro HW1
  iapply (wp_fetched m ρ K c 0 0 1 rfl (by decide) 22 rfl) $$ HR HW0 HO
  iintro HW0 HO
  iapply (wp_ldc m ρ c 0 0 0 2 rfl (by decide) rfl rfl) $$ HW0
  iintro HW0
  iapply (wp_end c)
  iapply Hk $$ HW1 HW0 HO

/-- Part 6 of the body. -/
theorem part6 (v2 v19 v95 : BitVec 32) {Q : _ → sProp (MT nD τ sig Unit (Elt F) ℕ UU ℕ)} :
    recs m ρ K ⊢ iprop(BW (F := F) c -∗ Ow (F := F) c 22 -∗ YC (F := F) c 0 -∗ (∀ (w0 w1 w2 : BitVec 32), Ow (F := F) c 18 -∗ pend (TS (F := F) c) 4 -∗ pend (PA (F := F) c) 0 -∗ pend (PB (F := F) c) 0 -∗ semVal (cell c .bar) 0 -∗ past (TD m ρ c) 4 -∗ Q ⟨k0_pay4 (k0_pay3 (xb m ρ c) (wld m ρ c (chunk c 0))) (Scalar.ofBits .f32 0x00000000#32), w0, w1, w2⟩)
      -∗ WP c (on (k0_part6 (F := F)) c v2 v19 (SemArray.scalar (sig.barrier 0 rfl) : Sems sig S_) v95 (k0_pay2 (xb m ρ c) (wld m ρ c (chunk c 0))) (k0_pay3 (xb m ρ c) (wld m ρ c (chunk c 0))) (Scalar.ofBits .f32 0x00000000#32)) Q) := by
  unfold on
  rw [k0_part6_eq_skeleton]
  unfold k0_part6_skel
  simp only [semSignalWord, semWaitWord, Prog.lift, Prog.bind_op, Prog.bind_ret, Prog.pure_eq_ret]
  iintro #HR HBW HO HY0 Hk
  iapply (wp_barrier m ρ K c rfl) $$ HR HBW HO
  iintro HS HA HX Hzb HO
  iapply (wp_ldy c 0 (off2_eq c 0)) $$ HY0
  iintro %_ HY0
  iapply (wp_sty m ρ c 0 (off2_eq c 0) rfl) $$ HY0
  iintro ⟨HT0, HT1, HT2, HT3⟩
  ihave HD := (past_start (TD m ρ c))
  iapply (wp_tile m ρ K c 0 0 0 (by decide) rfl 21 (due_tile c 0 (by decide) 21 rfl) (cond0 c) (dev0 c) (offr0 c) (offd0 c) (offs0 c)) $$ HR HT0 HS HD HO
  iintro HS HD HO
  iapply (wp_tile m ρ K c 0 1 1 (by decide) rfl 20 (due_tile c 1 (by decide) 20 rfl) (cond1 c) (dev1 c) (offr1 c) (offd1 c) (offs1 c)) $$ HR HT1 HS HD HO
  iintro HS HD HO
  iapply (wp_tile m ρ K c 0 2 2 (by decide) rfl 19 (due_tile c 2 (by decide) 19 rfl) (cond2 c) (dev2 c) (offr2 c) (offd2 c) (offs2 c)) $$ HR HT2 HS HD HO
  iintro HS HD HO
  iapply (wp_tile m ρ K c 0 3 3 (by decide) rfl 18 (due_tile c 3 (by decide) 18 rfl) (cond3 c) (dev3 c) (offr3 c) (offd3 c) (offs3 c)) $$ HR HT3 HS HD HO
  iintro HS HD HO
  iapply (wp_end c)
  iapply Hk $$ HO HS HA HX Hzb HD

/-- Part 7 of the body. -/
theorem part7 (v19 v172 v173 c0_i32_138 : BitVec 32) {Q : _ → sProp (MT nD τ sig Unit (Elt F) ℕ UU ℕ)} :
    recs m ρ K ⊢ iprop(WS m ρ c 0 2 -∗ (∀ (w0 w1 w2 : BitVec 32) (w3 : BitVec 1), WS m ρ c 0 3 -∗ Q ⟨w0, w1, w2, w3⟩)
      -∗ WP c (on (k0_part7 (F := F)) c v19 v172 v173 c0_i32_138) Q) := by
  unfold on
  rw [k0_part7_eq_skeleton]
  unfold k0_part7_skel
  simp only [semSignalWord, semWaitWord, Prog.lift, Prog.bind_op, Prog.bind_ret, Prog.pure_eq_ret]
  iintro #HR HW0 Hk
  iapply (wp_fetch m ρ K c 0 1 2 2 rfl (by decide) rfl (off1_eq c 2) rfl rfl) $$ HR HW0
  iintro HW0
  iapply (wp_end c)
  iapply Hk $$ HW0

/-- Part 8 of the body. -/
theorem part8 (v2 v180 v202 v203 : BitVec 32) (v208 : BitVec 1) {Q : _ → sProp (MT nD τ sig Unit (Elt F) ℕ UU ℕ)} :
    recs m ρ K ⊢ iprop(WS m ρ c 1 1 -∗ Ow (F := F) c 18 -∗ YC (F := F) c 1 -∗ pend (TS (F := F) c) 4 -∗ past (TD m ρ c) 4 -∗ (∀ (w0 : BitVec 32), WS m ρ c 1 2 -∗ Ow (F := F) c 16 -∗ TI m ρ c (bi 1 2) -∗ TI m ρ c (bi 1 3) -∗ pend (TS (F := F) c) 6 -∗ past (TD m ρ c) 6 -∗ Q ⟨k0_pay7 (xb m ρ c) (am0 m ρ c) (wld m ρ c (chunk c 1)), w0⟩)
      -∗ WP c (on (k0_part8 (F := F)) c v2 (xb m ρ c) (am0 m ρ c) v180 v202 v203 v208) Q) := by
  unfold on
  rw [k0_part8_eq_skeleton]
  unfold k0_part8_skel
  simp only [semSignalWord, semWaitWord, Prog.lift, Prog.bind_op, Prog.bind_ret, Prog.pure_eq_ret]
  iintro #HR HW1 HO HY1 HS HD Hk
  iapply (wp_fetched m ρ K c 1 0 1 rfl (by decide) 18 rfl) $$ HR HW1 HO
  iintro HW1 HO
  iapply (wp_ldc m ρ c 1 0 1 2 rfl (by decide) rfl rfl) $$ HW1
  iintro HW1
  iapply (wp_ldy c 1 (off2_eq c 1)) $$ HY1
  iintro %_ HY1
  iapply (wp_sty m ρ c 1 (off2_eq c 1) rfl) $$ HY1
  iintro ⟨HT4, HT5, HT6, HT7⟩
  iapply (wp_tile m ρ K c 1 0 4 (by decide) rfl 17 (due_tile c 4 (by decide) 17 rfl) (cond4 c) (dev4 c) (offr4 c) (offd4 c) (offs4 c)) $$ HR HT4 HS HD HO
  iintro HS HD HO
  iapply (wp_tile m ρ K c 1 1 5 (by decide) rfl 16 (due_tile c 5 (by decide) 16 rfl) (cond5 c) (dev5 c) (offr5 c) (offd5 c) (offs5 c)) $$ HR HT5 HS HD HO
  iintro HS HD HO
  iapply (wp_end c)
  iapply Hk $$ HW1 HO HT6 HT7 HS HD

/-- Part 9 of the body. -/
theorem part9 (v2 v19 v180 c4_i32_182 : BitVec 32) {Q : _ → sProp (MT nD τ sig Unit (Elt F) ℕ UU ℕ)} :
    recs m ρ K ⊢ iprop(TI m ρ c (bi 1 2) -∗ pend (TS (F := F) c) 6 -∗ past (TD m ρ c) 6 -∗ Ow (F := F) c 16 -∗ TI m ρ c (bi 1 3) -∗ (∀ (w0 : BitVec 32), pend (TS (F := F) c) 8 -∗ past (TD m ρ c) 8 -∗ Ow (F := F) c 14 -∗ Q w0)
      -∗ WP c (on (k0_part9 (F := F)) c v2 v19 v180 c4_i32_182) Q) := by
  unfold on
  rw [k0_part9_eq_skeleton]
  unfold k0_part9_skel
  simp only [semSignalWord, semWaitWord, Prog.lift, Prog.bind_op, Prog.bind_ret, Prog.pure_eq_ret]
  iintro #HR HT6 HS HD HO HT7 Hk
  iapply (wp_tile m ρ K c 1 2 6 (by decide) rfl 15 (due_tile c 6 (by decide) 15 rfl) (cond6 c) (dev6 c) (offr6 c) (offd6 c) (offs6 c)) $$ HR HT6 HS HD HO
  iintro HS HD HO
  iapply (wp_tile m ρ K c 1 3 7 (by decide) rfl 14 (due_tile c 7 (by decide) 14 rfl) (cond7 c) (dev7 c) (offr7 c) (offd7 c) (offs7 c)) $$ HR HT7 HS HD HO
  iintro HS HD HO
  iapply (wp_end c)
  iapply Hk $$ HS HD HO

/-- Part 10 of the body. -/
theorem part10 (v19 : BitVec 32) {Q : _ → sProp (MT nD τ sig Unit (Elt F) ℕ UU ℕ)} :
    recs m ρ K ⊢ iprop(WS m ρ c 1 2 -∗ WS m ρ c 0 3 -∗ Ow (F := F) c 14 -∗ (WS m ρ c 1 3 -∗ WS m ρ c 0 4 -∗ Ow (F := F) c 14 -∗ Q ⟨k0_pay9 (xb m ρ c) (wld m ρ c (chunk c 2)), k0_pay10 (xb m ρ c) (am1 m ρ c) (wld m ρ c (chunk c 2))⟩)
      -∗ WP c (on (k0_part10 (F := F)) c v19 (xb m ρ c) (am1 m ρ c)) Q) := by
  unfold on
  rw [k0_part10_eq_skeleton]
  unfold k0_part10_skel
  simp only [semSignalWord, semWaitWord, Prog.lift, Prog.bind_op, Prog.bind_ret, Prog.pure_eq_ret]
  iintro #HR HW1 HW0 HO Hk
  iapply (wp_fetch m ρ K c 1 1 3 2 rfl (by decide) rfl (off1_eq c 3) rfl rfl) $$ HR HW1
  iintro HW1
  iapply (wp_fetched m ρ K c 0 1 3 rfl (by decide) 14 rfl) $$ HR HW0 HO
  iintro HW0 HO
  iapply (wp_ldc m ρ c 0 1 2 4 rfl (by decide) rfl rfl) $$ HW0
  iintro HW0
  iapply (wp_end c)
  iapply Hk $$ HW1 HW0 HO

/-- Part 11 of the body. -/
theorem part11 (v2 v19 v265 : BitVec 32) {Q : _ → sProp (MT nD τ sig Unit (Elt F) ℕ UU ℕ)} :
    recs m ρ K ⊢ iprop(YC (F := F) c 2 -∗ pend (TS (F := F) c) 8 -∗ past (TD m ρ c) 8 -∗ Ow (F := F) c 14 -∗ (∀ (w0 w1 w4 : BitVec 32) (w2 w3 : BitVec 1), pend (TS (F := F) c) 12 -∗ past (TD m ρ c) 12 -∗ Ow (F := F) c 10 -∗ Q ⟨w0, w1, w2, w3, w4⟩)
      -∗ WP c (on (k0_part11 (F := F)) c v2 v19 v265 (k0_pay9 (xb m ρ c) (wld m ρ c (chunk c 2)))) Q) := by
  unfold on
  rw [k0_part11_eq_skeleton]
  unfold k0_part11_skel
  simp only [semSignalWord, semWaitWord, Prog.lift, Prog.bind_op, Prog.bind_ret, Prog.pure_eq_ret]
  iintro #HR HY2 HS HD HO Hk
  iapply (wp_ldy c 2 (off2_eq c 2)) $$ HY2
  iintro %_ HY2
  iapply (wp_sty m ρ c 2 (off2_eq c 2) rfl) $$ HY2
  iintro ⟨HT8, HT9, HT10, HT11⟩
  iapply (wp_tile m ρ K c 2 0 8 (by decide) rfl 13 (due_tile c 8 (by decide) 13 rfl) (cond8 c) (dev8 c) (offr8 c) (offd8 c) (offs8 c)) $$ HR HT8 HS HD HO
  iintro HS HD HO
  iapply (wp_tile m ρ K c 2 1 9 (by decide) rfl 12 (due_tile c 9 (by decide) 12 rfl) (cond9 c) (dev9 c) (offr9 c) (offd9 c) (offs9 c)) $$ HR HT9 HS HD HO
  iintro HS HD HO
  iapply (wp_tile m ρ K c 2 2 10 (by decide) rfl 11 (due_tile c 10 (by decide) 11 rfl) (cond10 c) (dev10 c) (offr10 c) (offd10 c) (offs10 c)) $$ HR HT10 HS HD HO
  iintro HS HD HO
  iapply (wp_tile m ρ K c 2 3 11 (by decide) rfl 10 (due_tile c 11 (by decide) 10 rfl) (cond11 c) (dev11 c) (offr11 c) (offd11 c) (offs11 c)) $$ HR HT11 HS HD HO
  iintro HS HD HO
  iapply (wp_end c)
  iapply Hk $$ HS HD HO

/-- Part 12 of the body. -/
theorem part12 (v19 v342 v343 c0_i32_251 : BitVec 32) (v344 v345 : BitVec 1) {Q : _ → sProp (MT nD τ sig Unit (Elt F) ℕ UU ℕ)} :
    recs m ρ K ⊢ iprop(WS m ρ c 1 3 -∗ Ow (F := F) c 10 -∗ ownsSome (c : Thread nD τ) m1M -∗ (∀ (w0 : BitVec 32) (w1 : Vec F S8x128 .f32), WS m ρ c 1 4 -∗ Ow (F := F) c 10 -∗ ownsSome (c : Thread nD τ) m1M -∗ Q ⟨w0, k0_pay13 (xb m ρ c) (am2 m ρ c) (wld m ρ c (chunk c 3)), k0_pay14 (xb m ρ c) (wld m ρ c (chunk c 3)), k0_pay15 (xb m ρ c) (am2 m ρ c) (wld m ρ c (chunk c 3)), w1⟩)
      -∗ WP c (on (k0_part12 (F := F)) c v19 (xb m ρ c) (am2 m ρ c) v342 v343 v344 v345 c0_i32_251) Q) := by
  unfold on
  rw [k0_part12_eq_skeleton]
  unfold k0_part12_skel
  simp only [semSignalWord, semWaitWord, Prog.lift, Prog.bind_op, Prog.bind_ret, Prog.pure_eq_ret]
  iintro #HR HW1 HO Hm1 Hk
  iapply (wp_fetched m ρ K c 1 1 3 rfl (by decide) 10 rfl) $$ HR HW1 HO
  iintro HW1 HO
  iapply (wp_ldc m ρ c 1 1 3 4 rfl (by decide) rfl rfl) $$ HW1
  iintro HW1
  iapply (wp_ldwhole c o2) $$ Hm1
  iintro %_ Hm1
  iapply (wp_end c)
  iapply Hk $$ HW1 HO Hm1

end Cert.KernelIdeal.Body
-- ==== Proof.KernelIdeal.PartsB.lean ====
/-
The parts 13 to 19 of the kernel body: what each takes and what it leaves.
-/
module

public import proofs.«01_k».proof.Proof.KernelIdeal.PartsA

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

/-- Part 13 of the body. -/
theorem part13 (v19 v29 : BitVec 32) (v382 : Vec F S8x128 .f32) {Q : _ → sProp (MT nD τ sig Unit (Elt F) ℕ UU ℕ)} :
    recs m ρ K ⊢ iprop(ownsSome (c : Thread nD τ) m1M -∗ pend (PA (F := F) c) 0 -∗ Ow (F := F) c 10 -∗ (∀ (w0 w1 w2 : BitVec 32), pend (XA m ρ c) 1 -∗ past (CA (F := F) c) 1 -∗ Ow (F := F) c 9 -∗ Q ⟨w0, w1, w2⟩)
      -∗ WP c (on (k0_part13 (F := F)) c v19 v29 (k0_pay15 (xb m ρ c) (am2 m ρ c) (wld m ρ c (chunk c 3))) v382) Q) := by
  unfold on
  rw [k0_part13_eq_skeleton]
  unfold k0_part13_skel
  simp only [semSignalWord, semWaitWord, Prog.lift, Prog.bind_op, Prog.bind_ret, Prog.pure_eq_ret]
  iintro #HR Hm1 HA HO Hk
  iapply (wp_stmsg c o2 (msg1 m ρ c) rfl (PA (F := F) c) (XA m ρ c) rfl) $$ Hm1 HA
  iintro HA
  ihave HCA := (past_start (CA (F := F) c))
  iapply (wp_msg1 m ρ K c 0 (by decide) 9 rfl (dva0 c) rfl rfl rfl) $$ HR HA HCA HO
  iintro HA HCA HO
  iapply (wp_end c)
  iapply Hk $$ HA HCA HO

/-- Part 14 of the body. -/
theorem part14 (v19 v29 v350 v406 v417 : BitVec 32) {Q : _ → sProp (MT nD τ sig Unit (Elt F) ℕ UU ℕ)} :
    recs m ρ K ⊢ iprop(pend (XA m ρ c) 1 -∗ past (CA (F := F) c) 1 -∗ Ow (F := F) c 9 -∗ YC (F := F) c 3 -∗ (∀ (w0 w1 : BitVec 32), pend (XA m ρ c) 3 -∗ past (CA (F := F) c) 3 -∗ Ow (F := F) c 7 -∗ YC (F := F) c 3 -∗ Q ⟨w0, w1⟩)
      -∗ WP c (on (k0_part14 (F := F)) c v19 v29 v350 v406 v417) Q) := by
  unfold on
  rw [k0_part14_eq_skeleton]
  unfold k0_part14_skel
  simp only [semSignalWord, semWaitWord, Prog.lift, Prog.bind_op, Prog.bind_ret, Prog.pure_eq_ret]
  iintro #HR HA HCA HO HY3 Hk
  iapply (wp_msg1 m ρ K c 1 (by decide) 8 rfl (dva1 c) rfl rfl rfl) $$ HR HA HCA HO
  iintro HA HCA HO
  iapply (wp_msg1 m ρ K c 2 (by decide) 7 rfl (dva2 c) rfl rfl rfl) $$ HR HA HCA HO
  iintro HA HCA HO
  iapply (wp_ldy c 3 (off2_eq c 3)) $$ HY3
  iintro %_ HY3
  iapply (wp_end c)
  iapply Hk $$ HA HCA HO HY3

/-- Part 15 of the body. -/
theorem part15 (v2 v350 v397 : BitVec 32) {Q : _ → sProp (MT nD τ sig Unit (Elt F) ℕ UU ℕ)} :
    recs m ρ K ⊢ iprop(YC (F := F) c 3 -∗ pend (TS (F := F) c) 12 -∗ past (TD m ρ c) 12 -∗ Ow (F := F) c 7 -∗ ownsSome (c : Thread nD τ) (rslot (nth c 0)) -∗ (pend (TS (F := F) c) 16 -∗ Ow (F := F) c 3 -∗ owns (c : Thread nD τ) (ytile c) fullShare (tile m ρ c c) -∗ CR (F := F) c 15 -∗ RS m ρ c 0 -∗ Q ⟨⟩)
      -∗ WP c (on (k0_part15 (F := F)) c v2 v350 (k0_pay14 (xb m ρ c) (wld m ρ c (chunk c 3))) v397) Q) := by
  unfold on
  rw [k0_part15_eq_skeleton]
  unfold k0_part15_skel
  simp only [semSignalWord, semWaitWord, Prog.lift, Prog.bind_op, Prog.bind_ret, Prog.pure_eq_ret]
  iintro #HR HY3 HS HD HO Hl Hk
  iapply (wp_sty m ρ c 3 (off2_eq c 3) rfl) $$ HY3
  iintro ⟨HT12, HT13, HT14, HT15⟩
  iapply (wp_tile m ρ K c 3 0 12 (by decide) rfl 6 (due_own c 12 (by decide) (by decide) 6 rfl) (cond12 c) (dev12 c) (offr12 c) (offd12 c) (offs12 c)) $$ HR HT12 HS HD HO
  iintro HS HD HO
  iapply (wp_tile m ρ K c 3 1 13 (by decide) rfl 5 (due_own c 13 (by decide) (by decide) 5 rfl) (cond13 c) (dev13 c) (offr13 c) (offd13 c) (offs13 c)) $$ HR HT13 HS HD HO
  iintro HS HD HO
  iapply (wp_tile m ρ K c 3 2 14 (by decide) rfl 4 (due_own c 14 (by decide) (by decide) 4 rfl) (cond14 c) (dev14 c) (offr14 c) (offd14 c) (offs14 c)) $$ HR HT14 HS HD HO
  iintro HS HD HO
  iapply (wp_tile m ρ K c 3 3 15 (by decide) rfl 3 (due_own c 15 (by decide) (by decide) 3 rfl) (cond15 c) (dev15 c) (offr15 c) (offd15 c) (offs15 c)) $$ HR HT15 HS HD HO
  iintro HS HD HO
  ihave HD := (td_end m ρ c) $$ HD
  icases HD with ⟨Hown, HCR⟩
  iapply (wp_ldtile m ρ c (off51_eq c)) $$ Hown
  iintro Hown
  iapply (wp_ldown c (off52_eq c)) $$ Hl
  iintro %_ Hl
  iapply (wp_stown m ρ c (off52_eq c) (own_flat _)) $$ Hl
  iintro Hl
  iapply (wp_end c)
  iapply Hk $$ HS HO Hown HCR Hl

/-- Part 16 of the body. -/
theorem part16 (v19 v418 v439 : BitVec 32) {Q : _ → sProp (MT nD τ sig Unit (Elt F) ℕ UU ℕ)} :
    recs m ρ K ⊢ iprop(pend (RA (F := F) c) 0 -∗ Ow (F := F) c 3 -∗ ownsSome (c : Thread nD τ) m2M -∗ pend (PB (F := F) c) 0 -∗ (∀ (w0 w1 : BitVec 32) (w2 : BitVec 1), pend (RA (F := F) c) 3 -∗ Ow (F := F) c 3 -∗ owns (c : Thread nD τ) r1M fullShare (got1 m ρ c) -∗ (bigSep Finset.univ fun j : Fin 3 => semVal (cell c (.a1r j)) 0) -∗ pend (XB m ρ c) 0 -∗ Q ⟨k0_pay19 (am3 m ρ c) (row1 m ρ c), w0, w1, w2⟩)
      -∗ WP c (on (k0_part16 (F := F)) v19 (am3 m ρ c) v418 v439) Q) := by
  unfold on
  rw [k0_part16_eq_skeleton]
  unfold k0_part16_skel
  simp only [semSignalWord, semWaitWord, Prog.lift, Prog.bind_op, Prog.bind_ret, Prog.pure_eq_ret]
  iintro #HR HRA HO Hm2 HX Hk
  ihave HGA := (past_start (GA m ρ c))
  iapply (wp_slot1 m ρ K c 0 (by decide) 3 rfl (by decide)) $$ HR HRA HGA HO
  iintro HRA HGA HO
  iapply (wp_slot1 m ρ K c 1 (by decide) 3 rfl (by decide)) $$ HR HRA HGA HO
  iintro HRA HGA HO
  iapply (wp_slot1 m ρ K c 2 (by decide) 3 rfl (by decide)) $$ HR HRA HGA HO
  iintro HRA HGA HO
  ihave HGA := (slots1 m ρ c) $$ HGA
  icases HGA with ⟨Hr1, Hz1⟩
  iapply (wp_ldrow c (row1 m ρ c) rfl) $$ Hr1
  iintro Hr1
  iapply (wp_ldwhole c o2) $$ Hm2
  iintro %_ Hm2
  iapply (wp_stmsg c o2 (msg2 m ρ c) rfl (PB (F := F) c) (XB m ρ c) rfl) $$ Hm2 HX
  iintro HX
  iapply (wp_end c)
  iapply Hk $$ HRA HO Hr1 Hz1 HX

/-- Part 17 of the body. -/
theorem part17 (v19 v29 v511 v512 : BitVec 32) (v513 : BitVec 1) {Q : _ → sProp (MT nD τ sig Unit (Elt F) ℕ UU ℕ)} :
    recs m ρ K ⊢ iprop(pend (XB m ρ c) 0 -∗ Ow (F := F) c 3 -∗ (∀ (w0 w1 : BitVec 32), past (CB (F := F) c) 1 -∗ pend (XB m ρ c) 1 -∗ Ow (F := F) c 2 -∗ Q ⟨w0, w1⟩)
      -∗ WP c (on (k0_part17 (F := F)) c v19 v29 v511 v512 v513) Q) := by
  unfold on
  rw [k0_part17_eq_skeleton]
  unfold k0_part17_skel
  simp only [semSignalWord, semWaitWord, Prog.lift, Prog.bind_op, Prog.bind_ret, Prog.pure_eq_ret]
  iintro #HR HX HO Hk
  ihave HCB := (past_start (CB (F := F) c))
  iapply (wp_msg2 m ρ K c 0 (by decide) 2 rfl (dvb0 c) rfl rfl rfl) $$ HR HX HCB HO
  iintro HX HCB HO
  iapply (wp_end c)
  iapply Hk $$ HCB HX HO

/-- Part 18 of the body. -/
theorem part18 (v19 v29 v521 v542 : BitVec 32) {Q : _ → sProp (MT nD τ sig Unit (Elt F) ℕ UU ℕ)} :
    recs m ρ K ⊢ iprop(pend (XB m ρ c) 1 -∗ past (CB (F := F) c) 1 -∗ Ow (F := F) c 2 -∗ pend (RB (F := F) c) 0 -∗ (∀ (w0 w1 : BitVec 32), pend (XB m ρ c) 3 -∗ past (CB (F := F) c) 3 -∗ Ow (F := F) c 0 -∗ past (GB m ρ c) 1 -∗ pend (RB (F := F) c) 1 -∗ Q ⟨w0, w1⟩)
      -∗ WP c (on (k0_part18 (F := F)) c v19 v29 v521 v542) Q) := by
  unfold on
  rw [k0_part18_eq_skeleton]
  unfold k0_part18_skel
  simp only [semSignalWord, semWaitWord, Prog.lift, Prog.bind_op, Prog.bind_ret, Prog.pure_eq_ret]
  iintro #HR HX HCB HO HRB Hk
  iapply (wp_msg2 m ρ K c 1 (by decide) 1 rfl (dvb1 c) rfl rfl rfl) $$ HR HX HCB HO
  iintro HX HCB HO
  iapply (wp_msg2 m ρ K c 2 (by decide) 0 rfl (dvb2 c) rfl rfl rfl) $$ HR HX HCB HO
  iintro HX HCB HO
  ihave HGB := (past_start (GB m ρ c))
  iapply (wp_slot2 m ρ K c 0 (by decide) 0 rfl (by decide)) $$ HR HRB HGB HO
  iintro HRB HGB HO
  iapply (wp_end c)
  iapply Hk $$ HX HCB HO HGB HRB

/-- Part 19 of the body. -/
theorem part19 (v2 v563 v578 : BitVec 32) {Q : _ → sProp (MT nD τ sig Unit (Elt F) ℕ UU ℕ)} :
    recs m ρ K ⊢ iprop(pend (RB (F := F) c) 1 -∗ past (GB m ρ c) 1 -∗ Ow (F := F) c 0 -∗ LA0 (F := F) c -∗ RS m ρ c 0 -∗ (pend (RB (F := F) c) 3 -∗ Ow (F := F) c 0 -∗ owns (c : Thread nD τ) r2M fullShare (got2 m ρ c) -∗ (bigSep Finset.univ fun j : Fin 3 => semVal (cell c (.a2r j)) 0) -∗ LC m ρ c 0 (by decide) -∗ Q (k0_pay21 (gmx m ρ c) (row2 m ρ c)))
      -∗ WP c (on (k0_part19 (F := F)) c v2 (gmx m ρ c) v563 v578) Q) := by
  unfold on
  rw [k0_part19_eq_skeleton]
  unfold k0_part19_skel
  simp only [semSignalWord, semWaitWord, Prog.lift, Prog.bind_op, Prog.bind_ret, Prog.pure_eq_ret]
  iintro #HR HRB HGB HO HLA Hl Hk
  iapply (wp_slot2 m ρ K c 1 (by decide) 0 rfl (by decide)) $$ HR HRB HGB HO
  iintro HRB HGB HO
  iapply (wp_slot2 m ρ K c 2 (by decide) 0 rfl (by decide)) $$ HR HRB HGB HO
  iintro HRB HGB HO
  ihave HGB := (slots2 m ρ c) $$ HGB
  icases HGB with ⟨Hr2, Hz2⟩
  iapply (wp_ldrow c (row2 m ρ c) rfl) $$ Hr2
  iintro Hr2
  ihave HL := (la_start m ρ c) $$ HLA Hl
  iapply (wp_ldr m ρ c 0 _ (off52_eq c)) $$ HL
  iintro HL
  iapply (wp_ldq m ρ c 0 _ (off52_eq c)) $$ HL
  iintro %_ HL
  iapply (wp_stq m ρ c 0 _ (off52_eq c) rfl) $$ HL
  iintro HL
  iapply (wp_end c)
  iapply Hk $$ HRB HO Hr2 Hz2 HL

end Cert.KernelIdeal.Body
-- ==== Proof.KernelIdeal.PartsC.lean ====
/-
The parts 20 to 29 of the kernel body: what each takes and what it leaves.
-/
module

public import proofs.«01_k».proof.Proof.KernelIdeal.PartsB

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

/-- Part 20 of the body. -/
theorem part20 (v2 : BitVec 32) {Q : _ → sProp (MT nD τ sig Unit (Elt F) ℕ UU ℕ)} :
    recs m ρ K ⊢ iprop(LC m ρ c 0 (by decide) -∗ Ow (F := F) c 0 -∗ (LC m ρ c 1 (by decide) -∗ Ow (F := F) c 0 -∗ Q ⟨⟩)
      -∗ WP c (on (k0_part20 (F := F)) c v2 (scl m ρ c)) Q) := by
  unfold on
  rw [k0_part20_eq_skeleton]
  unfold k0_part20_skel
  simp only [semSignalWord, semWaitWord, Prog.lift, Prog.bind_op, Prog.bind_ret, Prog.pure_eq_ret]
  iintro #HR HL HO Hk
  iapply (wp_out m ρ K c 0 _ (off52_eq c) (off54_eq c) (off53_eq c)) $$ HR HL
  iintro HL
  iapply (wp_got m ρ K c 1 (by decide) (by decide) (off56_eq c 1 (by decide))) $$ HR HL HO
  iintro HL HO
  iapply (wp_ldr m ρ c 1 _ (off58_eq c 1 (by decide))) $$ HL
  iintro HL
  iapply (wp_ldq m ρ c 1 _ (off58_eq c 1 (by decide))) $$ HL
  iintro %_ HL
  iapply (wp_stq m ρ c 1 _ (off58_eq c 1 (by decide)) rfl) $$ HL
  iintro HL
  iapply (wp_end c)
  iapply Hk $$ HL HO

/-- Part 21 of the body. -/
theorem part21 (v2 : BitVec 32) {Q : _ → sProp (MT nD τ sig Unit (Elt F) ℕ UU ℕ)} :
    recs m ρ K ⊢ iprop(LC m ρ c 1 (by decide) -∗ Ow (F := F) c 0 -∗ (∀ (w0 w1 : BitVec 32), LC m ρ c 2 (by decide) -∗ Ow (F := F) c 0 -∗ Q ⟨w0, w1⟩)
      -∗ WP c (on (k0_part21 (F := F)) c v2 (scl m ρ c)) Q) := by
  unfold on
  rw [k0_part21_eq_skeleton]
  unfold k0_part21_skel
  simp only [semSignalWord, semWaitWord, Prog.lift, Prog.bind_op, Prog.bind_ret, Prog.pure_eq_ret]
  iintro #HR HL HO Hk
  iapply (wp_out m ρ K c 1 _ (off57_eq c 1 (by decide)) (off59_eq c 1 (by decide)) (off56_eq c 1 (by decide))) $$ HR HL
  iintro HL
  iapply (wp_got m ρ K c 2 (by decide) (by decide) (off56_eq c 2 (by decide))) $$ HR HL HO
  iintro HL HO
  iapply (wp_ldr m ρ c 2 _ (off58_eq c 2 (by decide))) $$ HL
  iintro HL
  iapply (wp_ldq m ρ c 2 _ (off58_eq c 2 (by decide))) $$ HL
  iintro %_ HL
  iapply (wp_stq m ρ c 2 _ (off58_eq c 2 (by decide)) rfl) $$ HL
  iintro HL
  iapply (wp_end c)
  iapply Hk $$ HL HO

/-- Part 22 of the body. -/
theorem part22 (v2 v666 c256_i32_479 : BitVec 32) {Q : _ → sProp (MT nD τ sig Unit (Elt F) ℕ UU ℕ)} :
    recs m ρ K ⊢ iprop(LC m ρ c 2 (by decide) -∗ Ow (F := F) c 0 -∗ (∀ (w0 : BitVec 32), LB m ρ c 3 (by decide) -∗ Ow (F := F) c 0 -∗ Q ⟨w0, k0_pay25 (scl m ρ c) (got m ρ c 3 (by decide))⟩)
      -∗ WP c (on (k0_part22 (F := F)) c v2 (scl m ρ c) v666 c256_i32_479) Q) := by
  unfold on
  rw [k0_part22_eq_skeleton]
  unfold k0_part22_skel
  simp only [semSignalWord, semWaitWord, Prog.lift, Prog.bind_op, Prog.bind_ret, Prog.pure_eq_ret]
  iintro #HR HL HO Hk
  iapply (wp_out m ρ K c 2 _ (off57_eq c 2 (by decide)) (off59_eq c 2 (by decide)) (off56_eq c 2 (by decide))) $$ HR HL
  iintro HL
  iapply (wp_got m ρ K c 3 (by decide) (by decide) (off56_eq c 3 (by decide))) $$ HR HL HO
  iintro HL HO
  iapply (wp_ldr m ρ c 3 _ (off58_eq c 3 (by decide))) $$ HL
  iintro HL
  iapply (wp_ldq m ρ c 3 _ (off58_eq c 3 (by decide))) $$ HL
  iintro %_ HL
  iapply (wp_end c)
  iapply Hk $$ HL HO

/-- Part 23 of the body. -/
theorem part23 (v2 v704 : BitVec 32) {Q : _ → sProp (MT nD τ sig Unit (Elt F) ℕ UU ℕ)} :
    recs m ρ K ⊢ iprop(LB m ρ c 3 (by decide) -∗ Ow (F := F) c 0 -∗ (∀ (w0 : BitVec 32) (w1 : Vec F S1x256x128 .f32), LB m ρ c 4 (by decide) -∗ Ow (F := F) c 0 -∗ Q ⟨w0, k0_pay26 (scl m ρ c) (got m ρ c 4 (by decide)), w1⟩)
      -∗ WP c (on (k0_part23 (F := F)) c v2 (scl m ρ c) v704 (k0_pay25 (scl m ρ c) (got m ρ c 3 (by decide)))) Q) := by
  unfold on
  rw [k0_part23_eq_skeleton]
  unfold k0_part23_skel
  simp only [semSignalWord, semWaitWord, Prog.lift, Prog.bind_op, Prog.bind_ret, Prog.pure_eq_ret]
  iintro #HR HL HO Hk
  iapply (wp_stq m ρ c 3 _ (off58_eq c 3 (by decide)) rfl) $$ HL
  iintro HL
  iapply (wp_out m ρ K c 3 _ (off57_eq c 3 (by decide)) (off59_eq c 3 (by decide)) (off56_eq c 3 (by decide))) $$ HR HL
  iintro HL
  iapply (wp_got m ρ K c 4 (by decide) (by decide) (off56_eq c 4 (by decide))) $$ HR HL HO
  iintro HL HO
  iapply (wp_ldr m ρ c 4 _ (off58_eq c 4 (by decide))) $$ HL
  iintro HL
  iapply (wp_ldq m ρ c 4 _ (off58_eq c 4 (by decide))) $$ HL
  iintro %_ HL
  iapply (wp_end c)
  iapply Hk $$ HL HO

/-- Part 24 of the body. -/
theorem part24 (v2 v742 : BitVec 32) (v761 : Vec F S1x256x128 .f32) {Q : _ → sProp (MT nD τ sig Unit (Elt F) ℕ UU ℕ)} :
    recs m ρ K ⊢ iprop(LB m ρ c 4 (by decide) -∗ Ow (F := F) c 0 -∗ (∀ (w0 : BitVec 32), LB m ρ c 5 (by decide) -∗ Ow (F := F) c 0 -∗ Q ⟨w0, k0_pay28 (scl m ρ c) (got m ρ c 5 (by decide))⟩)
      -∗ WP c (on (k0_part24 (F := F)) c v2 (scl m ρ c) v742 (k0_pay26 (scl m ρ c) (got m ρ c 4 (by decide))) v761) Q) := by
  unfold on
  rw [k0_part24_eq_skeleton]
  unfold k0_part24_skel
  simp only [semSignalWord, semWaitWord, Prog.lift, Prog.bind_op, Prog.bind_ret, Prog.pure_eq_ret]
  iintro #HR HL HO Hk
  iapply (wp_stq m ρ c 4 _ (off58_eq c 4 (by decide)) rfl) $$ HL
  iintro HL
  iapply (wp_out m ρ K c 4 _ (off57_eq c 4 (by decide)) (off59_eq c 4 (by decide)) (off56_eq c 4 (by decide))) $$ HR HL
  iintro HL
  iapply (wp_got m ρ K c 5 (by decide) (by decide) (off56_eq c 5 (by decide))) $$ HR HL HO
  iintro HL HO
  iapply (wp_ldr m ρ c 5 _ (off58_eq c 5 (by decide))) $$ HL
  iintro HL
  iapply (wp_end c)
  iapply Hk $$ HL HO

/-- Part 25 of the body. -/
theorem part25 (v2 v780 : BitVec 32) {Q : _ → sProp (MT nD τ sig Unit (Elt F) ℕ UU ℕ)} :
    recs m ρ K ⊢ iprop(LB m ρ c 5 (by decide) -∗ Ow (F := F) c 0 -∗ (∀ (w0 : BitVec 32), LB m ρ c 6 (by decide) -∗ Ow (F := F) c 0 -∗ Q ⟨w0, k0_pay30 (scl m ρ c) (got m ρ c 6 (by decide))⟩)
      -∗ WP c (on (k0_part25 (F := F)) c v2 (scl m ρ c) v780 (k0_pay28 (scl m ρ c) (got m ρ c 5 (by decide)))) Q) := by
  unfold on
  rw [k0_part25_eq_skeleton]
  unfold k0_part25_skel
  simp only [semSignalWord, semWaitWord, Prog.lift, Prog.bind_op, Prog.bind_ret, Prog.pure_eq_ret]
  iintro #HR HL HO Hk
  iapply (wp_ldq m ρ c 5 _ (off58_eq c 5 (by decide))) $$ HL
  iintro %_ HL
  iapply (wp_stq m ρ c 5 _ (off58_eq c 5 (by decide)) rfl) $$ HL
  iintro HL
  iapply (wp_out m ρ K c 5 _ (off57_eq c 5 (by decide)) (off59_eq c 5 (by decide)) (off56_eq c 5 (by decide))) $$ HR HL
  iintro HL
  iapply (wp_got m ρ K c 6 (by decide) (by decide) (off56_eq c 6 (by decide))) $$ HR HL HO
  iintro HL HO
  iapply (wp_ldr m ρ c 6 _ (off58_eq c 6 (by decide))) $$ HL
  iintro HL
  iapply (wp_end c)
  iapply Hk $$ HL HO

/-- Part 26 of the body. -/
theorem part26 (v2 v818 : BitVec 32) {Q : _ → sProp (MT nD τ sig Unit (Elt F) ℕ UU ℕ)} :
    recs m ρ K ⊢ iprop(LB m ρ c 6 (by decide) -∗ Ow (F := F) c 0 -∗ (∀ (w0 : BitVec 32), LB m ρ c 7 (by decide) -∗ Ow (F := F) c 0 -∗ Q ⟨w0, k0_pay32 (scl m ρ c) (got m ρ c 7 (by decide))⟩)
      -∗ WP c (on (k0_part26 (F := F)) c v2 (scl m ρ c) v818 (k0_pay30 (scl m ρ c) (got m ρ c 6 (by decide)))) Q) := by
  unfold on
  rw [k0_part26_eq_skeleton]
  unfold k0_part26_skel
  simp only [semSignalWord, semWaitWord, Prog.lift, Prog.bind_op, Prog.bind_ret, Prog.pure_eq_ret]
  iintro #HR HL HO Hk
  iapply (wp_ldq m ρ c 6 _ (off58_eq c 6 (by decide))) $$ HL
  iintro %_ HL
  iapply (wp_stq m ρ c 6 _ (off58_eq c 6 (by decide)) rfl) $$ HL
  iintro HL
  iapply (wp_out m ρ K c 6 _ (off57_eq c 6 (by decide)) (off59_eq c 6 (by decide)) (off56_eq c 6 (by decide))) $$ HR HL
  iintro HL
  iapply (wp_got m ρ K c 7 (by decide) (by decide) (off56_eq c 7 (by decide))) $$ HR HL HO
  iintro HL HO
  iapply (wp_ldr m ρ c 7 _ (off58_eq c 7 (by decide))) $$ HL
  iintro HL
  iapply (wp_end c)
  iapply Hk $$ HL HO

/-- Part 27 of the body. -/
theorem part27 (v2 v856 : BitVec 32) {Q : _ → sProp (MT nD τ sig Unit (Elt F) ℕ UU ℕ)} :
    recs m ρ K ⊢ iprop(LB m ρ c 7 (by decide) -∗ Ow (F := F) c 0 -∗ (∀ (w0 : BitVec 32), LB m ρ c 8 (by decide) -∗ Ow (F := F) c 0 -∗ Q ⟨w0, k0_pay34 (scl m ρ c) (got m ρ c 8 (by decide))⟩)
      -∗ WP c (on (k0_part27 (F := F)) c v2 (scl m ρ c) v856 (k0_pay32 (scl m ρ c) (got m ρ c 7 (by decide)))) Q) := by
  unfold on
  rw [k0_part27_eq_skeleton]
  unfold k0_part27_skel
  simp only [semSignalWord, semWaitWord, Prog.lift, Prog.bind_op, Prog.bind_ret, Prog.pure_eq_ret]
  iintro #HR HL HO Hk
  iapply (wp_ldq m ρ c 7 _ (off58_eq c 7 (by decide))) $$ HL
  iintro %_ HL
  iapply (wp_stq m ρ c 7 _ (off58_eq c 7 (by decide)) rfl) $$ HL
  iintro HL
  iapply (wp_out m ρ K c 7 _ (off57_eq c 7 (by decide)) (off59_eq c 7 (by decide)) (off56_eq c 7 (by decide))) $$ HR HL
  iintro HL
  iapply (wp_got m ρ K c 8 (by decide) (by decide) (off56_eq c 8 (by decide))) $$ HR HL HO
  iintro HL HO
  iapply (wp_ldr m ρ c 8 _ (off58_eq c 8 (by decide))) $$ HL
  iintro HL
  iapply (wp_end c)
  iapply Hk $$ HL HO

/-- Part 28 of the body. -/
theorem part28 (v2 v894 : BitVec 32) {Q : _ → sProp (MT nD τ sig Unit (Elt F) ℕ UU ℕ)} :
    recs m ρ K ⊢ iprop(LB m ρ c 8 (by decide) -∗ Ow (F := F) c 0 -∗ (∀ (w0 : BitVec 32), LB m ρ c 9 (by decide) -∗ Ow (F := F) c 0 -∗ Q ⟨w0, k0_pay36 (got m ρ c 9 (by decide))⟩)
      -∗ WP c (on (k0_part28 (F := F)) c v2 (scl m ρ c) v894 (k0_pay34 (scl m ρ c) (got m ρ c 8 (by decide)))) Q) := by
  unfold on
  rw [k0_part28_eq_skeleton]
  unfold k0_part28_skel
  simp only [semSignalWord, semWaitWord, Prog.lift, Prog.bind_op, Prog.bind_ret, Prog.pure_eq_ret]
  iintro #HR HL HO Hk
  iapply (wp_ldq m ρ c 8 _ (off58_eq c 8 (by decide))) $$ HL
  iintro %_ HL
  iapply (wp_stq m ρ c 8 _ (off58_eq c 8 (by decide)) rfl) $$ HL
  iintro HL
  iapply (wp_out m ρ K c 8 _ (off57_eq c 8 (by decide)) (off59_eq c 8 (by decide)) (off56_eq c 8 (by decide))) $$ HR HL
  iintro HL
  iapply (wp_got m ρ K c 9 (by decide) (by decide) (off56_eq c 9 (by decide))) $$ HR HL HO
  iintro HL HO
  iapply (wp_ldr m ρ c 9 _ (off58_eq c 9 (by decide))) $$ HL
  iintro HL
  iapply (wp_end c)
  iapply Hk $$ HL HO

/-- Part 29 of the body. -/
theorem part29 (v2 v932 : BitVec 32) {Q : _ → sProp (MT nD τ sig Unit (Elt F) ℕ UU ℕ)} :
    recs m ρ K ⊢ iprop(LB m ρ c 9 (by decide) -∗ Ow (F := F) c 0 -∗ (∀ (w0 : BitVec 32), LB m ρ c 10 (by decide) -∗ Ow (F := F) c 0 -∗ Q ⟨w0, (got m ρ c 10 (by decide))⟩)
      -∗ WP c (on (k0_part29 (F := F)) c v2 (scl m ρ c) v932 (k0_pay36 (got m ρ c 9 (by decide)))) Q) := by
  unfold on
  rw [k0_part29_eq_skeleton]
  unfold k0_part29_skel
  simp only [semSignalWord, semWaitWord, Prog.lift, Prog.bind_op, Prog.bind_ret, Prog.pure_eq_ret]
  iintro #HR HL HO Hk
  iapply (wp_ldq m ρ c 9 _ (off58_eq c 9 (by decide))) $$ HL
  iintro %_ HL
  iapply (wp_stq m ρ c 9 _ (off58_eq c 9 (by decide)) rfl) $$ HL
  iintro HL
  iapply (wp_out m ρ K c 9 _ (off57_eq c 9 (by decide)) (off59_eq c 9 (by decide)) (off56_eq c 9 (by decide))) $$ HR HL
  iintro HL
  iapply (wp_got m ρ K c 10 (by decide) (by decide) (off56_eq c 10 (by decide))) $$ HR HL HO
  iintro HL HO
  iapply (wp_ldr m ρ c 10 _ (off58_eq c 10 (by decide))) $$ HL
  iintro HL
  iapply (wp_end c)
  iapply Hk $$ HL HO

end Cert.KernelIdeal.Body
-- ==== Proof.KernelIdeal.PartsD.lean ====
/-
The parts 30 to 40 of the kernel body: what each takes and what it leaves.
-/
module

public import proofs.«01_k».proof.Proof.KernelIdeal.PartsC

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

/-- Part 30 of the body. -/
theorem part30 (v2 v970 : BitVec 32) {Q : _ → sProp (MT nD τ sig Unit (Elt F) ℕ UU ℕ)} :
    recs m ρ K ⊢ iprop(LB m ρ c 10 (by decide) -∗ Ow (F := F) c 0 -∗ (∀ (w0 : BitVec 32), LB m ρ c 11 (by decide) -∗ Ow (F := F) c 0 -∗ Q w0)
      -∗ WP c (on (k0_part30 (F := F)) c v2 (scl m ρ c) v970 (got m ρ c 10 (by decide))) Q) := by
  unfold on
  rw [k0_part30_eq_skeleton]
  unfold k0_part30_skel
  simp only [semSignalWord, semWaitWord, Prog.lift, Prog.bind_op, Prog.bind_ret, Prog.pure_eq_ret]
  iintro #HR HL HO Hk
  iapply (wp_ldq m ρ c 10 _ (off58_eq c 10 (by decide))) $$ HL
  iintro %_ HL
  iapply (wp_stq m ρ c 10 _ (off58_eq c 10 (by decide)) rfl) $$ HL
  iintro HL
  iapply (wp_out m ρ K c 10 _ (off57_eq c 10 (by decide)) (off59_eq c 10 (by decide)) (off56_eq c 10 (by decide))) $$ HR HL
  iintro HL
  iapply (wp_got m ρ K c 11 (by decide) (by decide) (off56_eq c 11 (by decide))) $$ HR HL HO
  iintro HL HO
  iapply (wp_end c)
  iapply Hk $$ HL HO

/-- Part 31 of the body. -/
theorem part31 (v2 v1008 : BitVec 32) {Q : _ → sProp (MT nD τ sig Unit (Elt F) ℕ UU ℕ)} :
    recs m ρ K ⊢ iprop(LB m ρ c 11 (by decide) -∗ Ow (F := F) c 0 -∗ (∀ (w0 : BitVec 32), LB m ρ c 12 (by decide) -∗ Ow (F := F) c 0 -∗ Q w0)
      -∗ WP c (on (k0_part31 (F := F)) c v2 (scl m ρ c) v1008) Q) := by
  unfold on
  rw [k0_part31_eq_skeleton]
  unfold k0_part31_skel
  simp only [semSignalWord, semWaitWord, Prog.lift, Prog.bind_op, Prog.bind_ret, Prog.pure_eq_ret]
  iintro #HR HL HO Hk
  iapply (wp_ldr m ρ c 11 _ (off58_eq c 11 (by decide))) $$ HL
  iintro HL
  iapply (wp_ldq m ρ c 11 _ (off58_eq c 11 (by decide))) $$ HL
  iintro %_ HL
  iapply (wp_stq m ρ c 11 _ (off58_eq c 11 (by decide)) rfl) $$ HL
  iintro HL
  iapply (wp_out m ρ K c 11 _ (off57_eq c 11 (by decide)) (off59_eq c 11 (by decide)) (off56_eq c 11 (by decide))) $$ HR HL
  iintro HL
  iapply (wp_got m ρ K c 12 (by decide) (by decide) (off56_eq c 12 (by decide))) $$ HR HL HO
  iintro HL HO
  iapply (wp_end c)
  iapply Hk $$ HL HO

/-- Part 32 of the body. -/
theorem part32 (v2 v1046 : BitVec 32) {Q : _ → sProp (MT nD τ sig Unit (Elt F) ℕ UU ℕ)} :
    recs m ρ K ⊢ iprop(LB m ρ c 12 (by decide) -∗ (∀ (w0 : BitVec 32), LA m ρ c 13 -∗ Q w0)
      -∗ WP c (on (k0_part32 (F := F)) c v2 (scl m ρ c) v1046) Q) := by
  unfold on
  rw [k0_part32_eq_skeleton]
  unfold k0_part32_skel
  simp only [semSignalWord, semWaitWord, Prog.lift, Prog.bind_op, Prog.bind_ret, Prog.pure_eq_ret]
  iintro #HR HL Hk
  iapply (wp_ldr m ρ c 12 _ (off58_eq c 12 (by decide))) $$ HL
  iintro HL
  iapply (wp_ldq m ρ c 12 _ (off58_eq c 12 (by decide))) $$ HL
  iintro %_ HL
  iapply (wp_stq m ρ c 12 _ (off58_eq c 12 (by decide)) rfl) $$ HL
  iintro HL
  iapply (wp_out m ρ K c 12 _ (off57_eq c 12 (by decide)) (off59_eq c 12 (by decide)) (off56_eq c 12 (by decide))) $$ HR HL
  iintro HL
  iapply (wp_end c)
  iapply Hk $$ HL

/-- Part 33 of the body. -/
theorem part33 (v2 v1084 : BitVec 32) {Q : _ → sProp (MT nD τ sig Unit (Elt F) ℕ UU ℕ)} :
    recs m ρ K ⊢ iprop(LA m ρ c 13 -∗ Ow (F := F) c 0 -∗ (∀ (w0 : BitVec 32), LA m ρ c 14 -∗ Ow (F := F) c 0 -∗ Q w0)
      -∗ WP c (on (k0_part33 (F := F)) c v2 (scl m ρ c) v1084) Q) := by
  unfold on
  rw [k0_part33_eq_skeleton]
  unfold k0_part33_skel
  simp only [semSignalWord, semWaitWord, Prog.lift, Prog.bind_op, Prog.bind_ret, Prog.pure_eq_ret]
  iintro #HR HL HO Hk
  iapply (wp_got m ρ K c 13 (by decide) (by decide) (off56_eq c 13 (by decide))) $$ HR HL HO
  iintro HL HO
  iapply (wp_ldr m ρ c 13 _ (off58_eq c 13 (by decide))) $$ HL
  iintro HL
  iapply (wp_ldq m ρ c 13 _ (off58_eq c 13 (by decide))) $$ HL
  iintro %_ HL
  iapply (wp_stq m ρ c 13 _ (off58_eq c 13 (by decide)) rfl) $$ HL
  iintro HL
  iapply (wp_out m ρ K c 13 _ (off57_eq c 13 (by decide)) (off59_eq c 13 (by decide)) (off56_eq c 13 (by decide))) $$ HR HL
  iintro HL
  iapply (wp_end c)
  iapply Hk $$ HL HO

/-- Part 34 of the body. -/
theorem part34 (v2 v1122 : BitVec 32) {Q : _ → sProp (MT nD τ sig Unit (Elt F) ℕ UU ℕ)} :
    recs m ρ K ⊢ iprop(LA m ρ c 14 -∗ Ow (F := F) c 0 -∗ (∀ (w0 : BitVec 32), LA m ρ c 15 -∗ Ow (F := F) c 0 -∗ Q w0)
      -∗ WP c (on (k0_part34 (F := F)) c v2 (scl m ρ c) v1122) Q) := by
  unfold on
  rw [k0_part34_eq_skeleton]
  unfold k0_part34_skel
  simp only [semSignalWord, semWaitWord, Prog.lift, Prog.bind_op, Prog.bind_ret, Prog.pure_eq_ret]
  iintro #HR HL HO Hk
  iapply (wp_got m ρ K c 14 (by decide) (by decide) (off56_eq c 14 (by decide))) $$ HR HL HO
  iintro HL HO
  iapply (wp_ldr m ρ c 14 _ (off58_eq c 14 (by decide))) $$ HL
  iintro HL
  iapply (wp_ldq m ρ c 14 _ (off58_eq c 14 (by decide))) $$ HL
  iintro %_ HL
  iapply (wp_stq m ρ c 14 _ (off58_eq c 14 (by decide)) rfl) $$ HL
  iintro HL
  iapply (wp_out m ρ K c 14 _ (off57_eq c 14 (by decide)) (off59_eq c 14 (by decide)) (off56_eq c 14 (by decide))) $$ HR HL
  iintro HL
  iapply (wp_end c)
  iapply Hk $$ HL HO

/-- Part 35 of the body. -/
theorem part35 (v1160 : BitVec 32) {Q : _ → sProp (MT nD τ sig Unit (Elt F) ℕ UU ℕ)} :
    recs m ρ K ⊢ iprop(LA m ρ c 15 -∗ Ow (F := F) c 0 -∗ (Ow (F := F) c 0 -∗ past (ZT (F := F) c) 16 -∗ pend (D2 m ρ c) 2 -∗ past (D3 m ρ c) 2 -∗ Q ⟨⟩)
      -∗ WP c (on (k0_part35 (F := F)) c (scl m ρ c) v1160) Q) := by
  unfold on
  rw [k0_part35_eq_skeleton]
  unfold k0_part35_skel
  simp only [semSignalWord, semWaitWord, Prog.lift, Prog.bind_op, Prog.bind_ret, Prog.pure_eq_ret]
  iintro #HR HL HO Hk
  iapply (wp_got m ρ K c 15 (by decide) (by decide) (off56_eq c 15 (by decide))) $$ HR HL HO
  iintro HL HO
  iapply (wp_ldr m ρ c 15 _ (off58_eq c 15 (by decide))) $$ HL
  iintro HL
  iapply (wp_ldq m ρ c 15 _ (off58_eq c 15 (by decide))) $$ HL
  iintro %_ HL
  iapply (wp_stq m ρ c 15 _ (off58_eq c 15 (by decide)) rfl) $$ HL
  iintro HL
  iapply (wp_out m ρ K c 15 _ (off57_eq c 15 (by decide)) (off59_eq c 15 (by decide)) (off56_eq c 15 (by decide))) $$ HR HL
  iintro HL
  ihave HL := (la_end m ρ c) $$ HL
  icases HL with ⟨HZ, HP, HE⟩
  iapply (wp_outw m ρ K c 0 _ (off53_eq c)) $$ HR HP HE HO
  iintro HP HE HO
  iapply (wp_outw m ρ K c 1 _ (off56_eq c 1 (by decide))) $$ HR HP HE HO
  iintro HP HE HO
  iapply (wp_end c)
  iapply Hk $$ HO HZ HP HE

/-- Part 36 of the body. -/
theorem part36 {Q : _ → sProp (MT nD τ sig Unit (Elt F) ℕ UU ℕ)} :
    recs m ρ K ⊢ iprop(pend (D2 m ρ c) 2 -∗ past (D3 m ρ c) 2 -∗ Ow (F := F) c 0 -∗ (pend (D2 m ρ c) 9 -∗ past (D3 m ρ c) 9 -∗ Ow (F := F) c 0 -∗ Q ⟨⟩)
      -∗ WP c (on (k0_part36 (F := F)) c) Q) := by
  unfold on
  rw [k0_part36_eq_skeleton]
  unfold k0_part36_skel
  simp only [semSignalWord, semWaitWord, Prog.lift, Prog.bind_op, Prog.bind_ret, Prog.pure_eq_ret]
  iintro #HR HP HE HO Hk
  iapply (wp_outw m ρ K c 2 _ (off56_eq c 2 (by decide))) $$ HR HP HE HO
  iintro HP HE HO
  iapply (wp_outw m ρ K c 3 _ (off56_eq c 3 (by decide))) $$ HR HP HE HO
  iintro HP HE HO
  iapply (wp_outw m ρ K c 4 _ (off56_eq c 4 (by decide))) $$ HR HP HE HO
  iintro HP HE HO
  iapply (wp_outw m ρ K c 5 _ (off56_eq c 5 (by decide))) $$ HR HP HE HO
  iintro HP HE HO
  iapply (wp_outw m ρ K c 6 _ (off56_eq c 6 (by decide))) $$ HR HP HE HO
  iintro HP HE HO
  iapply (wp_outw m ρ K c 7 _ (off56_eq c 7 (by decide))) $$ HR HP HE HO
  iintro HP HE HO
  iapply (wp_outw m ρ K c 8 _ (off56_eq c 8 (by decide))) $$ HR HP HE HO
  iintro HP HE HO
  iapply (wp_end c)
  iapply Hk $$ HP HE HO

/-- Part 37 of the body. -/
theorem part37 {Q : _ → sProp (MT nD τ sig Unit (Elt F) ℕ UU ℕ)} :
    recs m ρ K ⊢ iprop(pend (D2 m ρ c) 9 -∗ past (D3 m ρ c) 9 -∗ Ow (F := F) c 0 -∗ (pend (D2 m ρ c) 16 -∗ past (D3 m ρ c) 16 -∗ Ow (F := F) c 0 -∗ Q ⟨⟩)
      -∗ WP c (on (k0_part37 (F := F)) c) Q) := by
  unfold on
  rw [k0_part37_eq_skeleton]
  unfold k0_part37_skel
  simp only [semSignalWord, semWaitWord, Prog.lift, Prog.bind_op, Prog.bind_ret, Prog.pure_eq_ret]
  iintro #HR HP HE HO Hk
  iapply (wp_outw m ρ K c 9 _ (off56_eq c 9 (by decide))) $$ HR HP HE HO
  iintro HP HE HO
  iapply (wp_outw m ρ K c 10 _ (off56_eq c 10 (by decide))) $$ HR HP HE HO
  iintro HP HE HO
  iapply (wp_outw m ρ K c 11 _ (off56_eq c 11 (by decide))) $$ HR HP HE HO
  iintro HP HE HO
  iapply (wp_outw m ρ K c 12 _ (off56_eq c 12 (by decide))) $$ HR HP HE HO
  iintro HP HE HO
  iapply (wp_outw m ρ K c 13 _ (off56_eq c 13 (by decide))) $$ HR HP HE HO
  iintro HP HE HO
  iapply (wp_outw m ρ K c 14 _ (off56_eq c 14 (by decide))) $$ HR HP HE HO
  iintro HP HE HO
  iapply (wp_outw m ρ K c 15 _ (off56_eq c 15 (by decide))) $$ HR HP HE HO
  iintro HP HE HO
  iapply (wp_end c)
  iapply Hk $$ HP HE HO

/-- Part 38 of the body. -/
theorem part38 {Q : _ → sProp (MT nD τ sig Unit (Elt F) ℕ UU ℕ)} :
    recs m ρ K ⊢ iprop(CR (F := F) c 15 -∗ TsSt m ρ c 0 -∗ Ow (F := F) c 0 -∗ (CR (F := F) c 10 -∗ TsSt m ρ c 5 -∗ Ow (F := F) c 0 -∗ Q ⟨⟩)
      -∗ WP c (on (k0_part38 (F := F))) Q) := by
  unfold on
  rw [k0_part38_eq_skeleton]
  unfold k0_part38_skel
  simp only [semSignalWord, semWaitWord, Prog.lift, Prog.bind_op, Prog.bind_ret, Prog.pure_eq_ret]
  iintro #HR HCR Hts HO Hk
  iapply (wp_tsw m ρ K c 0 14) $$ HR HCR Hts HO
  iintro HCR Hts HO
  iapply (wp_tsw m ρ K c 1 13) $$ HR HCR Hts HO
  iintro HCR Hts HO
  iapply (wp_tsw m ρ K c 2 12) $$ HR HCR Hts HO
  iintro HCR Hts HO
  iapply (wp_tsw m ρ K c 3 11) $$ HR HCR Hts HO
  iintro HCR Hts HO
  iapply (wp_tsw m ρ K c 4 10) $$ HR HCR Hts HO
  iintro HCR Hts HO
  iapply (wp_end c)
  iapply Hk $$ HCR Hts HO

/-- Part 39 of the body. -/
theorem part39 {Q : _ → sProp (MT nD τ sig Unit (Elt F) ℕ UU ℕ)} :
    recs m ρ K ⊢ iprop(CR (F := F) c 10 -∗ TsSt m ρ c 5 -∗ Ow (F := F) c 0 -∗ (CR (F := F) c 5 -∗ TsSt m ρ c 10 -∗ Ow (F := F) c 0 -∗ Q ⟨⟩)
      -∗ WP c (on (k0_part39 (F := F))) Q) := by
  unfold on
  rw [k0_part39_eq_skeleton]
  unfold k0_part39_skel
  simp only [semSignalWord, semWaitWord, Prog.lift, Prog.bind_op, Prog.bind_ret, Prog.pure_eq_ret]
  iintro #HR HCR Hts HO Hk
  iapply (wp_tsw m ρ K c 5 9) $$ HR HCR Hts HO
  iintro HCR Hts HO
  iapply (wp_tsw m ρ K c 6 8) $$ HR HCR Hts HO
  iintro HCR Hts HO
  iapply (wp_tsw m ρ K c 7 7) $$ HR HCR Hts HO
  iintro HCR Hts HO
  iapply (wp_tsw m ρ K c 8 6) $$ HR HCR Hts HO
  iintro HCR Hts HO
  iapply (wp_tsw m ρ K c 9 5) $$ HR HCR Hts HO
  iintro HCR Hts HO
  iapply (wp_end c)
  iapply Hk $$ HCR Hts HO

/-- Part 40 of the body. -/
theorem part40 {Q : _ → sProp (MT nD τ sig Unit (Elt F) ℕ UU ℕ)} :
    recs m ρ K ⊢ iprop(CR (F := F) c 5 -∗ TsSt m ρ c 10 -∗ Ow (F := F) c 0 -∗ past (CA (F := F) c) 3 -∗ (TSE m ρ c -∗ Ow (F := F) c 0 -∗ pend (CA (F := F) c) 1 -∗ past (EA m ρ c) 1 -∗ Q ⟨⟩)
      -∗ WP c (on (k0_part40 (F := F))) Q) := by
  unfold on
  rw [k0_part40_eq_skeleton]
  unfold k0_part40_skel
  simp only [semSignalWord, semWaitWord, Prog.lift, Prog.bind_op, Prog.bind_ret, Prog.pure_eq_ret]
  iintro #HR HCR Hts HO HCA Hk
  iapply (wp_tsw m ρ K c 10 4) $$ HR HCR Hts HO
  iintro HCR Hts HO
  iapply (wp_tsw m ρ K c 11 3) $$ HR HCR Hts HO
  iintro HCR Hts HO
  iapply (wp_tsw m ρ K c 12 2) $$ HR HCR Hts HO
  iintro HCR Hts HO
  iapply (wp_tsw m ρ K c 13 1) $$ HR HCR Hts HO
  iintro HCR Hts HO
  iapply (wp_tsl m ρ K c) $$ HR HCR Hts HO
  iintro Hts HO
  ihave HCA := (turn (CA (F := F) c)) $$ HCA
  ihave HEA := (past_start (EA m ρ c))
  iapply (wp_sent1 m ρ K c 0 (by decide) rfl) $$ HR HCA HEA HO
  iintro HCA HEA HO
  iapply (wp_end c)
  iapply Hk $$ Hts HO HCA HEA

end Cert.KernelIdeal.Body
-- ==== Proof.KernelIdeal.Body.lean ====
/-
The kernel body: its forty parts in order, and the last waits.
-/
module

public import proofs.«01_k».proof.Proof.KernelIdeal.PartsD

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 48 → ℕ) (c : Dev nD)

/-- The forty parts in order, and the last two waits of the first exchange. -/
theorem part41 {Q : _ → sProp (MT nD τ sig Unit (Elt F) ℕ UU ℕ)} :
    recs m ρ K ⊢ iprop(pend (BP (F := F) c) 0 -∗ Ow (F := F) c 38 -∗ owns (c : Thread nD τ) xM fullShare (xstg m ρ c) -∗ WS m ρ c 0 0 -∗ WS m ρ c 1 0 -∗ YC (F := F) c 0 -∗ YC (F := F) c 1 -∗ YC (F := F) c 2 -∗ YC (F := F) c 3 -∗ BW (F := F) c -∗ ownsSome (c : Thread nD τ) m1M -∗ ownsSome (c : Thread nD τ) m2M -∗ pend (RA (F := F) c) 0 -∗ pend (RB (F := F) c) 0 -∗ ownsSome (c : Thread nD τ) (rslot (nth c 0)) -∗ LA0 (F := F) c -∗ TsSt m ρ c 0 -∗ (pend (BP (F := F) c) 16 -∗ Ow (F := F) c 0 -∗ owns (c : Thread nD τ) xM fullShare (xstg m ρ c) -∗ WS m ρ c 0 4 -∗ WS m ρ c 1 4 -∗ pend (RA (F := F) c) 3 -∗ pend (RB (F := F) c) 3 -∗ TSE m ρ c -∗ pend (TS (F := F) c) 16 -∗ pend (XA m ρ c) 3 -∗ pend (XB m ρ c) 3 -∗ semVal (cell c .bar) 0 -∗ pend (CA (F := F) c) 3 -∗ owns (c : Thread nD τ) (ytile c) fullShare (tile m ρ c c) -∗ owns (c : Thread nD τ) r1M fullShare (got1 m ρ c) -∗ (bigSep Finset.univ fun j : Fin 3 => semVal (cell c (.a1r j)) 0) -∗ past (CB (F := F) c) 3 -∗ owns (c : Thread nD τ) r2M fullShare (got2 m ρ c) -∗ (bigSep Finset.univ fun j : Fin 3 => semVal (cell c (.a2r j)) 0) -∗ past (ZT (F := F) c) 16 -∗ pend (D2 m ρ c) 16 -∗ past (D3 m ρ c) 16 -∗ past (EA m ρ c) 3 -∗ Q ⟨⟩)
      -∗ WP c (on (k0_part41 (F := F))) Q) := by
  unfold on
  rw [k0_part41_eq_skeleton]
  unfold k0_part41_skel
  skip
  iintro #HR HB HO Hx HW0 HW1 HY0 HY1 HY2 HY3 HBW Hm1 Hm2 HRA HRB Hl HLA Hts Hk
  iapply (wp_seq c)
  iapply (part1 m ρ K c) $$ HR HB HO
  iintro %_ %_ %_ HB HO
  iapply (wp_seq c)
  iapply (part2 m ρ K c) $$ HR HB HO
  iintro %_ %_ HB HO
  iapply (wp_seq c)
  iapply (part3 m ρ K c _ _ _) $$ HR HB HO
  iintro %_ %_ HB HO
  iapply (wp_seq c)
  iapply (part4 m ρ K c _ _ _) $$ HR HW0 Hx
  iintro %_ HW0 Hx
  iapply (wp_seq c)
  iapply (part5 m ρ K c _) $$ HR HW1 HW0 HO
  iintro HW1 HW0 HO
  iapply (wp_seq c)
  iapply (part6 m ρ K c _ _ _) $$ HR HBW HO HY0
  iintro %_ %_ %_ HO HS HA HX Hzb HD
  iapply (wp_seq c)
  iapply (part7 m ρ K c _ _ _ _) $$ HR HW0
  iintro %_ %_ %_ %_ HW0
  iapply (wp_seq c)
  iapply (part8 m ρ K c _ _ _ _ _) $$ HR HW1 HO HY1 HS HD
  iintro %_ HW1 HO HT6 HT7 HS HD
  iapply (wp_seq c)
  iapply (part9 m ρ K c _ _ _ _) $$ HR HT6 HS HD HO HT7
  iintro %_ HS HD HO
  iapply (wp_seq c)
  iapply (part10 m ρ K c _) $$ HR HW1 HW0 HO
  iintro HW1 HW0 HO
  iapply (wp_seq c)
  iapply (part11 m ρ K c _ _ _) $$ HR HY2 HS HD HO
  iintro %_ %_ %_ %_ %_ HS HD HO
  iapply (wp_seq c)
  iapply (part12 m ρ K c _ _ _ _ _ _) $$ HR HW1 HO Hm1
  iintro %_ %_ HW1 HO Hm1
  iapply (wp_seq c)
  iapply (part13 m ρ K c _ _ _) $$ HR Hm1 HA HO
  iintro %_ %_ %_ HA HCA HO
  iapply (wp_seq c)
  iapply (part14 m ρ K c _ _ _ _ _) $$ HR HA HCA HO HY3
  iintro %_ %_ HA HCA HO HY3
  iapply (wp_seq c)
  iapply (part15 m ρ K c _ _ _) $$ HR HY3 HS HD HO Hl
  iintro HS HO Hown HCR Hl
  iapply (wp_seq c)
  iapply (part16 m ρ K c _ _ _) $$ HR HRA HO Hm2 HX
  iintro %_ %_ %_ HRA HO Hr1 Hz1 HX
  iapply (wp_seq c)
  iapply (part17 m ρ K c _ _ _ _ _) $$ HR HX HO
  iintro %_ %_ HCB HX HO
  iapply (wp_seq c)
  iapply (part18 m ρ K c _ _ _ _) $$ HR HX HCB HO HRB
  iintro %_ %_ HX HCB HO HGB HRB
  iapply (wp_seq c)
  iapply (part19 m ρ K c _ _ _) $$ HR HRB HGB HO HLA Hl
  iintro HRB HO Hr2 Hz2 HL
  iapply (wp_seq c)
  iapply (part20 m ρ K c _) $$ HR HL HO
  iintro HL HO
  iapply (wp_seq c)
  iapply (part21 m ρ K c _) $$ HR HL HO
  iintro %_ %_ HL HO
  iapply (wp_seq c)
  iapply (part22 m ρ K c _ _ _) $$ HR HL HO
  iintro %_ HL HO
  iapply (wp_seq c)
  iapply (part23 m ρ K c _ _) $$ HR HL HO
  iintro %_ %_ HL HO
  iapply (wp_seq c)
  iapply (part24 m ρ K c _ _ _) $$ HR HL HO
  iintro %_ HL HO
  iapply (wp_seq c)
  iapply (part25 m ρ K c _ _) $$ HR HL HO
  iintro %_ HL HO
  iapply (wp_seq c)
  iapply (part26 m ρ K c _ _) $$ HR HL HO
  iintro %_ HL HO
  iapply (wp_seq c)
  iapply (part27 m ρ K c _ _) $$ HR HL HO
  iintro %_ HL HO
  iapply (wp_seq c)
  iapply (part28 m ρ K c _ _) $$ HR HL HO
  iintro %_ HL HO
  iapply (wp_seq c)
  iapply (part29 m ρ K c _ _) $$ HR HL HO
  iintro %_ HL HO
  iapply (wp_seq c)
  iapply (part30 m ρ K c _ _) $$ HR HL HO
  iintro %_ HL HO
  iapply (wp_seq c)
  iapply (part31 m ρ K c _ _) $$ HR HL HO
  iintro %_ HL HO
  iapply (wp_seq c)
  iapply (part32 m ρ K c _ _) $$ HR HL
  iintro %_ HL
  iapply (wp_seq c)
  iapply (part33 m ρ K c _ _) $$ HR HL HO
  iintro %_ HL HO
  iapply (wp_seq c)
  iapply (part34 m ρ K c _ _) $$ HR HL HO
  iintro %_ HL HO
  iapply (wp_seq c)
  iapply (part35 m ρ K c _) $$ HR HL HO
  iintro HO HZ HP HE
  iapply (wp_seq c)
  iapply (part36 m ρ K c) $$ HR HP HE HO
  iintro HP HE HO
  iapply (wp_seq c)
  iapply (part37 m ρ K c) $$ HR HP HE HO
  iintro HP HE HO
  iapply (wp_seq c)
  iapply (part38 m ρ K c) $$ HR HCR Hts HO
  iintro HCR Hts HO
  iapply (wp_seq c)
  iapply (part39 m ρ K c) $$ HR HCR Hts HO
  iintro HCR Hts HO
  iapply (wp_seq c)
  iapply (part40 m ρ K c) $$ HR HCR Hts HO HCA
  iintro Hts HO HCA HEA
  iapply (wp_sent1 m ρ K c 1 (by decide) rfl) $$ HR HCA HEA HO
  iintro HCA HEA HO
  iapply (wp_sent1 m ρ K c 2 (by decide) rfl) $$ HR HCA HEA HO
  iintro HCA HEA HO
  iapply (wp_end c)
  iapply Hk $$ HB HO Hx HW0 HW1 HRA HRB Hts HS HA HX Hzb HCA Hown Hr1 Hz1 HCB Hr2 Hz2 HZ HP HE HEA

/-- The kernel body: from what it starts with to what it ends with. -/
theorem body_wp {Q : _ → sProp (MT nD τ sig Unit (Elt F) ℕ UU ℕ)} :
    recs m ρ K ⊢ iprop(pend (BP (F := F) c) 0 -∗ Ow (F := F) c 38 -∗ owns (c : Thread nD τ) xM fullShare (xstg m ρ c) -∗ WS m ρ c 0 0 -∗ WS m ρ c 1 0 -∗ YC (F := F) c 0 -∗ YC (F := F) c 1 -∗ YC (F := F) c 2 -∗ YC (F := F) c 3 -∗ BW (F := F) c -∗ ownsSome (c : Thread nD τ) m1M -∗ ownsSome (c : Thread nD τ) m2M -∗ pend (RA (F := F) c) 0 -∗ pend (RB (F := F) c) 0 -∗ ownsSome (c : Thread nD τ) (rslot (nth c 0)) -∗ LA0 (F := F) c -∗ TsSt m ρ c 0 -∗ (pend (BP (F := F) c) 16 -∗ Ow (F := F) c 0 -∗ owns (c : Thread nD τ) xM fullShare (xstg m ρ c) -∗ WS m ρ c 0 4 -∗ WS m ρ c 1 4 -∗ pend (RA (F := F) c) 3 -∗ pend (RB (F := F) c) 3 -∗ TSE m ρ c -∗ pend (TS (F := F) c) 16 -∗ pend (XA m ρ c) 3 -∗ pend (XB m ρ c) 3 -∗ semVal (cell c .bar) 0 -∗ pend (CA (F := F) c) 3 -∗ owns (c : Thread nD τ) (ytile c) fullShare (tile m ρ c c) -∗ owns (c : Thread nD τ) r1M fullShare (got1 m ρ c) -∗ (bigSep Finset.univ fun j : Fin 3 => semVal (cell c (.a1r j)) 0) -∗ pend (CB (F := F) c) 3 -∗ owns (c : Thread nD τ) r2M fullShare (got2 m ρ c) -∗ (bigSep Finset.univ fun j : Fin 3 => semVal (cell c (.a2r j)) 0) -∗ past (ZT (F := F) c) 16 -∗ pend (D2 m ρ c) 16 -∗ past (D3 m ρ c) 16 -∗ past (EA m ρ c) 3 -∗ past (EB m ρ c) 3 -∗ Q ⟨⟩)
      -∗ WP c (on (cc0_body (F := F))) Q) := by
  unfold on
  rw [cc0_body_eq_skeleton]
  unfold cc0_body_skel
  iintro #HR HB HO Hx HW0 HW1 HY0 HY1 HY2 HY3 HBW Hm1 Hm2 HRA HRB Hl HLA Hts Hk
  iapply (wp_seq c)
  iapply (part41 m ρ K c) $$ HR HB HO Hx HW0 HW1 HY0 HY1 HY2 HY3 HBW Hm1 Hm2 HRA HRB Hl HLA Hts
  iintro HB HO Hx HW0 HW1 HRA HRB Hts HS HA HX Hzb HCA Hown Hr1 Hz1 HCB Hr2 Hz2 HZ HP HE HEA
  ihave HCB := (turn (CB (F := F) c)) $$ HCB
  ihave HEB := (past_start (EB m ρ c))
  iapply (wp_sent2 m ρ K c 0 (by decide) rfl) $$ HR HCB HEB HO
  iintro HCB HEB HO
  iapply (wp_sent2 m ρ K c 1 (by decide) rfl) $$ HR HCB HEB HO
  iintro HCB HEB HO
  iapply (wp_sent2 m ρ K c 2 (by decide) rfl) $$ HR HCB HEB HO
  iintro HCB HEB HO
  iapply (wp_end c)
  iapply Hk $$ HB HO Hx HW0 HW1 HRA HRB Hts HS HA HX Hzb HCA Hown Hr1 Hz1 HCB Hr2 Hz2 HZ HP HE HEA HEB

end Cert.KernelIdeal.Body
-- ==== Proof.KernelIdeal.Buffers.lean ====
/-
The kernel's buffers as their parts: how each buffer a device starts with splits into the slots, chunks, tiles and row
blocks the kernel body works on, and how these join again at the end.
-/
module

public import proofs.«01_k».proof.Proof.KernelIdeal.Body

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Rects

theorem buf_disjoint (j j' : Fin 2) (h : j ≠ j') : Disjoint (bufR j).set (bufR j').set :=
  blocks_disjoint (s := S2x4096x512) (off := fun j : Fin 2 => ![j.val, 0, 0]) (size := S1x4096x512.size) p_buf (0 : Fin 3) 1 (fun j => j.val) rfl
    (fun t => (Nat.mul_one t.val).symm) Fin.val_injective j j' h
theorem buf_cover : (Finset.univ : Finset (Fin 2)).biUnion (fun j => (bufR j).set) = Finset.univ :=
  blocks_cover (s := S2x4096x512) (off := fun j : Fin 2 => ![j.val, 0, 0]) (size := S1x4096x512.size) p_buf (0 : Fin 3) 1 (fun j => j.val) rfl
    Nat.one_pos (fun t => (Nat.mul_one t.val).symm) 2 rfl (fun j h => ⟨⟨j, h⟩, rfl⟩) (by decide)
theorem wcol_disjoint (j j' : Fin 4) (h : j ≠ j') : Disjoint (wcolR j).set (wcolR j').set :=
  blocks_disjoint (s := S4096x2048) (off := fun j : Fin 4 => ![0, 512 * j.val]) (size := S4096x512.size) p_wcol (1 : Fin 2) 512 (fun j => j.val) rfl
    (fun t => Nat.mul_comm _ _) Fin.val_injective j j' h
theorem wcol_cover : (Finset.univ : Finset (Fin 4)).biUnion (fun j => (wcolR j).set) = Finset.univ :=
  blocks_cover (s := S4096x2048) (off := fun j : Fin 4 => ![0, 512 * j.val]) (size := S4096x512.size) p_wcol (1 : Fin 2) 512 (fun j => j.val) rfl
    (by decide) (fun t => Nat.mul_comm _ _) 4 rfl (fun j h => ⟨⟨j, h⟩, rfl⟩) (by decide)
theorem ycol_disjoint (j j' : Fin 4) (h : j ≠ j') : Disjoint (ycolR j).set (ycolR j').set :=
  blocks_disjoint (s := S256x2048) (off := fun j : Fin 4 => ![0, 512 * j.val]) (size := S256x512.size) p_ycol (1 : Fin 2) 512 (fun j => j.val) rfl
    (fun t => Nat.mul_comm _ _) Fin.val_injective j j' h
theorem ycol_cover : (Finset.univ : Finset (Fin 4)).biUnion (fun j => (ycolR j).set) = Finset.univ :=
  blocks_cover (s := S256x2048) (off := fun j : Fin 4 => ![0, 512 * j.val]) (size := S256x512.size) p_ycol (1 : Fin 2) 512 (fun j => j.val) rfl
    (by decide) (fun t => Nat.mul_comm _ _) 4 rfl (fun j h => ⟨⟨j, h⟩, rfl⟩) (by decide)
theorem ytile_disjoint (j j' : Fin 16) (h : j ≠ j') : Disjoint (ytileR j).set (ytileR j').set :=
  blocks_disjoint (s := S256x2048) (off := fun j : Fin 16 => ![0, 128 * j.val]) (size := S256x128.size) p_ytile (1 : Fin 2) 128 (fun j => j.val) rfl
    (fun t => Nat.mul_comm _ _) Fin.val_injective j j' h
theorem ytile_cover : (Finset.univ : Finset (Fin 16)).biUnion (fun j => (ytileR j).set) = Finset.univ :=
  blocks_cover (s := S256x2048) (off := fun j : Fin 16 => ![0, 128 * j.val]) (size := S256x128.size) p_ytile (1 : Fin 2) 128 (fun j => j.val) rfl
    (by decide) (fun t => Nat.mul_comm _ _) 16 rfl (fun j h => ⟨⟨j, h⟩, rfl⟩) (by decide)
theorem slot_disjoint (j j' : Fin 16) (h : j ≠ j') : Disjoint (slotR j).set (slotR j').set :=
  blocks_disjoint (s := S16x256x128) (off := fun j : Fin 16 => ![j.val, 0, 0]) (size := S1x256x128.size) p_slot (0 : Fin 3) 1 (fun j => j.val) rfl
    (fun t => (Nat.mul_one t.val).symm) Fin.val_injective j j' h
theorem slot_cover : (Finset.univ : Finset (Fin 16)).biUnion (fun j => (slotR j).set) = Finset.univ :=
  blocks_cover (s := S16x256x128) (off := fun j : Fin 16 => ![j.val, 0, 0]) (size := S1x256x128.size) p_slot (0 : Fin 3) 1 (fun j => j.val) rfl
    Nat.one_pos (fun t => (Nat.mul_one t.val).symm) 16 rfl (fun j h => ⟨⟨j, h⟩, rfl⟩) (by decide)
theorem orow_disjoint (j j' : Fin 16) (h : j ≠ j') : Disjoint (orowR j).set (orowR j').set :=
  blocks_disjoint (s := S4096x128) (off := fun j : Fin 16 => ![256 * j.val, 0]) (size := S256x128.size) p_orow (0 : Fin 2) 256 (fun j => j.val) rfl
    (fun t => Nat.mul_comm _ _) Fin.val_injective j j' h
theorem orow_cover : (Finset.univ : Finset (Fin 16)).biUnion (fun j => (orowR j).set) = Finset.univ :=
  blocks_cover (s := S4096x128) (off := fun j : Fin 16 => ![256 * j.val, 0]) (size := S256x128.size) p_orow (0 : Fin 2) 256 (fun j => j.val) rfl
    (by decide) (fun t => Nat.mul_comm _ _) 16 rfl (fun j h => ⟨⟨j, h⟩, rfl⟩) (by decide)

end Rects

theorem chunk_bij : ∀ c : Dev nD, Function.Bijective (chunk c) := by
  intro c; rw [Fintype.bijective_iff_injective_and_card]; exact ⟨by revert c; decide +kernel, rfl⟩

/-- The families over the chunks, by the step that treats them. -/
theorem by_step (c : Dev nD) (Φ : Fin 4 → sProp 𝕄) : bigSep Finset.univ Φ
    = iprop(Φ (chunk c 0) ∗ Φ (chunk c 1) ∗ Φ (chunk c 2) ∗ Φ (chunk c 3)) := by
  rw [BI.bigSep_univ_equiv (Equiv.ofBijective (chunk c) (chunk_bij c)) Φ]
  exact bigSep_univ_eq_bigSepL [0, 1, 2, 3] (by decide) (by decide) fun t => Φ (chunk c t)
/-- The families over the devices, by the number at which `c` treats them. -/
theorem by_nth (c : Dev nD) (Φ : Fin 16 → sProp 𝕄) : bigSep Finset.univ Φ = bigSep Finset.univ fun s => Φ (nth c s) :=
  BI.bigSep_univ_equiv (Equiv.ofBijective (nth c) (nth_bij c)) Φ
theorem fin2 (Φ : Fin 2 → sProp 𝕄) : bigSep Finset.univ Φ = iprop(Φ 0 ∗ Φ 1) := bigSep_univ_eq_bigSepL [0, 1] (by decide) (by decide) Φ
theorem fin3 (Φ : Fin 3 → sProp 𝕄) : bigSep Finset.univ Φ = iprop(Φ 0 ∗ Φ 1 ∗ Φ 2) := bigSep_univ_eq_bigSepL [0, 1, 2] (by decide) (by decide) Φ

section Buffers
variable (c : Dev nD)

/-- Dropping a unit axis does not change what is held. -/
theorem some_squeeze {sp : Space} {s s' : Shape} {e : EltTy} (M : Memref sig .tc sp s e) (h : s.Squeezes s') :
    (ownsSome (c : Thread nD τ) (M.squeeze s' h) : sProp 𝕄) = ownsSome (c : Thread nD τ) M := by
  refine equiv_iff.mp ⟨show (ownsSome (c : Thread nD τ) (M.squeeze s' h) : sProp 𝕄) ⊢ ownsSome (c : Thread nD τ) M from ?_,
    show (ownsSome (c : Thread nD τ) M : sProp 𝕄) ⊢ ownsSome (c : Thread nD τ) (M.squeeze s' h) from ?_⟩
  · unfold ownsSome
    iintro ⟨%X, H⟩
    iexists (fun j => X ((Shape.reshapeEquiv h.numel_eq).symm j))
    have e : (owns (c : Thread nD τ) (M.squeeze s' h) fullShare X : sProp 𝕄) = owns (c : Thread nD τ) M fullShare (fun j => X ((Shape.reshapeEquiv h.numel_eq).symm j)) := by
      rw [← owns_squeeze (c : Thread nD τ) M fullShare h]
      simp only [Equiv.symm_apply_apply]
    ihave H := (Entails.of_eq e) $$ H
    iexact H
  · unfold ownsSome
    iintro ⟨%X, H⟩
    iexists (fun j => X (Shape.reshapeEquiv h.numel_eq j))
    ihave H := (Entails.of_eq (owns_squeeze (c : Thread nD τ) M fullShare h X).symm) $$ H
    iexact H

/-- A whole buffer at some contents. -/
theorem some_whole (b : Ref sig .tc) : (ownsSome (c : Thread nD τ) (Memref.whole b) : sProp 𝕄)
    = iprop(∃ f : Buf (Elt F) ((c : Thread nD τ).loc b), ((c : Thread nD τ).loc b) ↦{fullShare} f) := by
  unfold ownsSome
  simp only [owns_whole]

/-- A buffer of slots is its slots. -/
theorem some_slots {sp : Space} {s s' : Shape} {e : EltTy} {T : Type} [Fintype T] [DecidableEq T] (M : Memref sig .tc sp s e) (r : T → Rect s) (hr : ∀ t a, (r t).stride a = 1)
    (hd : ∀ t t', t ≠ t' → Disjoint (r t).set (r t').set) (hcov : (Finset.univ : Finset T).biUnion (fun t => (r t).set) = Finset.univ)
    (h : ∀ t, (r t).shape.Squeezes s') :
    (ownsSome (c : Thread nD τ) M : sProp 𝕄) = bigSep Finset.univ fun t => ownsSome (c : Thread nD τ) ((M.slice (r t) (hr t)).squeeze s' (h t)) := by
  have e : (fun t => (ownsSome (c : Thread nD τ) ((M.slice (r t) (hr t)).squeeze s' (h t)) : sProp 𝕄)) = fun t => ownsSome (c : Thread nD τ) (M.slice (r t) (hr t)) :=
    funext fun t => some_squeeze c _ _
  rw [e]
  exact equiv_iff.mp ⟨ownsSome_rects (c : Thread nD τ) M r hr hd hcov, ownsSome_of_rects (c : Thread nD τ) M r hr hd hcov⟩

theorem buf_parts : (ownsSome (c : Thread nD τ) bufM : sProp 𝕄) = iprop(ownsSome (c : Thread nD τ) (wslot 0) ∗ ownsSome (c : Thread nD τ) (wslot 1)) := by
  rw [some_slots c bufM bufR (fun _ _ => rfl) buf_disjoint buf_cover fun _ => squeezes_S1x4096x512_S4096x512]
  exact fin2 _
theorem rv_parts : (ownsSome (c : Thread nD τ) rvM : sProp 𝕄) = bigSep Finset.univ fun d => ownsSome (c : Thread nD τ) (rslot d) :=
  some_slots c rvM slotR (fun _ _ => rfl) slot_disjoint slot_cover fun _ => squeezes_S1x256x128_S256x128
theorem qs_parts : (ownsSome (c : Thread nD τ) qsM : sProp 𝕄) = bigSep Finset.univ fun d => ownsSome (c : Thread nD τ) (qslot d) :=
  some_slots c qsM slotR (fun _ _ => rfl) slot_disjoint slot_cover fun _ => squeezes_S1x256x128_S256x128
theorem r1_parts : (ownsSome (c : Thread nD τ) r1M : sProp 𝕄) = bigSep Finset.univ fun d => ownsSome (c : Thread nD τ) (r1slot d) :=
  some_slots c r1M amR (fun _ _ => rfl) am_disjoint am_cover fun _ => squeezes_S1x8x128_S8x128
theorem r2_parts : (ownsSome (c : Thread nD τ) r2M : sProp 𝕄) = bigSep Finset.univ fun d => ownsSome (c : Thread nD τ) (r2slot d) :=
  some_slots c r2M amR (fun _ _ => rfl) am_disjoint am_cover fun _ => squeezes_S1x8x128_S8x128

/-- The product's buffer is its column chunks, in the order they are computed, -/
theorem ys_in : (ownsSome (c : Thread nD τ) ysM : sProp 𝕄) ⊢ iprop(YC (F := F) c 0 ∗ YC (F := F) c 1 ∗ YC (F := F) c 2 ∗ YC (F := F) c 3) :=
  (ownsSome_rects (c : Thread nD τ) ysM ycolR (fun _ _ => rfl) ycol_disjoint ycol_cover).trans
    (Entails.of_eq (by_step c fun j => ownsSome (c : Thread nD τ) (ycol j)))
/-- and at the end its tiles, the device's own and the ones it sent. -/
theorem ys_out : iprop(owns (c : Thread nD τ) (ytile c) fullShare (tile m ρ c c)
      ∗ bigSep (Finset.univ.erase c) fun p => owns (c : Thread nD τ) (ytile p) fullShare (tile m ρ c p)) ⊢ (ownsSome (c : Thread nD τ) ysM : sProp 𝕄) := by
  have e := bigSep_out (Finset.mem_univ c) fun p : Dev nD => (owns (c : Thread nD τ) (ytile p) fullShare (tile m ρ c p) : sProp 𝕄)
  rw [← e]
  exact (BI.bigSep_mono fun p _ => ownsSome_intro (c : Thread nD τ) (ytile p) (tile m ρ c p)).trans
    (ownsSome_of_rects (c : Thread nD τ) ysM ytileR (fun _ _ => rfl) ytile_disjoint ytile_cover)

/-- The right operand is its column chunks. -/
theorem w_in : (((c : Thread nD τ).loc main_arg1) ↦{fullShare} m ((c : Thread nD τ).loc main_arg1) : sProp 𝕄)
    ⊢ iprop(FQ m ρ c 0 ∗ FQ m ρ c 1 ∗ FQ m ρ c 2 ∗ FQ m ρ c 3) := by
  rw [← owns_whole]
  exact (owns_rects (c : Thread nD τ) wM fullShare wcolR (fun _ _ => rfl) wcol_disjoint wcol_cover _).trans
    (Entails.of_eq (by_step c fun j => owns (c : Thread nD τ) (wcol j) fullShare (wch m ρ c j)))
theorem w_out : iprop(FQ m ρ c 0 ∗ FQ m ρ c 1 ∗ FQ m ρ c 2 ∗ FQ m ρ c 3)
    ⊢ (((c : Thread nD τ).loc main_arg1) ↦{fullShare} m ((c : Thread nD τ).loc main_arg1) : sProp 𝕄) := by
  rw [← owns_whole]
  exact (Entails.of_eq (by_step c fun j => owns (c : Thread nD τ) (wcol j) fullShare (wch m ρ c j)).symm).trans
    (owns_of_rects (c : Thread nD τ) wM fullShare wcolR (fun _ _ => rfl) wcol_disjoint wcol_cover (m ((c : Thread nD τ).loc main_arg1)))

/-- What device `c` leaves in its result: row block `d` the quantised tile of device `d`. -/
def res : S4096x128.Idx → Elt F .f32 := glue orowR orow_cover fun d => oblk m ρ c d

/-- The result is its row blocks, at some contents at the start, -/
theorem o_in : (((c : Thread nD τ).loc main_v1) ↦{fullShare} m ((c : Thread nD τ).loc main_v1) : sProp 𝕄)
    ⊢ bigSep Finset.univ fun s => ownsSome (c : Thread nD τ) (orow (nth c s)) := by
  rw [← by_nth c fun d => ownsSome (c : Thread nD τ) (orow d), ← owns_whole]
  exact (ownsSome_intro (c : Thread nD τ) oM _).trans (ownsSome_rects (c : Thread nD τ) oM orowR (fun _ _ => rfl) orow_disjoint orow_cover)
/-- at the quantised tiles at the end. -/
theorem o_out : (bigSep Finset.univ fun s => owns (c : Thread nD τ) (orow (nth c s)) fullShare (oblk m ρ c (nth c s)))
    ⊢ (((c : Thread nD τ).loc main_v1) ↦{fullShare} res m ρ c : sProp 𝕄) := by
  rw [← by_nth c fun d => owns (c : Thread nD τ) (orow d) fullShare (oblk m ρ c d), ← owns_whole]
  exact owns_glue (c : Thread nD τ) oM fullShare orowR (fun _ _ => rfl) orow_disjoint orow_cover fun d => oblk m ρ c d

end Buffers

end Cert.KernelIdeal.Body
-- ==== Proof.KernelIdeal.Cells.lean ====
/-
The cells by kind, the duty tokens by the device that pays them, and the credits a device starts with: what the other
devices owe its barrier, its tile arrivals and its message arrivals.
-/
module

public import proofs.«01_k».proof.Proof.KernelIdeal.Buffers

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Kinds

/-- The kinds of cell, one summand per family. -/
abbrev Fam : Type := Unit ⊕ Fin 2 ⊕ Unit ⊕ Fin 16 ⊕ Fin 3 ⊕ Fin 3 ⊕ Fin 3 ⊕ Fin 3 ⊕ Fin 16
def famKind : Fam → Kind
  | .inl _ => .bar | .inr (.inl k) => .w k | .inr (.inr (.inl _)) => .ts | .inr (.inr (.inr (.inl d))) => .tr d
  | .inr (.inr (.inr (.inr (.inl j)))) => .a1s j | .inr (.inr (.inr (.inr (.inr (.inl j))))) => .a1r j
  | .inr (.inr (.inr (.inr (.inr (.inr (.inl j)))))) => .a2s j | .inr (.inr (.inr (.inr (.inr (.inr (.inr (.inl j))))))) => .a2r j
  | .inr (.inr (.inr (.inr (.inr (.inr (.inr (.inr d))))))) => .out d
def famNum (x : Fam) : Fin 48 := ⟨ix (famKind x), ix_lt _⟩
theorem famNum_sem (x : Fam) : semN (famNum x) = semOf (famKind x) := by
  rcases x with _ | _ | _ | _ | _ | _ | _ | _ | _ <;> rfl
/-- The summand of a kind. -/
def kindFam : Kind → Fam
  | .none => .inl () | .bar => .inl () | .w k => .inr (.inl k) | .ts => .inr (.inr (.inl ())) | .tr d => .inr (.inr (.inr (.inl d)))
  | .a1s j => .inr (.inr (.inr (.inr (.inl j)))) | .a1r j => .inr (.inr (.inr (.inr (.inr (.inl j)))))
  | .a2s j => .inr (.inr (.inr (.inr (.inr (.inr (.inl j)))))) | .a2r j => .inr (.inr (.inr (.inr (.inr (.inr (.inr (.inl j)))))))
  | .out d => .inr (.inr (.inr (.inr (.inr (.inr (.inr (.inr d)))))))
theorem kindFam_famKind (x : Fam) : kindFam (famKind x) = x := by
  rcases x with _ | _ | _ | _ | _ | _ | _ | _ | _ <;> rfl
theorem famNum_bij : Function.Bijective famNum := by
  rw [Fintype.bijective_iff_injective_and_card]
  refine ⟨fun x y h => ?_, by decide +kernel⟩
  have h' := congrArg semN h
  rw [famNum_sem, famNum_sem] at h'
  rw [← kindFam_famKind x, semOf_inj h', kindFam_famKind]

/-- A conjunction, member by member. -/
theorem each {I : Type} [Fintype I] {Φ Ψ : I → sProp (MT nD τ sig Unit (Elt F) ℕ UU ℕ)} (h : ∀ i, Φ i ⊢ Ψ i) : bigSep Finset.univ Φ ⊢ bigSep Finset.univ Ψ :=
  BI.bigSep_mono fun i _ => h i
theorem one_unit (Φ : Unit → sProp 𝕄) : bigSep Finset.univ Φ = Φ () := BI.bigSep_singleton (Φ := Φ) (i := ())

/-- A conjunction over all cells of a device, family by family. -/
theorem by_kind (Φ : SemLoc sig → sProp 𝕄) : (bigSep Finset.univ fun i : Fin 48 => Φ (semN i))
    = iprop(Φ (semOf .bar) ∗ (bigSep Finset.univ fun k => Φ (semOf (.w k))) ∗ Φ (semOf .ts) ∗ (bigSep Finset.univ fun d => Φ (semOf (.tr d)))
      ∗ (bigSep Finset.univ fun j => Φ (semOf (.a1s j))) ∗ (bigSep Finset.univ fun j => Φ (semOf (.a1r j)))
      ∗ (bigSep Finset.univ fun j => Φ (semOf (.a2s j))) ∗ (bigSep Finset.univ fun j => Φ (semOf (.a2r j)))
      ∗ bigSep Finset.univ fun d => Φ (semOf (.out d))) := by
  rw [BI.bigSep_univ_equiv (Equiv.ofBijective famNum famNum_bij)]
  have e : (fun x : Fam => Φ (semN ((Equiv.ofBijective famNum famNum_bij) x))) = fun x => Φ (semOf (famKind x)) :=
    funext fun x => congrArg Φ (famNum_sem x)
  rw [e]
  simp only [BI.bigSep_univ_sum, one_unit]
  rfl

end Kinds

section Tokens

/-- The duties a device pays: sixteen barrier signals, the chunks' landings, the sends and the arrivals of its tiles and its messages, its copies out. -/
abbrev Duty : Type := Fin 16 ⊕ (Fin 2 × Fin 2) ⊕ Fin 16 ⊕ Fin 16 ⊕ Fin 3 ⊕ Fin 3 ⊕ Fin 3 ⊕ Fin 3 ⊕ Fin 16
def tok (x : Dev nD × Duty) : GSem nD τ sig × ℕ × Dev nD := match x.2 with
  | .inl d => (cell d .bar, 0, x.1)
  | .inr (.inl k) => (cell x.1 (.w k.1), k.2.val, one)
  | .inr (.inr (.inl p)) => (cell x.1 .ts, 0, p)
  | .inr (.inr (.inr (.inl p))) => (cell p (.tr x.1), 0, one)
  | .inr (.inr (.inr (.inr (.inl j)))) => (cell x.1 (.a1s j), 0, one)
  | .inr (.inr (.inr (.inr (.inr (.inl j))))) => (cell (to1 x.1 j) (.a1r j), 0, one)
  | .inr (.inr (.inr (.inr (.inr (.inr (.inl j)))))) => (cell x.1 (.a2s j), 0, one)
  | .inr (.inr (.inr (.inr (.inr (.inr (.inr (.inl j))))))) => (cell (to2 x.1 j) (.a2r j), 0, one)
  | .inr (.inr (.inr (.inr (.inr (.inr (.inr (.inr d))))))) => (cell x.1 (.out d), 0, one)
/-- Who pays a duty, and which of its duties it is. -/
def untok (t : GSem nD τ sig × ℕ × Dev nD) : Dev nD × Duty := match kindOf t.1.2 with
  | .none => (one, .inl 0)
  | .bar => (t.2.2, .inl t.1.1.1)
  | .w k => (t.1.1.1, .inr (.inl (k, ⟨t.2.1 % 2, Nat.mod_lt _ (by decide)⟩)))
  | .ts => (t.1.1.1, .inr (.inr (.inl t.2.2)))
  | .tr d => (d, .inr (.inr (.inr (.inl t.1.1.1))))
  | .a1s j => (t.1.1.1, .inr (.inr (.inr (.inr (.inl j)))))
  | .a1r j => (from1 t.1.1.1 j, .inr (.inr (.inr (.inr (.inr (.inl j))))))
  | .a2s j => (t.1.1.1, .inr (.inr (.inr (.inr (.inr (.inr (.inl j)))))))
  | .a2r j => (from2 t.1.1.1 j, .inr (.inr (.inr (.inr (.inr (.inr (.inr (.inl j))))))))
  | .out d => (t.1.1.1, .inr (.inr (.inr (.inr (.inr (.inr (.inr (.inr d))))))))
theorem untok_tok (x : Dev nD × Duty) : untok (tok x) = x := by
  obtain ⟨c, x⟩ := x
  rcases x with d | ⟨k, r⟩ | p | p | j | j | j | j | d <;> unfold untok tok <;> dsimp only <;> rw [kindOf_semOf]
  · dsimp only
    refine congrArg (fun r' => (c, (Sum.inr (Sum.inl (k, r')) : Duty))) (Fin.ext (Nat.mod_eq_of_lt r.isLt))
  · dsimp only; rw [from1_to1]
  · dsimp only; rw [from2_to2]
theorem tok_inj : Function.Injective tok := Function.LeftInverse.injective untok_tok

/-- The tokens of the duties device `c` pays. -/
def toks (c : Dev nD) : sProp 𝕄 := bigSep Finset.univ fun j : Duty => dutyTok ER (tok (c, j)).1 (tok (c, j)).2.1 (tok (c, j)).2.2
theorem toks_eq (c : Dev nD) : toks (F := F) c
    = iprop((bigSep Finset.univ fun d : Fin 16 => dutyTok ER (cell d .bar) 0 c)
      ∗ (bigSep Finset.univ fun k : Fin 2 × Fin 2 => dutyTok ER (cell c (.w k.1)) k.2.val one)
      ∗ (bigSep Finset.univ fun p : Fin 16 => dutyTok ER (cell c .ts) 0 p) ∗ (bigSep Finset.univ fun p : Fin 16 => dutyTok ER (cell p (.tr c)) 0 one)
      ∗ (bigSep Finset.univ fun j => dutyTok ER (cell c (.a1s j)) 0 one) ∗ (bigSep Finset.univ fun j => dutyTok ER (cell (to1 c j) (.a1r j)) 0 one)
      ∗ (bigSep Finset.univ fun j => dutyTok ER (cell c (.a2s j)) 0 one) ∗ (bigSep Finset.univ fun j => dutyTok ER (cell (to2 c j) (.a2r j)) 0 one)
      ∗ bigSep Finset.univ fun d => dutyTok ER (cell c (.out d)) 0 one) := by
  unfold toks
  simp only [BI.bigSep_univ_sum]
  rfl

end Tokens

section Credits

theorem due_le (c : Dev nD) (g : GSem nD τ sig) (u : Unit) (k i : ℕ) (h : i < k) : due c (37 - i) g u ≤ rem c k g u := by
  induction k with
  | zero => omega
  | succ k ih =>
    show _ ≤ rem c k g u + due c (37 - k) g u
    rcases Nat.lt_succ_iff_lt_or_eq.mp h with h | h
    · exact (ih h).trans (Nat.le_add_right _ _)
    · subst h; exact Nat.le_add_left _ _
theorem due_le' (c : Dev nD) (g : GSem nD τ sig) (u : Unit) (i : ℕ) (h : i < 38) : due c i g u ≤ rem c 38 g u := by
  have := due_le c g u 38 (37 - i) (by omega)
  rwa [show 37 - (37 - i) = i by omega] at this

/-- What every device owes at the start. -/
def owed (d : Dev nD) : CellTallies nD τ sig Unit := rem d 38

theorem low_bar (c : Dev nD) : 16 ≤ ∑ d : Dev nD, owed d (cell c .bar) () := by
  have h (d : Dev nD) : 1 ≤ owed d (cell c .bar) () := by
    refine le_trans ?_ (due_le' d (cell c .bar) () c.val (by have : c.val < 16 := c.isLt; omega))
    have hc : c.val < 16 := c.isLt
    unfold due
    rw [dif_pos hc, tallyAt_apply, if_pos ⟨rfl, rfl⟩]
  exact (show 16 ≤ ∑ d : Dev nD, 1 by decide).trans (Finset.sum_le_sum fun d _ => h d)
theorem low_tr (c p : Dev nD) (hp : p ≠ c) : amt (.tr p) ≤ ∑ d : Dev nD, owed d (cell c (.tr p)) () := by
  refine le_trans ?_ (Finset.single_le_sum (f := fun d => owed d (cell c (.tr p)) ()) (fun _ _ => Nat.zero_le _) (Finset.mem_univ p))
  obtain ⟨i, hi⟩ := (dest_bij p).2 c
  have ht : amt (.tr p) ≤ tileDue p i (cell c (.tr p)) () := by
    unfold tileDue
    rw [if_neg (by rw [hi]; exact hp.symm), hi, tallyAt_apply, if_pos ⟨rfl, rfl⟩]
  refine ht.trans ?_
  by_cases h : i.val < 12
  · refine le_trans ?_ (due_le' p _ () (16 + i.val) (by omega))
    unfold due
    rw [dif_neg (by omega), dif_pos (by omega)]
    exact le_of_eq (congrArg (fun i => tileDue p i (cell c (.tr p)) ()) (Fin.ext (by show i.val = 16 + i.val - 16; omega)))
  · refine le_trans ?_ (due_le' p _ () (19 + i.val) (by have := i.isLt; omega))
    unfold due
    rw [dif_neg (by omega), dif_neg (by omega), dif_neg (by omega), dif_pos (by have := i.isLt; omega)]
    exact le_of_eq (congrArg (fun i => tileDue p i (cell c (.tr p)) ()) (Fin.ext (by show i.val = 19 + i.val - 19; omega)))
theorem low_a1r (c : Dev nD) (j : Fin 3) : amt (.a1r j) ≤ ∑ d : Dev nD, owed d (cell c (.a1r j)) () := by
  refine le_trans ?_ (Finset.single_le_sum (f := fun d => owed d (cell c (.a1r j)) ()) (fun _ _ => Nat.zero_le _) (Finset.mem_univ (from1 c j)))
  refine le_trans ?_ (due_le' (from1 c j) _ () (28 + j.val) (by have := j.isLt; omega))
  have hj := j.isLt
  have e : (⟨28 + j.val - 28, by omega⟩ : Fin 3) = j := Fin.ext (by show 28 + j.val - 28 = j.val; omega)
  unfold due
  rw [dif_neg (by omega), dif_neg (by omega), dif_pos (by omega), e, to1_from1, tallyAt_apply, if_pos ⟨rfl, rfl⟩]
  exact le_refl _
theorem low_a2r (c : Dev nD) (j : Fin 3) : amt (.a2r j) ≤ ∑ d : Dev nD, owed d (cell c (.a2r j)) () := by
  refine le_trans ?_ (Finset.single_le_sum (f := fun d => owed d (cell c (.a2r j)) ()) (fun _ _ => Nat.zero_le _) (Finset.mem_univ (from2 c j)))
  refine le_trans ?_ (due_le' (from2 c j) _ () (35 + j.val) (by have := j.isLt; omega))
  have hj := j.isLt
  have e : (⟨35 + j.val - 35, by omega⟩ : Fin 3) = j := Fin.ext (by show 35 + j.val - 35 = j.val; omega)
  unfold due
  rw [dif_neg (by omega), dif_neg (by omega), dif_neg (by omega), dif_neg (by omega), dif_pos (by omega), e, to2_from2, tallyAt_apply, if_pos ⟨rfl, rfl⟩]
  exact le_refl _

/-- A part of the credit a cell starts with. -/
theorem cred_low (c : Dev nD) (κ : Kind) (n : ℕ) (h : n ≤ ∑ d : Dev nD, owed d (cell c κ) ()) :
    (cred (tallyOn (cell c κ) (launchCredit (Pipeline.owing owed) 0 (cell c κ))) : sProp 𝕄) ⊢ cred (tallyAt (cell c κ) () n) := by
  have hl : n ≤ launchCredit (Pipeline.owing owed) 0 (cell c κ) () := by rw [Pipeline.launchCredit_owing]; exact h
  have e : launchCredit (Pipeline.owing owed) 0 (cell c κ)
      = Finsupp.single () n + Finsupp.single () (launchCredit (Pipeline.owing owed) 0 (cell c κ) () - n) := by
    refine Finsupp.ext fun u => ?_
    obtain rfl : u = () := rfl
    rw [Finsupp.add_apply, Finsupp.single_eq_same, Finsupp.single_eq_same]
    omega
  rw [e, tallyOn_add]
  iintro H
  ihave H := (cred_add _ _).1 $$ H
  icases H with ⟨H, -⟩
  iexact H

/-- The credits device `c` waits with: its barrier, the tiles of the other devices, the messages. -/
def credits (c : Dev nD) : sProp 𝕄 :=
  iprop(cred (tallyAt (cell c .bar) () 16) ∗ (pend (fun s : Fin 16 => (cred (tallyAt (cell c (.tr (nth c s))) () (amt (.tr (nth c s)))) : sProp 𝕄)) 1)
    ∗ (bigSep Finset.univ fun j => cred (tallyAt (cell c (.a1r j)) () (amt (.a1r j)))) ∗ bigSep Finset.univ fun j => cred (tallyAt (cell c (.a2r j)) () (amt (.a2r j))))

theorem semN_inj : Function.Injective semN := by
  intro i j h
  obtain ⟨x, rfl⟩ := famNum_bij.2 i
  obtain ⟨y, rfl⟩ := famNum_bij.2 j
  rw [famNum_sem, famNum_sem] at h
  exact Fin.ext (congrArg ix (semOf_inj h))

theorem credits_intro (c : Dev nD) : (Pipeline.launchCred owed c : sProp 𝕄) ⊢ credits (F := F) c := by
  have h1 : (Pipeline.launchCred owed c : sProp 𝕄)
      ⊢ bigSep Finset.univ fun i : Fin 48 => cred (tallyOn ((c : Thread nD τ), semN i) (launchCredit (Pipeline.owing owed) 0 ((c : Thread nD τ), semN i))) := by
    unfold Pipeline.launchCred
    refine (BI.bigSep_subset (Finset.subset_univ (Finset.univ.map ⟨semN, semN_inj⟩))).trans ?_
    rw [BI.bigSep_map]
    exact BI.Entails.refl _
  refine h1.trans ?_
  rw [by_kind fun sm => (cred (tallyOn ((c : Thread nD τ), sm) (launchCredit (Pipeline.owing owed) 0 ((c : Thread nD τ), sm))) : sProp 𝕄)]
  rw [by_nth c fun d => (cred (tallyOn (cell c (.tr d)) (launchCredit (Pipeline.owing owed) 0 (cell c (.tr d)))) : sProp 𝕄)]
  have hT : (bigSep Finset.univ fun s : Fin 16 => (cred (tallyOn (cell c (.tr (nth c s))) (launchCredit (Pipeline.owing owed) 0 (cell c (.tr (nth c s))))) : sProp 𝕄))
      ⊢ bigSep (Finset.univ.filter fun t : Fin 16 => 1 ≤ t.val) fun s => cred (tallyAt (cell c (.tr (nth c s))) () (amt (.tr (nth c s)))) :=
    (BI.bigSep_subset (Finset.filter_subset _ _)).trans (BI.bigSep_mono fun s hs => cred_low c (.tr (nth c s)) (amt (.tr (nth c s))) (low_tr c (nth c s) (nth_ne c s fun h => by
      subst h; exact absurd (Finset.mem_filter.mp hs).2 (by decide))))
  unfold credits
  iintro ⟨HB, -, -, HT, -, HA, -, HC, -⟩
  isplitl [HB]; · iapply (cred_low c .bar 16 (low_bar c)); iexact HB
  isplitl [HT]
  · unfold pend
    iapply hT; iexact HT
  isplitl [HA]
  · iapply (each fun j => cred_low c (.a1r j) (amt (.a1r j)) (low_a1r c j)); iexact HA
  iapply (each fun j => cred_low c (.a2r j) (amt (.a2r j)) (low_a2r c j)); iexact HC

end Credits

end Cert.KernelIdeal.Body
-- ==== Proof.KernelIdeal.Ends.lean ====
/-
From what the launch gives a device to what its kernel body starts from, and from what the body ends with back to the
buffers and the semaphore counters the launch takes back.
-/
module

public import proofs.«01_k».proof.Proof.KernelIdeal.Cells

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The start -/

/-- The device's barrier signals. -/
theorem e_bar : iprop((bigSep Finset.univ fun d : Fin 16 => dutyTok ER (cell d .bar) 0 c)
      ∗ (bigSep (Finset.univ.erase c) fun d => ownsSome (c : Thread nD τ) (rslot d))
      ∗ (bigSep Finset.univ fun j : Fin 3 => ownsSome (c : Thread nD τ) (r1slot j))
      ∗ bigSep Finset.univ fun j : Fin 3 => ownsSome (c : Thread nD τ) (r2slot j)) ⊢ (pend (BP (F := F) c) 0 : sProp 𝕄) := by
  rw [bar_close c, pend_zero]
  exact Entails.of_eq (bigSep_two Finset.univ (fun d : Fin 16 => dutyTok ER (cell d .bar) 0 c) fun d : Fin 16 => barPay (F := F) d c).symm

/-- The two staging slots of the right operand. -/
theorem e_ws : iprop((FQ m ρ c 0 ∗ FQ m ρ c 1 ∗ FQ m ρ c 2 ∗ FQ m ρ c 3) ∗ ownsSome (c : Thread nD τ) bufM
      ∗ (bigSep Finset.univ fun k : Fin 2 × Fin 2 => dutyTok ER (cell c (.w k.1)) k.2.val one)
      ∗ bigSep Finset.univ fun k : Fin 2 => atPos ER (cell c (.w k)) 0 ∅ 0) ⊢ (iprop(WS m ρ c 0 0 ∗ WS m ρ c 1 0) : sProp 𝕄) := by
  rw [buf_parts, BI.bigSep_univ_prod, fin2, fin2, fin2, fin2]
  simp only [WS]
  rw [show stepOf 0 0 = 0 from rfl, show stepOf 0 1 = 2 from rfl, show stepOf 1 0 = 1 from rfl, show stepOf 1 1 = 3 from rfl]
  iintro ⟨⟨F0, F1, F2, F3⟩, ⟨B0, B1⟩, ⟨⟨T00, T01⟩, T10, T11⟩, A0, A1⟩
  isplitl [F0 F2 B0 T00 T01 A0]
  · isplitl [F0]; · iexact F0
    isplitl [F2]; · iexact F2
    isplitl [B0]; · iexact B0
    isplitl [T00]; · iexact T00
    isplitl [T01]; · iexact T01
    iexact A0
  · isplitl [F1]; · iexact F1
    isplitl [F3]; · iexact F3
    isplitl [B1]; · iexact B1
    isplitl [T10]; · iexact T10
    isplitl [T11]; · iexact T11
    iexact A1

/-- The duties of the device's tiles, by number. -/
theorem e_tt : iprop((bigSep Finset.univ fun p : Fin 16 => dutyTok ER (cell c .ts) 0 p) ∗ (bigSep Finset.univ fun p : Fin 16 => dutyTok ER (cell p (.tr c)) 0 one))
    ⊢ (bigSep Finset.univ fun i => TT (F := F) c i : sProp 𝕄) := by
  rw [← bigSep_two, BI.bigSep_univ_equiv (Equiv.ofBijective (dest c) (dest_bij c))
    fun p : Dev nD => (iprop(dutyTok ER (cell c .ts) 0 p ∗ dutyTok ER (cell p (.tr c)) 0 one) : sProp 𝕄)]
  refine each fun i => ?_
  unfold TT
  split
  · iintro -; iempintro
  · exact BI.Entails.refl _

/-- The wait at the barrier and what is sent after it. -/
theorem e_bw : iprop(cred (tallyAt (cell c .bar) () 16) ∗ atPos ER (cell c .bar) 0 ∅ 0
      ∗ (bigSep Finset.univ fun p : Fin 16 => dutyTok ER (cell c .ts) 0 p) ∗ (bigSep Finset.univ fun p : Fin 16 => dutyTok ER (cell p (.tr c)) 0 one)
      ∗ ((bigSep Finset.univ fun j => dutyTok ER (cell c (.a1s j)) 0 one) ∗ bigSep Finset.univ fun j => dutyTok ER (cell (to1 c j) (.a1r j)) 0 one)
      ∗ (bigSep Finset.univ fun j => atPos ER (cell c (.a1s j)) 0 ∅ 0)
      ∗ ((bigSep Finset.univ fun j => dutyTok ER (cell c (.a2s j)) 0 one) ∗ bigSep Finset.univ fun j => dutyTok ER (cell (to2 c j) (.a2r j)) 0 one)
      ∗ bigSep Finset.univ fun j => atPos ER (cell c (.a2s j)) 0 ∅ 0) ⊢ (BW (F := F) c : sProp 𝕄) := by
  unfold BW PA0 PB0
  rw [bigSep_two, bigSep_two, bigSep_two, bigSep_two]
  iintro ⟨HC, HP, HS, HT, HA, HA', HB, HB'⟩
  isplitl [HC HP]
  · isplitl [HC]; · iexact HC
    iexact HP
  isplitl [HS HT]
  · iapply (e_tt c)
    isplitl [HS]; · iexact HS
    iexact HT
  isplitl [HA HA']
  · isplitl [HA]; · iexact HA
    iexact HA'
  isplitl [HB]; · iexact HB
  iexact HB'

/-- A wait on each cell of a family. -/
theorem e_cw (κ : Fin 3 → Kind) : iprop((bigSep Finset.univ fun j => cred (tallyAt (cell c (κ j)) () (amt (κ j)))) ∗ bigSep Finset.univ fun j => atPos ER (cell c (κ j)) 0 ∅ 0)
    ⊢ (pend (fun j => CW (F := F) c (κ j)) 0 : sProp 𝕄) := by
  unfold CW
  rw [← bigSep_two, pend_zero]

/-- The arrivals of the other devices' tiles; the cell of the device's own is not used. -/
theorem e_gt : iprop((pend (fun s : Fin 16 => (cred (tallyAt (cell c (.tr (nth c s))) () (amt (.tr (nth c s)))) : sProp 𝕄)) 1)
      ∗ bigSep Finset.univ fun d : Fin 16 => atPos ER (cell c (.tr d)) 0 ∅ 0)
    ⊢ iprop(atPos ER (cell c (.tr (nth c 0))) 0 ∅ 0 ∗ pend (GT (F := F) c) 1) := by
  have hg : pend (GT (F := F) c) 1 = iprop((pend (fun s : Fin 16 => (cred (tallyAt (cell c (.tr (nth c s))) () (amt (.tr (nth c s)))) : sProp 𝕄)) 1)
      ∗ pend (fun s : Fin 16 => (atPos ER (cell c (.tr (nth c s))) 0 ∅ 0 : sProp 𝕄)) 1) := by
    unfold pend
    rw [← bigSep_two]
    rfl
  rw [hg, by_nth c fun d => (atPos ER (cell c (.tr d)) 0 ∅ 0 : sProp 𝕄), ← pend_zero, pend_pop _ (by decide : 0 < 16)]
  iintro ⟨HC, H0, HP⟩
  isplitl [H0]; · iexact H0
  isplitl [HC]; · iexact HC
  iexact HP

/-- The copies out, with their slots. -/
theorem e_go : iprop(ownsSome (c : Thread nD τ) qsM ∗ (bigSep Finset.univ fun s => ownsSome (c : Thread nD τ) (orow (nth c s)))
      ∗ (bigSep Finset.univ fun d : Fin 16 => dutyTok ER (cell c (.out d)) 0 one) ∗ bigSep Finset.univ fun d : Fin 16 => atPos ER (cell c (.out d)) 0 ∅ 0)
    ⊢ (pend (GO (F := F) c) 0 : sProp 𝕄) := by
  rw [qs_parts, by_nth c fun d => (atPos ER (cell c (.out d)) 0 ∅ 0 : sProp 𝕄), by_nth c fun d => (dutyTok ER (cell c (.out d)) 0 one : sProp 𝕄),
    by_nth c fun d => (ownsSome (c : Thread nD τ) (qslot d) : sProp 𝕄), ← bigSep_two, ← bigSep_two, ← bigSep_two, pend_zero]
  exact BI.Entails.refl _

/-! ## The end -/

/-- The right operand unchanged, its staging slots and their counters. -/
theorem x_ws : iprop(WS m ρ c 0 4 ∗ WS m ρ c 1 4) ⊢ iprop((((c : Thread nD τ).loc main_arg1) ↦{fullShare} m ((c : Thread nD τ).loc main_arg1))
    ∗ ownsSome (c : Thread nD τ) bufM ∗ (bigSep Finset.univ fun k : Fin 2 => semVal (cell c (.w k)) 0) : sProp 𝕄) := by
  rw [buf_parts, fin2]
  simp only [WS]
  rw [show stepOf 0 0 = 0 from rfl, show stepOf 0 1 = 2 from rfl, show stepOf 1 0 = 1 from rfl, show stepOf 1 1 = 3 from rfl]
  unfold WB
  iintro ⟨⟨F0, F2, B0, Z0⟩, F1, F3, B1, Z1⟩
  isplitl [F0 F1 F2 F3]
  · iapply (w_out m ρ c)
    isplitl [F0]; · iexact F0
    isplitl [F1]; · iexact F1
    isplitl [F2]; · iexact F2
    iexact F3
  isplitl [B0 B1]
  · isplitl [B0]; · iapply (ownsSome_intro (c : Thread nD τ) (wslot 0)); iexact B0
    iapply (ownsSome_intro (c : Thread nD τ) (wslot 1)); iexact B1
  isplitl [Z0]; · iexact Z0
  iexact Z1

/-- The shares of the first message joined, and its counters; -/
theorem x_ea : past (EA m ρ c) 3 ⊢ iprop(ownsSome (c : Thread nD τ) m1M ∗ (bigSep Finset.univ fun j : Fin 3 => semVal (cell c (.a1s j)) 0) : sProp 𝕄) := by
  rw [past_end]
  unfold EA
  rw [bigSep_two, fin3]
  iintro ⟨H, HZ⟩
  isplitl [H]
  · iapply (ownsSome_intro (c : Thread nD τ) m1M (msg1 m ρ c))
    iapply (shares_join c m1M (msg1 m ρ c))
    iexact H
  iexact HZ
/-- and of the second. -/
theorem x_eb : past (EB m ρ c) 3 ⊢ iprop(ownsSome (c : Thread nD τ) m2M ∗ (bigSep Finset.univ fun j : Fin 3 => semVal (cell c (.a2s j)) 0) : sProp 𝕄) := by
  rw [past_end]
  unfold EB
  rw [bigSep_two, fin3]
  iintro ⟨H, HZ⟩
  isplitl [H]
  · iapply (ownsSome_intro (c : Thread nD τ) m2M (msg2 m ρ c))
    iapply (shares_join c m2M (msg2 m ρ c))
    iexact H
  iexact HZ

/-- The landing slots, the result, its staging slots, and the counters of the copies out. -/
theorem x_d3 : past (D3 m ρ c) 16 ⊢ iprop(ownsSome (c : Thread nD τ) rvM ∗ (((c : Thread nD τ).loc main_v1) ↦{fullShare} res m ρ c)
    ∗ ownsSome (c : Thread nD τ) qsM ∗ (bigSep Finset.univ fun d : Fin 16 => semVal (cell c (.out d)) 0) : sProp 𝕄) := by
  rw [past_end]
  unfold D3 RS
  rw [bigSep_two, bigSep_two, bigSep_two, rv_parts, qs_parts, by_nth c fun d => (ownsSome (c : Thread nD τ) (rslot d) : sProp 𝕄),
    by_nth c fun d => (ownsSome (c : Thread nD τ) (qslot d) : sProp 𝕄), by_nth c fun d => (semVal (cell c (.out d)) 0 : sProp 𝕄)]
  iintro ⟨HR, ⟨HO, HQ⟩, HZ⟩
  isplitl [HR]
  · iapply (each fun s => ownsSome_intro (c : Thread nD τ) (rslot (nth c s)) (tile m ρ (nth c s) c)); iexact HR
  isplitl [HO]; · iapply (o_out m ρ c); iexact HO
  isplitl [HQ]
  · iapply (each fun s => ownsSome_intro (c : Thread nD τ) (qslot (nth c s)) (oblk m ρ c (nth c s))); iexact HQ
  iexact HZ

/-- The buffers of the kernel's own, each whole at some contents. -/
theorem rest_eq : (Pipeline.scopedRest (Ix := Unit) (Name := ℕ) (U := UU) (Lvl := ℕ) (Val := Elt F) spec0 c : sProp 𝕄)
    = iprop(ownsSome (c : Thread nD τ) bufM ∗ ownsSome (c : Thread nD τ) ysM ∗ ownsSome (c : Thread nD τ) rvM ∗ ownsSome (c : Thread nD τ) qsM
      ∗ ownsSome (c : Thread nD τ) m1M ∗ ownsSome (c : Thread nD τ) r1M ∗ ownsSome (c : Thread nD τ) m2M ∗ ownsSome (c : Thread nD τ) r2M) := by
  rw [scopedRest0_eq, some_whole, some_whole, some_whole, some_whole, some_whole, some_whole, some_whole, some_whole]

/-- Every counter of the device at zero. -/
def zeros : sProp 𝕄 := bigSep Finset.univ fun i : Fin 48 => semVal ((c : Thread nD τ), semN i) 0

/-- What the device ends with: the right operand unchanged, the result, the other buffers at some contents, every counter at zero. -/
def done : sProp 𝕄 :=
  iprop((((c : Thread nD τ).loc main_arg1) ↦{fullShare} m ((c : Thread nD τ).loc main_arg1)) ∗ (((c : Thread nD τ).loc main_v1) ↦{fullShare} res m ρ c)
    ∗ Pipeline.scopedRest (Ix := Unit) (Name := ℕ) (U := UU) (Lvl := ℕ) (Val := Elt F) spec0 c ∗ zeros (F := F) c)

theorem x_done : iprop((WS m ρ c 0 4 ∗ WS m ρ c 1 4) ∗ TSE m ρ c ∗ semVal (cell c .bar) 0 ∗ owns (c : Thread nD τ) (ytile c) fullShare (tile m ρ c c)
      ∗ owns (c : Thread nD τ) r1M fullShare (got1 m ρ c) ∗ (bigSep Finset.univ fun j : Fin 3 => semVal (cell c (.a1r j)) 0)
      ∗ owns (c : Thread nD τ) r2M fullShare (got2 m ρ c) ∗ (bigSep Finset.univ fun j : Fin 3 => semVal (cell c (.a2r j)) 0)
      ∗ past (ZT (F := F) c) 16 ∗ past (D3 m ρ c) 16 ∗ past (EA m ρ c) 3 ∗ past (EB m ρ c) 3) ⊢ (done m ρ c : sProp 𝕄) := by
  unfold done TSE zeros
  rw [rest_eq, by_kind fun sm => (semVal ((c : Thread nD τ), sm) 0 : sProp 𝕄)]
  iintro ⟨HW, ⟨HY, HZs⟩, HZb, HT, HR1, HZ1, HR2, HZ2, HZT, HD, HEA, HEB⟩
  ihave HW := (x_ws m ρ c) $$ HW
  icases HW with ⟨Hw, Hbuf, HZw⟩
  ihave HD := (x_d3 m ρ c) $$ HD
  icases HD with ⟨Hrv, Ho, Hqs, HZo⟩
  ihave HEA := (x_ea m ρ c) $$ HEA
  icases HEA with ⟨Hm1, HZa⟩
  ihave HEB := (x_eb m ρ c) $$ HEB
  icases HEB with ⟨Hm2, HZb'⟩
  isplitl [Hw]; · iexact Hw
  isplitl [Ho]; · iexact Ho
  isplitl [Hbuf HY HT Hrv Hqs Hm1 HR1 Hm2 HR2]
  · isplitl [Hbuf]; · iexact Hbuf
    isplitl [HY HT]
    · iapply (ys_out m ρ c)
      isplitl [HT]; · iexact HT
      iexact HY
    isplitl [Hrv]; · iexact Hrv
    isplitl [Hqs]; · iexact Hqs
    isplitl [Hm1]; · iexact Hm1
    isplitl [HR1]; · iapply (ownsSome_intro (c : Thread nD τ) r1M (got1 m ρ c)); iexact HR1
    isplitl [Hm2]; · iexact Hm2
    iapply (ownsSome_intro (c : Thread nD τ) r2M (got2 m ρ c)); iexact HR2
  isplitl [HZb]; · iexact HZb
  isplitl [HZw]; · iexact HZw
  isplitl [HZs]; · iexact HZs
  isplitl [HZT]
  · rw [by_nth c fun d => (semVal ((c : Thread nD τ), semOf (.tr d)) 0 : sProp 𝕄)]
    ihave HZT := (Entails.of_eq (past_end (ZT (F := F) c))) $$ HZT
    iexact HZT
  isplitl [HZa]; · iexact HZa
  isplitl [HZ1]; · iexact HZ1
  isplitl [HZb']; · iexact HZb'
  isplitl [HZ2]; · iexact HZ2
  iexact HZo

end Cert.KernelIdeal.Body
-- ==== Proof.KernelIdeal.Run.lean ====
/-
The kernel's run: on every device the body's obligation from what the launch gives, the launch's resources, and the run's
end — both operands unchanged, the result at `res`, every semaphore counter at zero.
-/
module

public import proofs.«01_k».proof.Proof.KernelIdeal.Ends

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's positions in its cells, at the start. -/
def posns (c : Dev nD) : sProp 𝕄 := bigSep Finset.univ fun i : Fin 48 => atPos ER ((c : Thread nD τ), semN i) 0 ∅ 0
/-- What the launch deals a device. -/
def start (c : Dev nD) : sProp 𝕄 :=
  iprop((∃ K, recs m ρ K ∗ posns (F := F) c ∗ toks (F := F) c) ∗ credits (F := F) c
    ∗ (((c : Thread nD τ).loc main_arg1) ↦{fullShare} m ((c : Thread nD τ).loc main_arg1)) ∗ (((c : Thread nD τ).loc main_v1) ↦{fullShare} m ((c : Thread nD τ).loc main_v1)))

abbrev restOf (c : Dev nD) : sProp 𝕄 := Pipeline.scopedRest (Ix := Unit) (Name := ℕ) (U := UU) (Lvl := ℕ) (Val := Elt F) spec0 c

/-- What the pipeline around the body is to see: the left operand staged and left as it is. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => iprop(start m ρ c ∗ restOf c)
    | ⟨_ + 1, _⟩ => done m ρ c
  q _ := fullShare
  owed t := match t with
    | ⟨0, _⟩ => owed c
    | ⟨_ + 1, _⟩ => 0

theorem duties_own (c : Dev nD) (r : ℕ) : (sched m ρ).duties (cell c (.tr c)) r = ∅ := by
  rw [sched_duties]
  exact if_neg fun h => h.2 rfl

set_option maxHeartbeats 400000 in
/-- The body, from what the launch deals. -/
theorem body_run (K : Dev nD × Fin 48 → ℕ) (c : Dev nD) {Q : PUnit → sProp (MT nD τ sig Unit (Elt F) ℕ UU ℕ)} :
    recs m ρ K ⊢ iprop(posns (F := F) c -∗ toks (F := F) c -∗ credits (F := F) c
      -∗ (((c : Thread nD τ).loc main_arg1) ↦{fullShare} m ((c : Thread nD τ).loc main_arg1))
      -∗ (((c : Thread nD τ).loc main_v1) ↦{fullShare} m ((c : Thread nD τ).loc main_v1))
      -∗ restOf (F := F) c -∗ Ow (F := F) c 38 -∗ owns (c : Thread nD τ) xM fullShare (xstg m ρ c)
      -∗ (done m ρ c -∗ Ow (F := F) c 0 -∗ owns (c : Thread nD τ) xM fullShare (xstg m ρ c) -∗ Q ⟨⟩)
      -∗ WP c (on (cc0_body (F := F))) Q) := by
  unfold posns credits restOf
  rw [toks_eq, rest_eq, by_kind fun sm => (atPos ER ((c : Thread nD τ), sm) 0 ∅ 0 : sProp 𝕄)]
  iintro #HR ⟨Pbar, Pw, Pts, Ptr, Pa1s, Pa1r, Pa2s, Pa2r, Pout⟩ ⟨Tbar, Tw, Tts, Ttr, Ta1s, Ta1r, Ta2s, Ta2r, Tout⟩ ⟨Cbar, Ctr, Ca1, Ca2⟩ Hw Ho
    ⟨Hbuf, Hys, Hrv, Hqs, Hm1, Hr1, Hm2, Hr2⟩ HO Hx Hk
  ihave Hrv := (Entails.of_eq ((rv_parts (F := F) c).trans (bigSep_out (Finset.mem_univ c) fun d : Dev nD => (ownsSome (c : Thread nD τ) (rslot d) : sProp 𝕄)))) $$ Hrv
  icases Hrv with ⟨Hl, Hrv⟩
  ihave Hr1 := (Entails.of_eq (r1_parts (F := F) c)) $$ Hr1
  ihave Hr2 := (Entails.of_eq (r2_parts (F := F) c)) $$ Hr2
  ihave Hw := (w_in m ρ c) $$ Hw
  ihave Ho := (o_in m c) $$ Ho
  ihave Hys := (ys_in c) $$ Hys
  icases Hys with ⟨HY0, HY1, HY2, HY3⟩
  ihave HB := (e_bar c) $$ [Tbar Hrv Hr1 Hr2]
  · isplitl [Tbar]; · iexact Tbar
    isplitl [Hrv]; · iexact Hrv
    isplitl [Hr1]; · iexact Hr1
    iexact Hr2
  ihave HW := (e_ws m ρ c) $$ [Hw Hbuf Tw Pw]
  · isplitl [Hw]; · iexact Hw
    isplitl [Hbuf]; · iexact Hbuf
    isplitl [Tw]; · iexact Tw
    iexact Pw
  icases HW with ⟨HW0, HW1⟩
  ihave HBW := (e_bw c) $$ [Cbar Pbar Tts Ttr Ta1s Ta1r Pa1s Ta2s Ta2r Pa2s]
  · isplitl [Cbar]; · iexact Cbar
    isplitl [Pbar]; · iexact Pbar
    isplitl [Tts]; · iexact Tts
    isplitl [Ttr]; · iexact Ttr
    isplitl [Ta1s Ta1r]
    · isplitl [Ta1s]; · iexact Ta1s
      iexact Ta1r
    isplitl [Pa1s]; · iexact Pa1s
    isplitl [Ta2s Ta2r]
    · isplitl [Ta2s]; · iexact Ta2s
      iexact Ta2r
    iexact Pa2s
  ihave HRA := (e_cw c .a1r) $$ [Ca1 Pa1r]
  · isplitl [Ca1]; · iexact Ca1
    iexact Pa1r
  ihave HRB := (e_cw c .a2r) $$ [Ca2 Pa2r]
  · isplitl [Ca2]; · iexact Ca2
    iexact Pa2r
  ihave HG := (e_gt c) $$ [Ctr Ptr]
  · isplitl [Ctr]; · iexact Ctr
    iexact Ptr
  icases HG with ⟨P0, HG⟩
  ihave HGO := (e_go c) $$ [Hqs Ho Tout Pout]
  · isplitl [Hqs]; · iexact Hqs
    isplitl [Ho]; · iexact Ho
    isplitl [Tout]; · iexact Tout
    iexact Pout
  ihave Hts := (TsSt_zero m ρ c) $$ Pts
  imod (Rounds.cell_close ER (sched m ρ) (Es := Set.univ) (κ := nm K c (.tr (nth c 0))) (g := cell c (.tr (nth c 0))) (Set.mem_univ _) (fun h => h) (R := 0) (fun r _ => by rw [nth_zero]; exact duties_own m ρ c r)) $$ [P0] with HZ
  · isplitr
    · iapply (recs_inv m ρ K c (.tr (nth c 0)) (fun h => nomatch h)); iexact HR
    iexact P0
  iapply (body_wp m ρ K c) $$ HR HB HO Hx HW0 HW1 HY0 HY1 HY2 HY3 HBW Hm1 Hm2 [HRA] [HRB] [Hl] [HG HZ HGO] Hts
  · iexact HRA
  · iexact HRB
  · rw [nth_zero]; iexact Hl
  · unfold LA0
    isplitl [HG]; · iexact HG
    isplitl [HZ]
    · rw [past_push (ZT (F := F) c) (by decide : 0 < 16), past_zero, sep_none]
      iapply (show (semVal (cell c (.tr (nth c 0))) 0 : sProp 𝕄) ⊢ ZT (F := F) c ⟨0, _⟩ from BI.Entails.refl _)
      iexact HZ
    iexact HGO
  iintro HB HO Hx HW0 HW1 HRA HRB Hts HS HA HX Hzb HCA Hown Hr1 Hz1 HCB Hr2 Hz2 HZ HP HE HEA HEB
  iapply Hk $$ [HW0 HW1 Hts Hzb Hown Hr1 Hz1 Hr2 Hz2 HZ HE HEA HEB] HO Hx
  iapply (x_done m ρ c)
  isplitl [HW0 HW1]
  · isplitl [HW0]; · iexact HW0
    iexact HW1
  isplitl [Hts]; · iexact Hts
  isplitl [Hzb]; · iexact Hzb
  isplitl [Hown]; · iexact Hown
  isplitl [Hr1]; · iexact Hr1
  isplitl [Hz1]; · iexact Hz1
  isplitl [Hr2]; · iexact Hr2
  isplitl [Hz2]; · iexact Hz2
  isplitl [HZ]; · iexact HZ
  isplitl [HE]; · iexact HE
  isplitl [HEA]; · iexact HEA
  iexact HEB

def bodyPre (c : Dev nD) : sProp 𝕄 :=
  iprop((start m ρ c ∗ restOf c) ∗ (dats m ρ 0 c).owesAt () t0_0.castSucc
    ∗ (∃ d, owns (c : Thread nD τ) xM fullShare ((dats m ρ 0 c).before (0 : Fin 1) t0_0 d)))
def bodyPost (c : Dev nD) : sProp 𝕄 :=
  iprop(done m ρ c ∗ (dats m ρ 0 c).owesAt () t0_0.succ ∗ owns (c : Thread nD τ) xM fullShare (xstg m ρ c))

set_option maxRecDepth 4000 in
/-- The body's obligation to the pipeline. -/
theorem body_obligation (c : Dev nD) : BodyObligation (dats m ρ 0 c) (defs₀ (F := F)) 𝒱₀ () Set.univ := fun t => by
  rw [fin_N0 t]
  rw [bigSep_W0, bigSep_W0]
  show bodyPre m ρ c ⊢ WP c (on (cc0_body (F := F))) (fun _ => bodyPost m ρ c)
  unfold bodyPre start Dat.owesAt Pipeline.owesWithin
  iintro ⟨⟨⟨⟨%K, #HR, HP, HT⟩, HC, Hw, Ho⟩, Hrest⟩, ⟨%W, %hW, HO⟩, ⟨%d, Hx⟩⟩
  have hx : (dats m ρ 0 c).before (0 : Fin 1) t0_0 d = xstg m ρ c := by unfold Dat.before; rw [if_pos (fetch0_0 t0_0)]; rfl
  rw [hx]
  rw [show (dats m ρ 0 c).owed t0_0.castSucc = rem c 38 from rfl]
  iapply (body_run m ρ K c) $$ HR HP HT HC Hw Ho Hrest [HO] Hx
  · unfold Ow
    iexists W
    iexact HO
  iintro HD HO Hx
  unfold bodyPost Dat.owesAt Pipeline.owesWithin Ow
  icases HO with ⟨%W', HO⟩
  isplitl [HD]; · iexact HD
  isplitl [HO]
  · iexists W'
    isplitr; · ipureintro; exact fun _ _ => Or.inl trivial
    iexact HO
  iexact Hx

end Cert.KernelIdeal.Body
-- ==== Proof.KernelIdeal.Launch.lean ====
/-
The launch: the cells' invariants from the zero counters, the positions and tokens dealt to the devices, and the theorem
of the whole run.
-/
module

public import proofs.«01_k».proof.Proof.KernelIdeal.Run

@[expose] public section

noncomputable section

namespace Cert.KernelIdeal.Body

open Cert.KernelIdeal Cert.KernelIdeal.Gen Cert.Holdings
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's resources -/

/-- The kernel's own semaphores: all but the barrier. -/
def osem : Fin 47 → SemLoc sig := fun k => .dma (Fin.succ k : Fin 48)
theorem own_facts : Pipeline.OwnSemFacts cfg0.spec osem := by decide

def semSplit : Unit ⊕ Fin 47 ≃ Fin 48 where
  toFun := Sum.elim (fun _ => 0) Fin.succ
  invFun := Fin.cases (.inl ()) .inr
  left_inv := by rintro (_ | _) <;> rfl
  right_inv := Fin.cases rfl fun _ => rfl

/-- The barrier's counter and the own semaphores' are all the counters. -/
theorem all_sems (c : Dev nD) : (zeros (F := F) c)
    = iprop(unscopedSems0 c ∗ Pipeline.ownSems0 (Ix := Unit) (Name := ℕ) (U := UU) (Lvl := ℕ) (Val := Elt F) (τ := τ) osem c) := by
  unfold zeros unscopedSems0 Pipeline.ownSems0
  rw [BI.bigSep_univ_equiv semSplit, BI.bigSep_univ_sum, one_unit, bigSep_eq_bigSepL_of_eq [SemLoc.reg barS] (by decide) (by decide)]
  rfl

theorem ncell_inj : Function.Injective ncell := by
  rintro ⟨c, i⟩ ⟨c', i'⟩ h
  have h1 : c = c' := congrArg (fun x : GSem nD τ sig => x.1.1) h
  have h2 : i = i' := semN_inj (congrArg Prod.snd h)
  rw [h1, h2]

/-- All cells, and all duties' tokens. -/
def allCells : Finset (GSem nD τ sig) := Finset.univ.map ⟨ncell, ncell_inj⟩
def allToks : Finset (GSem nD τ sig × ℕ × Dev nD) := Finset.univ.map ⟨tok, tok_inj⟩
def u₀ : UU := (initOf (Pipeline.cells cfgs cellOf_inj) (Pipeline.launchToks cfgs cellOf_inj), initOf allCells allToks)

/-- What a device is dealt at first. -/
def dealt (c : Dev nD) : sProp 𝕄 :=
  iprop((bigSep Finset.univ fun i : Fin 48 => roundState ER (sched m ρ) (ncell (c, i)) 0)
    ∗ posns (F := F) c ∗ (bigSep Finset.univ fun i : Fin 48 => reached ER (ncell (c, i)) 0) ∗ toks (F := F) c)
/-- The same with the invariants allocated: those of all devices. -/
def dealt' (c : Dev nD) : sProp 𝕄 :=
  iprop((∃ K : Dev nD × Fin 48 → ℕ, (bigSep Finset.univ fun x => cellInv ER (sched m ρ) (K x) (ncell x)) ∗ bigSep Finset.univ fun x => reached ER (ncell x) 0)
    ∗ posns (F := F) c ∗ toks (F := F) c)

theorem over_cells (Φ : GSem nD τ sig → sProp 𝕄) :
    bigSep allCells Φ = bigSep Finset.univ fun c : Dev nD => bigSep Finset.univ fun i : Fin 48 => Φ (ncell (c, i)) := by
  unfold allCells
  rw [bigSep_map, BI.bigSep_univ_prod]
  rfl

theorem over_toks : (bigSep allToks fun x => (dutyTok ER x.1 x.2.1 x.2.2 : sProp 𝕄)) = bigSep Finset.univ fun c : Dev nD => toks (F := F) c := by
  unfold allToks toks
  rw [bigSep_map, BI.bigSep_univ_prod]
  rfl

theorem fund : BI.own ((ER (F := F)) (initOf allCells allToks)) ⊢ (|==> bigSep Finset.univ (dealt m ρ) : sProp 𝕄) := by
  iintro HX
  imod (Rounds.fund ER (sched m ρ) allCells allToks) $$ HX with ⟨Hst, Hr, Hat, Ht⟩
  imodintro
  ihave Hst := (Entails.of_eq (over_cells fun g => roundState ER (sched m ρ) g 0)) $$ Hst
  ihave Hat := (Entails.of_eq (over_cells fun g => (atPos ER g 0 ∅ 0 : sProp 𝕄))) $$ Hat
  ihave Hr := (Entails.of_eq (over_cells fun g => (reached ER g 0 : sProp 𝕄))) $$ Hr
  ihave Ht := (Entails.of_eq (over_toks (F := F))) $$ Ht
  unfold dealt
  rw [bigSep_two, bigSep_two, bigSep_two]
  isplitl [Hst]; · iexact Hst
  isplitl [Hat]; · iexact Hat
  isplitl [Hr]; · iexact Hr
  iexact Ht

/-- A device's invariants, each at some name. -/
theorem alloc_device (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun i : Fin 48 => iprop(∃ κ : ℕ, cellInv ER (sched m ρ) κ (ncell (c, i))))
          ∗ posns (F := F) c ∗ (bigSep Finset.univ fun i : Fin 48 => reached ER (ncell (c, i)) 0) ∗ toks (F := F) c) := by
  have each : iprop((bigSep Finset.univ fun i : Fin 48 => semVal (ncell (c, i)) 0) ∗ bigSep Finset.univ fun i : Fin 48 => roundState ER (sched m ρ) (ncell (c, i)) 0)
      ⊢ (|={Set.univ}=> bigSep Finset.univ fun i : Fin 48 => iprop(∃ κ : ℕ, cellInv ER (sched m ρ) κ (ncell (c, i))) : sProp 𝕄) := by
    rw [← bigSep_two]
    exact (BI.bigSep_mono fun i _ => (Rounds.body_intro ER (sched m ρ) (ncell (c, i))).trans inv_alloc).trans (bigSep_fupd _ _)
  unfold dealt
  iintro ⟨Hos, Hus, Hst, Hat, Hr, Ht⟩
  imod each $$ [Hos Hus Hst] with Hinv
  · isplitl [Hos Hus]
    · iapply (show iprop(unscopedSems0 c ∗ Pipeline.ownSems0 (Ix := Unit) (Name := ℕ) (U := UU) (Lvl := ℕ) (Val := Elt F) (τ := τ) osem c)
          ⊢ (bigSep Finset.univ fun i : Fin 48 => semVal (ncell (c, i)) 0 : sProp 𝕄) from Entails.of_eq (all_sems (F := F) c).symm)
      isplitl [Hus]; · iexact Hus
      iexact Hos
    iexact Hst
  imodintro
  isplitl [Hinv]; · iexact Hinv
  isplitl [Hat]; · iexact Hat
  isplitl [Hr]; · iexact Hr
  iexact Ht

theorem share_all {R : sProp (MT nD τ sig Unit (Elt F) ℕ UU ℕ)} [BI.Persistent R] {Φ : Dev nD → sProp (MT nD τ sig Unit (Elt F) ℕ UU ℕ)} :
    iprop(R ∗ bigSep Finset.univ Φ) ⊢ bigSep Finset.univ fun c => iprop(R ∗ Φ c) := by
  rw [bigSep_two]
  exact sep_mono_left (BI.bigSep_of_persistent Finset.univ R)

theorem regroup :
    (bigSep Finset.univ fun c : Dev nD => iprop((bigSep Finset.univ fun i : Fin 48 => iprop(∃ κ : ℕ, cellInv ER (sched m ρ) κ (ncell (c, i))))
          ∗ posns (F := F) c ∗ (bigSep Finset.univ fun i : Fin 48 => reached ER (ncell (c, i)) 0) ∗ toks (F := F) c) : sProp 𝕄)
      ⊢ bigSep Finset.univ (dealt' m ρ) := by
  rw [bigSep_two, bigSep_two, bigSep_two, ← BI.bigSep_univ_prod (fun x : Dev nD × Fin 48 => iprop(∃ κ : ℕ, cellInv ER (sched m ρ) κ (ncell x))),
    ← BI.bigSep_univ_prod (fun x : Dev nD × Fin 48 => (reached ER (ncell x) 0 : sProp 𝕄))]
  iintro ⟨HI, Hat, #HR, Ht⟩
  ihave HK := (BI.bigSep_exists_pi Finset.univ (fun (x : Dev nD × Fin 48) (κ : ℕ) => (cellInv ER (sched m ρ) κ (ncell x) : sProp 𝕄))) $$ HI
  icases HK with ⟨%K, #HI⟩
  unfold dealt'
  iapply (share_all (F := F))
  isplitr
  · iexists K
    isplitr; · iexact HI
    iexact HR
  rw [bigSep_two]
  isplitl [Hat]; · iexact Hat
  iexact Ht

/-- The launch's global step. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (dealt' m ρ) :=
  ((BI.bigSep_mono fun c _ => alloc_device m ρ c).trans (bigSep_fupd _ _)).trans (BI.fupd_mono (regroup m ρ))

/-! ## The theorem's side conditions -/

theorem rest_mem (c : Dev nD) : (Pipeline.unscopedRestP Pipeline.Prefetch.none cfg0.spec c (fun b => m ((c : Thread nD τ).loc b)) : sProp 𝕄)
    = iprop((((c : Thread nD τ).loc main_arg1) ↦{fullShare} m ((c : Thread nD τ).loc main_arg1)) ∗ (((c : Thread nD τ).loc main_v1) ↦{fullShare} m ((c : Thread nD τ).loc main_v1))) :=
  Pipeline.unscopedRestP_eq_of_list cfg0.spec c Pipeline.Prefetch.none _ [main_arg1, main_v1] (by decide) (by decide)

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ dealt' m ρ c)
      ⊢ |={Set.univ}=> iprop(start m ρ c ∗ emp) := by
  rw [rest_mem]
  unfold dealt'
  iintro ⟨⟨Hw, Ho⟩, Hlev, Hcr, -, ⟨%K, HI, HR⟩, HP, HT⟩
  ihave Hcr := (credits_intro (F := F) c) $$ Hcr
  imodintro
  unfold start
  isplitl
  · isplitl [Hlev HI HR HP HT]
    · iexists K
      isplitl [Hlev HI HR]
      · unfold recs
        isplitl [HI]; · iexact HI
        isplitl [HR]; · iexact HR
        iexact Hlev
      isplitl [HP]; · iexact HP
      iexact HT
    isplitl [Hcr]; · iexact Hcr
    isplitl [Hw]; · iexact Hw
    iexact Ho
  · iempintro

theorem phi_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ restOf c) from rfl]
  iintro ⟨Hs, -, Hr⟩
  isplitl [Hs]; · iexact Hs
  iexact Hr

/-- What a device's end is read from. -/
def ending (c : Dev nD) : sProp 𝕄 :=
  iprop((((c : Thread nD τ).loc main_arg1) ↦{fullShare} m ((c : Thread nD τ).loc main_arg1)) ∗ (((c : Thread nD τ).loc main_v1) ↦{fullShare} res m ρ c)
    ∗ unscopedSems0 c)

theorem phi_end (c : Dev nD) :
    (dats m ρ 0 c).Φ (Fin.last cfg0.N) ⊢ iprop(ending m ρ c ∗ Pipeline.ownSems0 osem c ∗ Pipeline.scopedRest cfg0.spec c) := by
  rw [show (dats m ρ 0 c).Φ (Fin.last cfg0.N) = done m ρ c from rfl]
  unfold done ending
  rw [all_sems]
  iintro ⟨Hw, Ho, Hr, Hu, Hos⟩
  isplitl [Hw Ho Hu]
  · isplitl [Hw]; · iexact Hw
    isplitl [Ho]; · iexact Ho
    iexact Hu
  isplitl [Hos]; · iexact Hos
  iexact Hr

theorem stage_waits (c : Dev nD) : (levAts L lv : sProp 𝕄) ⊢ Pipeline.cellsWaits cfgs (dats m ρ) () 0 c :=
  Pipeline.cellsWaits_intro cfgs (dats m ρ) () 0 c fun w s t => by
    have e : ∀ k, (levAts L lv : sProp 𝕄) ⊢ MayWait (c : Thread nD τ) (.dma (((cfgs 0).win w).sem s)) () (rem c k) := fun k =>
      mayWait (F := F) c _ k fun i _ => lt_of_eq_of_lt (show lvK (kindOf (.dma (((cfgs 0).win w).sem s))) = 0 by fin_cases w; fin_cases s; rfl)
        (by unfold dueLv; split_ifs <;> decide)
    rcases t with ⟨_ | _, ht⟩
    · exact e 38
    · exact e 0

theorem whole_share (c : Dev nD) (w : Fin cfg0.W) : (dats m ρ 0 c).share w = fullShare := by
  unfold Dat.share
  split <;> rfl

/-- The barrier is the one semaphore the launch doesn't scope. -/
theorem unscoped_eq (c : Dev nD) : (unscopedSems0 c : sProp 𝕄) = semVal ((c : Thread nD τ), SemLoc.reg barS) 0 := by
  unfold unscopedSems0
  rw [bigSep_eq_bigSepL_of_eq [SemLoc.reg barS] (by decide) (by decide)]
  rfl
theorem unscoped_bar : ∀ sm : SemLoc sig, sm.isScoped .tc = false → sm = .reg barS := by decide

/-- What a device's memory holds at the end: the right operand as it was, the result, the unscoped counters at zero. -/
def AtEnd (c : Dev nD) (s : MemSt nD τ sig (Elt F)) : Prop :=
  s.mem ((c : Thread nD τ).loc main_arg1) = m ((c : Thread nD τ).loc main_arg1) ∧ s.mem ((c : Thread nD τ).loc main_v1) = res m ρ c
    ∧ ∀ sm : SemLoc sig, sm.isScoped .tc = false → s.sem ((c : Thread nD τ), sm) = 0

set_option maxRecDepth 8000 in
/-- Every execution of the program ends, and ends with both operands of every device unchanged, every device's result at
    `res`, and every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = res m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := whole_share m ρ)
    (hdistinct := winFacts0.arr_inj)
    (O₀ := owed) (howed₀ := fun _ => rfl) (howedN := fun _ => rfl)
    (L := L) (lv := lv) (hL := fun _ h => if_neg h) (hwaits := stage_waits m ρ)
    (G := dealt m ρ) (G' := dealt' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := ending m ρ) (Z := fun _ => iprop(emp))
    (hX := start_intro m ρ) (hin := phi_start m ρ) (hout := phi_end m ρ)
    (QY := AtEnd m ρ)
    (hY := fun c s' => by
      unfold ending
      rw [unscoped_eq]
      iintro ⟨⟨Hw, Ho, Hu⟩, -, HSI⟩
      icombine HSI Hw gives %hw
      icombine HSI Ho gives %ho
      icombine HSI Hu gives %hu
      imodintro
      isplitr
      · ipureintro
        exact ⟨Buf.eq_of_forall_mem_univ hw, Buf.eq_of_forall_mem_univ ho, fun sm hs => by rw [unscoped_bar sm hs]; simpa using hu⟩
      iexact HSI)
    (hQ := fun r h hs => ⟨fun c => ⟨((h c).1 0).trans ((dats m ρ 0 c).arrAt_in (0 : Fin 1) rfl _), (h c).2.2.1, (h c).2.2.2.1⟩, sem_eq_zero hs fun c => (h c).2.2.2.2⟩)

end Cert.KernelIdeal.Body
-- ==== Proof.Spec.lean ====
/-
# What both programs compute, over the extended reals

`prod X W` is the rectified product of the two whole operands, `top X W` its greatest entry, and `quant y A` the value an
entry `y` of the product becomes when the greatest entry is `A`: with no rounding left, `y` over the scale times the scale.
The clip of the reference changes nothing, since no entry exceeds the greatest one.
-/
module

public import Idealize.ShloMosaic.Lib.Pointwise.Contract
public import Idealize.ShloMosaic.Lib.Pipeline.Value
public import Idealize.ShloMosaic.PureOps.Ideal.Laws
public import Idealize.ShloMosaic.PureOps.Reduce

@[expose] public section

noncomputable section

namespace Cert.Spec

open Idealize.ShloMosaic

/-- One entry of the rectified product of a matrix of `r` rows and one of `n` columns. -/
def entry {r n : ℕ} (X : (⟨2, ![r, 4096]⟩ : Shape).Idx → EReal) (W : (⟨2, ![4096, n]⟩ : Shape).Idx → EReal) (a : Fin r) (b : Fin n) : EReal :=
  max (∑ k : Fin 4096, X (ix2 a k) * W (ix2 k b)) 0

/-- The rectified product. -/
def prod (X : (⟨2, ![4096, 4096]⟩ : Shape).Idx → EReal) (W : (⟨2, ![4096, 2048]⟩ : Shape).Idx → EReal) :
    (⟨2, ![4096, 2048]⟩ : Shape).Idx → EReal := fun i => entry X W (i 0) (i 1)

/-- Its greatest entry. -/
def top (X : (⟨2, ![4096, 4096]⟩ : Shape).Idx → EReal) (W : (⟨2, ![4096, 2048]⟩ : Shape).Idx → EReal) : EReal := ⨆ i, prod X W i

/-- The scale at the greatest entry `A`. -/
def scale (A : EReal) : EReal := Ideal.div A (Ideal.ofBits .f32 0x43E00000#32)

/-- What an entry `y` becomes. -/
def quant (y A : EReal) : EReal := Ideal.div y (scale A) * scale A

/-- The result. -/
def out (X : (⟨2, ![4096, 4096]⟩ : Shape).Idx → EReal) (W : (⟨2, ![4096, 2048]⟩ : Shape).Idx → EReal) :
    (⟨2, ![4096, 2048]⟩ : Shape).Idx → EReal := fun i => quant (prod X W i) (top X W)

/-- An entry is not negative. -/
theorem entry_nonneg {r n : ℕ} (X : (⟨2, ![r, 4096]⟩ : Shape).Idx → EReal) (W : (⟨2, ![4096, n]⟩ : Shape).Idx → EReal) (a : Fin r) (b : Fin n) :
    0 ≤ entry X W a b := le_max_right _ _

/-- A bound of the greatest entry is a bound of every entry. -/
theorem top_le (X : (⟨2, ![4096, 4096]⟩ : Shape).Idx → EReal) (W : (⟨2, ![4096, 2048]⟩ : Shape).Idx → EReal) (b : EReal) :
    top X W ≤ b ↔ ∀ (r : Fin 4096) (n : Fin 2048), entry X W r n ≤ b := by
  rw [top, iSup_le_iff]
  exact ⟨fun h r n => h (ix2 r n), fun h i => h (i 0) (i 1)⟩

/-- The pattern of the clip's bound is 448. -/
theorem bits_448 : Ideal.ofBits .f32 0x43E00000#32 = ((448 : ℝ) : EReal) := by
  simp [Ideal.ofBits, Ideal.ieee]
  rw [← EReal.coe_mul]
  norm_num

/-- The pattern a maximum starts from is the least extended real. -/
theorem bits_bot : Ideal.ofBits .f32 0xFF800000#32 = ⊥ := by
  simp [Ideal.ofBits, Ideal.ieee]

/-- Below the greatest entry, the clip of the quotient by the scale changes nothing. -/
theorem clip_div {y A : EReal} (h0 : 0 ≤ y) (hA : y ≤ A) :
    min (Ideal.div y (scale A)) (Ideal.ofBits .f32 0x43E00000#32) = Ideal.div y (scale A) := by
  apply min_eq_left
  rw [bits_448]
  have hs : scale A = A * ((1 / 448 : ℝ) : EReal) := by rw [scale, bits_448]; exact Ideal.div_coe (by norm_num) A
  rw [hs]
  induction A with
  | bot => exact absurd (le_trans h0 hA) (by simp)
  | top =>
    have ht : (⊤ : EReal) * ((1 / 448 : ℝ) : EReal) = ⊤ := EReal.top_mul_coe_of_pos (by norm_num)
    rw [ht, Ideal.div, if_neg (by simp), EReal.inv_top, mul_zero]
    exact_mod_cast (by norm_num : (0 : ℝ) ≤ 448)
  | coe a =>
    induction y with
    | bot => exact absurd h0 (by simp)
    | top => exact absurd hA (by simp)
    | coe y =>
      have h0' : 0 ≤ y := by exact_mod_cast h0
      have hA' : y ≤ a := by exact_mod_cast hA
      rcases eq_or_lt_of_le (le_trans h0' hA') with ha | ha
      · subst ha
        have hy : y = 0 := le_antisymm hA' h0'
        subst hy
        simp [Ideal.div]
      · rw [← EReal.coe_mul, Ideal.div_coe (by positivity), ← EReal.coe_mul]
        refine EReal.coe_le_coe_iff.mpr ?_
        have : y * (1 / (a * (1 / 448))) = (y / a) * 448 := by field_simp
        rw [this]
        have := div_le_one_of_le₀ hA' ha.le
        linarith

/-- A float maximum over the last two axes is bounded exactly when every entry is. -/
theorem red_le {n k : ℕ} (v : FVec Ideal ⟨3, ![1, n, k]⟩ .f32) (h : Shape.Reduces ⟨3, ![1, n, k]⟩ [1, 2] ⟨1, ![1]⟩)
    (hφ : FKind.Formats .f32) (hacc : 0xFF800000#32 = FKind.maximumf.neutral .f32 hφ) (j : (⟨1, ![1]⟩ : Shape).Idx) (b : EReal) :
    (multiReduction .maximumf [1, 2] ⟨1, ![1]⟩ v 0xFF800000#32 h hφ hacc j : EReal) ≤ b ↔ ∀ i, (v i : EReal) ≤ b := by
  rw [multiReduction_maximumf_eq_fold]
  refine (Finset.fold_max_le (β := EReal) (s := Finset.univ.filter fun i => h.drop i = j) b).trans ?_
  constructor
  · intro hh i
    exact hh.2 i (Finset.mem_filter.mpr ⟨Finset.mem_univ i, by
      funext a
      match a with
      | ⟨0, _⟩ => exact Subsingleton.elim (α := Fin 1) (h.drop i 0) (j 0)⟩)
  · exact fun hh => ⟨by rw [Ideal.ofBits_def, bits_bot]; exact bot_le, fun i _ => hh i⟩

/-- The same of the one entry taken out of it. -/
theorem extract_le {n k : ℕ} (v : FVec Ideal ⟨3, ![1, n, k]⟩ .f32) (h : Shape.Reduces ⟨3, ![1, n, k]⟩ [1, 2] ⟨1, ![1]⟩)
    (hφ : FKind.Formats .f32) (hacc : 0xFF800000#32 = FKind.maximumf.neutral .f32 hφ) (h' : Shape.ShapeCasts ⟨1, ![1]⟩ ⟨3, ![1, 1, 1]⟩)
    (p : ∀ a, (![0, 0, 0] : Fin 3 → ℕ) a < (⟨3, ![1, 1, 1]⟩ : Shape).size a) (b : EReal) :
    (extractAt ![0, 0, 0] (shapeCast ⟨3, ![1, 1, 1]⟩ (multiReduction .maximumf [1, 2] ⟨1, ![1]⟩ v 0xFF800000#32 h hφ hacc) h') p : EReal) ≤ b
      ↔ ∀ i, (v i : EReal) ≤ b := red_le v h hφ hacc _ b

end Cert.Spec
-- ==== Proof.KernelIdeal.Entries.lean ====
/-
# The kernel's operations over the extended reals, entry by entry

A chunk of the rectified product, the greatest entry of a chunk and of three received rows (by their upper bounds), the scale
and a quantised tile.
-/
module

public import proofs.«01_k».proof.Proof.Spec
public import proofs.«01_k».proof.Proof.KernelIdeal.Buffers
public import Idealize.ShloMosaic.Lib.Pointwise.Contract

@[expose] public section

set_option maxRecDepth 16384

noncomputable section

namespace Cert.KernelIdeal.Body

open Cert.KernelIdeal Cert.KernelIdeal.Gen Cert.Holdings
open Idealize.ShloMosaic
open Idealize.ShloMosaic.TcCoe

variable (m : (ℓ : Loc nD τ sig) → Buf (Elt Ideal) ℓ) (ρ : Dev nD → PrngReg)

/-! ## The operations of the kernel, at an entry -/

/-- A slot's contents, their unit axis cast away, are the contents. -/
theorem cast_wide {s s' : Shape} {e : EltTy} (h : s.Squeezes s') (h' : s.ShapeCasts s') (v : s'.Idx → Elt Ideal e) :
    shapeCast s' (wide (F := Ideal) h v) h' = v :=
  funext fun j => congrArg v ((Shape.reshapeEquiv h.numel_eq).symm_apply_apply j)

/-- A chunk of the rectified product, at an entry. -/
theorem pay6_entry (x : S256x4096.Idx → EReal) (w : S4096x512.Idx → EReal) (i : S256x512.Idx) :
    (k0_pay6 (F := Ideal) x (wide (F := Ideal) (e := .f32) squeezes_S1x4096x512_S4096x512 w) i : EReal) = Spec.entry x w (i 0) (i 1) := by
  unfold k0_pay6
  rw [cast_wide]
  show max (Ideal.matmul dot_S256x4096_S4096x512_S256x512_1_0_0_1_n_n x w (fun _ => Ideal.ofBits .f32 0x00000000#32) i)
    (Ideal.ofBits .f32 0x00000000#32) = _
  simp only [matmulApply, Ideal.ofBits_zero_f32, zero_add]
  rfl

/-- The greatest entry of a chunk, by its upper bounds. -/
theorem pay3_le (x : S256x4096.Idx → EReal) (w : S4096x512.Idx → EReal) (b : EReal) :
    (k0_pay3 (F := Ideal) x (wide (F := Ideal) (e := .f32) squeezes_S1x4096x512_S4096x512 w) : EReal) ≤ b
      ↔ ∀ i : S256x512.Idx, Spec.entry x w (i 0) (i 1) ≤ b := by
  unfold k0_pay3
  dsimp only
  refine (Spec.extract_le _ _ _ _ _ _ b).trans ?_
  constructor
  · intro h i
    have := h ((Shape.reshapeEquiv shapeCasts_S256x512_S1x256x512).symm i)
    rw [shapeCast, Equiv.apply_symm_apply] at this
    exact (pay6_entry x w i).symm.trans_le this
  · intro h i
    exact (pay6_entry x w _).trans_le (h _)

/-- A scalar maximum, by its upper bounds. -/
theorem smax_le (a y b : EReal) : (Scalar.maximumf (F := Ideal) (φ := .f32) a y : EReal) ≤ b ↔ a ≤ b ∧ y ≤ b := max_le_iff

/-- The running maximum starts from zero, -/
theorem pay4_le (y b : EReal) : (k0_pay4 (F := Ideal) y (Scalar.ofBits (F := Ideal) .f32 0x00000000#32) : EReal) ≤ b ↔ 0 ≤ b ∧ y ≤ b := by
  rw [← Ideal.ofBits_zero_f32]; exact smax_le _ y b
/-- and takes in the greatest entry of each following chunk. -/
theorem pay7_eq {F : FTy → Type} [FloatOps F] (x : FVec F S256x4096 .bf16) (a : F .f32) (w : Vec F S1x4096x512 .f32) :
    k0_pay7 x a w = Scalar.maximumf a (k0_pay3 x w) := rfl
theorem pay10_eq {F : FTy → Type} [FloatOps F] (x : FVec F S256x4096 .bf16) (a : F .f32) (w : Vec F S1x4096x512 .f32) :
    k0_pay10 x a w = Scalar.maximumf a (k0_pay3 x w) := rfl
theorem pay13_eq {F : FTy → Type} [FloatOps F] (x : FVec F S256x4096 .bf16) (a : F .f32) (w : Vec F S1x4096x512 .f32) :
    k0_pay13 x a w = Scalar.maximumf a (k0_pay3 x w) := rfl

/-- The greatest entry of three received rows, by its upper bounds. -/
theorem row_le (am : EReal) (v : S3x1x128.Idx → EReal) (b : EReal) :
    (k0_pay19 (F := Ideal) am v : EReal) ≤ b ↔ am ≤ b ∧ ∀ i, v i ≤ b := by
  unfold k0_pay19
  dsimp only
  refine (max_le_iff (α := EReal)).trans (and_congr Iff.rfl ((Spec.extract_le _ _ _ _ _ _ b).trans ?_))
  constructor
  · intro h i
    have := h ((Shape.reshapeEquiv shapeCasts_S3x128_S1x3x128).symm ((Shape.reshapeEquiv shapeCasts_S3x1x128_S3x128).symm i))
    rw [shapeCast, shapeCast, Equiv.apply_symm_apply, Equiv.apply_symm_apply] at this
    exact this
  · exact fun h i => h _

/-- The scale is the greatest entry of all devices over 448. -/
theorem scl_eq (am : EReal) (v : S3x1x128.Idx → EReal) : (k0_pay21 (F := Ideal) am v : EReal) = Spec.scale (k0_pay19 (F := Ideal) am v) := rfl

/-- The quantised tile, at an entry. -/
theorem pay23_apply (s : EReal) (t : S256x128.Idx → EReal) (i : S256x128.Idx) :
    (flat (F := Ideal) (e := .f32) squeezes_S1x256x128_S256x128
      (k0_pay23 (F := Ideal) s (wide (F := Ideal) (e := .bf16) squeezes_S1x256x128_S256x128 t)) i : EReal) = Ideal.div (t i) s * s := by
  unfold k0_pay23 flat
  rw [cast_wide]
  show (mulf (F := Ideal) (φ := .f32) _ _) (Shape.reshapeEquiv _ (Shape.reshapeEquiv _ i)) = _
  rw [Shape.reshapeEquiv_reshapeEquiv, Shape.reshapeEquiv_self]
  rfl

end Cert.KernelIdeal.Body
-- ==== Proof.KernelIdeal.Maxima.lean ====
/-
# The three maxima of the kernel, over the extended reals

The maxima of the four chunks of one device, of a group of four devices and of all sixteen, each by its upper bounds.
-/
module

public import proofs.«01_k».proof.Proof.KernelIdeal.Entries

@[expose] public section

set_option maxRecDepth 16384

noncomputable section

namespace Cert.KernelIdeal.Body

open Cert.KernelIdeal Cert.KernelIdeal.Gen Cert.Holdings
open Idealize.ShloMosaic
open Idealize.ShloMosaic.TcCoe

variable (m : (ℓ : Loc nD τ sig) → Buf (Elt Ideal) ℓ) (ρ : Dev nD → PrngReg)

/-! ## The maxima -/

/-- The rectified product of a device, at an entry of a chunk. -/
theorem ych_entry (c : Dev nD) (j : Fin 4) (i : S256x512.Idx) :
    (ych m ρ c j i : EReal) = Spec.entry (xb m ρ c) (wch m ρ c j) (i 0) (i 1) := by
  rw [← pay6_entry]
  unfold ych k0_pay8
  rw [shapeCast_self]
  rfl

/-- The first exchange's message is the maximum of the device, everywhere. -/
theorem msg1_eq (c : Dev nD) : msg1 m ρ c = fun _ => am3 m ρ c := by
  unfold msg1 am3 k0_pay16 k0_pay15
  rw [shapeCast_self]
  rfl
/-- The second exchange's message is the maximum of the group, everywhere. -/
theorem msg2_eq (c : Dev nD) : msg2 m ρ c = fun _ => gmx m ρ c := by
  unfold msg2 gmx k0_pay20
  dsimp only
  rw [shapeCast_self]
  rfl

/-- The chunks a device computes are all four. -/
theorem chunk_surj : ∀ (c : Dev nD) (j : Fin 4), ∃ k, chunk c k = j := by decide +kernel

/-- The maximum of a device's product, by its upper bounds. -/
theorem am3_le (c : Dev nD) (b : EReal) : (am3 m ρ c : EReal) ≤ b ↔ 0 ≤ b ∧ ∀ j i, (ych m ρ c j i : EReal) ≤ b := by
  have hk : ∀ k : Fin 4, (k0_pay3 (xb m ρ c) (wld m ρ c (chunk c k)) : EReal) ≤ b ↔ ∀ i, (ych m ρ c (chunk c k) i : EReal) ≤ b := fun k =>
    (pay3_le _ _ b).trans (forall_congr' fun i => (iff_of_eq (congrArg (· ≤ b) (ych_entry m ρ c (chunk c k) i))).symm)
  unfold am3
  rw [pay13_eq, smax_le]
  unfold am2
  rw [pay10_eq, smax_le]
  unfold am1
  rw [pay7_eq, smax_le]
  unfold am0
  rw [pay4_le, hk, hk, hk, hk]
  constructor
  · rintro ⟨⟨⟨⟨h0, h1⟩, h2⟩, h3⟩, h4⟩
    refine ⟨h0, fun j i => ?_⟩
    obtain ⟨k, rfl⟩ := chunk_surj c j
    fin_cases k
    · exact h1 i
    · exact h2 i
    · exact h3 i
    · exact h4 i
  · exact fun h => ⟨⟨⟨⟨h.1, h.2 _⟩, h.2 _⟩, h.2 _⟩, h.2 _⟩

/-- The first row of slot `j` is read from the block of slot `j`. -/
theorem row_emb (i : S3x1x128.Idx) (j : Fin 3) (hj : (i 0).val = j.val) : ∃ k : S1x8x128.Idx,
    (Rect.unit (s := S3x8x128) ![0, 0, 0] S3x1x128.size inb_S3x8x128_S3x1x128_0_0_0).emb i = (amR j).emb k := by
  refine ⟨ix3 ⟨0, by decide⟩ ⟨0, by decide⟩ (i 2), funext fun a => Fin.ext ?_⟩
  have h1 : (i 1).val = 0 := by have := (i 1).isLt; change (i 1).val < 1 at this; omega
  match a with
  | ⟨0, _⟩ => show 0 + 1 * (i 0).val = j.val + 1 * 0; omega
  | ⟨1, _⟩ => show 0 + 1 * (i 1).val = 0 + 1 * 0; omega
  | ⟨2, _⟩ => rfl

/-- What device `c` reads of the first exchange: in slot `j`, the maximum of the device that fills it. -/
theorem row1_apply (c : Dev nD) (i : S3x1x128.Idx) (j : Fin 3) (hj : (i 0).val = j.val) : row1 m ρ c i = am3 m ρ (from1 c j) := by
  obtain ⟨k, hk⟩ := row_emb i j hj
  unfold row1 got1
  rw [hk, glue_emb amR am_cover am_disjoint, msg1_eq]
  rfl

/-- What device `c` reads of the second exchange: in slot `j`, the maximum of the group of the device that fills it. -/
theorem row2_apply (c : Dev nD) (i : S3x1x128.Idx) (j : Fin 3) (hj : (i 0).val = j.val) : row2 m ρ c i = gmx m ρ (from2 c j) := by
  obtain ⟨k, hk⟩ := row_emb i j hj
  unfold row2 got2
  rw [hk, glue_emb amR am_cover am_disjoint, msg2_eq]
  rfl

/-- The maximum of a group, by its upper bounds. -/
theorem gmx_le (c : Dev nD) (b : EReal) : (gmx m ρ c : EReal) ≤ b ↔ (am3 m ρ c : EReal) ≤ b ∧ ∀ j, (am3 m ρ (from1 c j) : EReal) ≤ b :=
  (row_le _ _ b).trans (and_congr Iff.rfl ⟨fun h j => (row1_apply m ρ c (ix3 j ⟨0, by decide⟩ ⟨0, by decide⟩) j rfl).symm.trans_le (h _),
    fun h i => (row1_apply m ρ c i ⟨(i 0).val, (i 0).isLt⟩ rfl).trans_le (h _)⟩)

/-- The maximum of all devices, as device `c` has it. -/
def tot (c : Dev nD) : EReal := k0_pay19 (gmx m ρ c) (row2 m ρ c)

/-- Every device is in the group of `c`, or in the group of one of those `c` hears of in the second exchange. -/
theorem reach : ∀ c d : Dev nD, ∃ e, (e = c ∨ ∃ j, e = from2 c j) ∧ (d = e ∨ ∃ j, d = from1 e j) := by decide +kernel

/-- The maximum of all devices, by its upper bounds. -/
theorem tot_le (c : Dev nD) (b : EReal) : tot m ρ c ≤ b ↔ ∀ d, (am3 m ρ d : EReal) ≤ b := by
  have h : tot m ρ c ≤ b ↔ (gmx m ρ c : EReal) ≤ b ∧ ∀ j, (gmx m ρ (from2 c j) : EReal) ≤ b :=
    (row_le _ _ b).trans (and_congr Iff.rfl ⟨fun h j => (row2_apply m ρ c (ix3 j ⟨0, by decide⟩ ⟨0, by decide⟩) j rfl).symm.trans_le (h _),
      fun h i => (row2_apply m ρ c i ⟨(i 0).val, (i 0).isLt⟩ rfl).trans_le (h _)⟩)
  rw [h]
  simp only [gmx_le]
  constructor
  · intro hh d
    obtain ⟨e, he, hd⟩ := reach c d
    have hg : (am3 m ρ e : EReal) ≤ b ∧ ∀ j, (am3 m ρ (from1 e j) : EReal) ≤ b := by
      rcases he with rfl | ⟨j, rfl⟩
      · exact hh.1
      · exact hh.2 j
    rcases hd with rfl | ⟨j, rfl⟩
    · exact hg.1
    · exact hg.2 j
  · exact fun hh => ⟨⟨hh _, fun _ => hh _⟩, fun _ => ⟨hh _, fun _ => hh _⟩⟩

end Cert.KernelIdeal.Body
-- ==== Proof.KernelIdeal.Values.lean ====
/-
# What the kernel computes, over the extended reals

The rectified product of device `d` is its block of rows of the whole product, and the maximum of all devices is the greatest
entry of the whole product. So row block `d` of device `c`'s result is what the specification says of the rows of device `d`
and the columns of device `c`.
-/
module

public import proofs.«01_k».proof.Proof.KernelIdeal.Maxima
public import Idealize.ShloMosaic.Lib.Layout

@[expose] public section

set_option maxRecDepth 16384

noncomputable section

namespace Cert.KernelIdeal.Body

open Cert.KernelIdeal Cert.KernelIdeal.Gen Cert.Holdings
open Idealize.ShloMosaic
open Idealize.ShloMosaic.TcCoe

variable (m : (ℓ : Loc nD τ sig) → Buf (Elt Ideal) ℓ) (ρ : Dev nD → PrngReg)

/-! ## The operands, and the result -/

section Whole
variable (X : (⟨2, ![4096, 4096]⟩ : Shape).Idx → EReal) (W : (⟨2, ![4096, 2048]⟩ : Shape).Idx → EReal)

/-- The rows of the left operand split evenly over the devices, -/
theorem rows_tile : Layout.Tiles ⟨2, ![256, 4096]⟩ ⟨2, ![4096, 4096]⟩ 0 16 := by decide
/-- and so do the columns of the result. -/
theorem cols_tile : Layout.Tiles ⟨2, ![4096, 128]⟩ ⟨2, ![4096, 2048]⟩ 1 16 := by decide

/-- Row `r` of device `d`'s block is row `256 d + r`. -/
def rowOf (d : Dev nD) (r : Fin 256) : Fin 4096 := ⟨256 * d.val + r.val, by have h : d.val < 16 := d.isLt; have := r.isLt; omega⟩
/-- Column `n` of chunk `j` is column `512 j + n`. -/
def colOf (j : Fin 4) (n : Fin 512) : Fin 2048 := ⟨512 * j.val + n.val, by have := j.isLt; have := n.isLt; omega⟩

variable (hX : ∀ c : Dev nD, m (c.tc.loc main_arg0) = Layout.block ⟨2, ![256, 4096]⟩ ⟨2, ![4096, 4096]⟩ 0 16 c X rows_tile)
  (hW : ∀ c : Dev nD, m (c.tc.loc main_arg1) = W)

include hX in
/-- The left operand of device `c`, at an entry. -/
theorem xb_apply (c : Dev nD) (r : Fin 256) (k : Fin 4096) : (xb m ρ c (ix2 r k) : EReal) = X (ix2 (rowOf c r) k) := by
  unfold xb k0_pay1
  rw [shapeCast_self]
  show (xstg m ρ c (ix2 r k) : EReal) = _
  show m (c.tc.loc main_arg0) (((win0_0.blk (0 : Fin 1)).view.emb) (ix2 r k)) = _
  rw [hX c, Layout.block_apply]
  congr 1
  funext a
  apply Fin.ext
  match a with
  | ⟨0, _⟩ => show c.val * 256 + (0 * 256 + 1 * r.val) = 256 * c.val + r.val; omega
  | ⟨1, _⟩ => show 0 * 4096 + 1 * k.val = k.val; omega

include hW in
/-- A column chunk of the right operand, at an entry. -/
theorem wch_apply (c : Dev nD) (j : Fin 4) (k : Fin 4096) (n : Fin 512) : (wch m ρ c j (ix2 k n) : EReal) = W (ix2 k (colOf j n)) := by
  unfold wch
  show m (c.tc.loc main_arg1) ((wcol j).view.emb (ix2 k n)) = _
  rw [hW c]
  congr 1
  funext a
  apply Fin.ext
  match a with
  | ⟨0, _⟩ => show 0 + 1 * k.val = k.val; omega
  | ⟨1, _⟩ => show 512 * j.val + 1 * n.val = 512 * j.val + n.val; omega

include hX hW in
/-- The rectified product of device `c` is the whole product at the device's rows. -/
theorem ych_whole (c : Dev nD) (j : Fin 4) (i : S256x512.Idx) :
    (ych m ρ c j i : EReal) = Spec.entry X W (rowOf c (i 0)) (colOf j (i 1)) := by
  rw [ych_entry]
  unfold Spec.entry
  congr 1
  exact Finset.sum_congr rfl fun k _ => congrArg₂ (· * ·) (xb_apply m ρ X hX c (i 0) k) (wch_apply m ρ W hW c j k (i 1))

/-- Every row of the whole is a row of some device, -/
theorem row_surj (r : Fin 4096) : ∃ d r', rowOf d r' = r :=
  ⟨⟨r.val / 256, by have := r.isLt; show _ < 16; omega⟩, ⟨r.val % 256, Nat.mod_lt _ (by decide)⟩, Fin.ext (Nat.div_add_mod _ _)⟩
/-- and every column is a column of some chunk. -/
theorem col_surj (n : Fin 2048) : ∃ j n', colOf j n' = n :=
  ⟨⟨n.val / 512, by have := n.isLt; omega⟩, ⟨n.val % 512, Nat.mod_lt _ (by decide)⟩, Fin.ext (Nat.div_add_mod _ _)⟩

include hX hW in
/-- The maximum of all devices is the greatest entry of the whole product. -/
theorem tot_eq (c : Dev nD) : tot m ρ c = Spec.top X W := by
  refine eq_of_forall_ge_iff fun b => ?_
  rw [tot_le, Spec.top_le]
  simp only [am3_le, ych_whole m ρ X W hX hW]
  constructor
  · intro h r n
    obtain ⟨d, r', rfl⟩ := row_surj r
    obtain ⟨j, n', rfl⟩ := col_surj n
    exact (h d).2 j (ix2 r' n')
  · exact fun h d => ⟨le_trans (Spec.entry_nonneg X W ⟨0, by decide⟩ ⟨0, by decide⟩) (h _ _), fun j i => h _ _⟩

include hX hW in
/-- Row block `d` of device `c`'s result, at an entry. -/
theorem oblk_apply (c d : Dev nD) (r : Fin 256) (n : Fin 128) (n' : Fin 2048) (hn : n'.val = 128 * c.val + n.val) :
    (oblk m ρ c d (ix2 r n) : EReal) = Spec.out X W (ix2 (rowOf d r) n') := by
  unfold oblk
  rw [pay23_apply]
  have hs : (scl m ρ c : EReal) = Spec.scale (Spec.top X W) := by
    unfold scl
    rw [scl_eq]
    exact congrArg Spec.scale (tot_eq m ρ X W hX hW c)
  have ht : (tile m ρ d c (ix2 r n) : EReal) = Spec.prod X W (ix2 (rowOf d r) n') := by
    unfold tile
    rw [ych_whole m ρ X W hX hW]
    unfold Spec.prod
    congr 1
    · exact Fin.ext (show 256 * d.val + (0 + 1 * r.val) = 256 * d.val + r.val by omega)
    · refine Fin.ext ?_
      show 512 * (c.val / 4) + (128 * (c.val % 4) + 1 * n.val) = n'.val
      rw [hn]; omega
  rw [hs, ht]
  rfl

include hX hW in
/-- The result of device `c` is its block of columns of what the specification says. -/
theorem res_eq (c : Dev nD) : res m ρ c = Layout.block ⟨2, ![4096, 128]⟩ ⟨2, ![4096, 2048]⟩ 1 16 c (Spec.out X W) cols_tile := by
  funext i
  obtain ⟨d, r, hr⟩ := row_surj (i 0)
  have hi : i = (orowR d).emb (ix2 r (i 1)) := by
    funext a
    apply Fin.ext
    match a with
    | ⟨0, _⟩ => show (i 0).val = 256 * d.val + 1 * r.val; rw [Nat.one_mul, ← hr]; rfl
    | ⟨1, _⟩ => show (i 1).val = 0 + 1 * (i 1).val; omega
  rw [Layout.block_apply]
  have hn : ((cols_tile.idx c i) 1).val = 128 * c.val + (i 1).val := by
    show c.val * 128 + (i 1).val = _
    omega
  have h := oblk_apply m ρ X W hX hW c d r (i 1) _ hn
  have h2 : res m ρ c i = oblk m ρ c d (ix2 r (i 1)) := by
    conv_lhs => rw [hi]
    exact glue_emb orowR orow_cover orow_disjoint (fun d => oblk m ρ c d) d _
  rw [h2]
  refine h.trans (congrArg (Spec.out X W) ?_)
  funext a
  match a with
  | ⟨0, _⟩ => exact hr
  | ⟨1, _⟩ => rfl

end Whole

end Cert.KernelIdeal.Body
-- ==== Proof.Reference.lean ====
/-
# What the reference computes, over the extended reals

The host line's results are named as terms over the two operands and read entry by entry: the rectified product, its greatest
entry over 448, the clipped quotient. The one kernel call multiplies the quotient by the scale. So the result is what the
specification says.
-/
module

public import proofs.«01_k».proof.Proof.Spec
public import proofs.«01_k».proof.Proof.Gen.ReferenceIdeal.Value
public import Idealize.ShloMosaic.Lib.Claim

@[expose] public section

set_option maxRecDepth 16384

noncomputable section

namespace Cert.ReferenceIdeal.Read

open Cert.ReferenceIdeal Cert.ReferenceIdeal.Gen
open Idealize.ShloMosaic
open Idealize.ShloMosaic.TcCoe

/-! ## The host line's results -/

section Terms
variable {F : FTy → Type} [FloatOps F]

/-- The one index of a scalar. -/
def pt : S_.Idx := fun a => a.elim0

/-- The rectified product. -/
def relu (x : FVec F S4096x4096 .f32) (w : FVec F S4096x2048 .f32) : FVec F S4096x2048 .f32 :=
  maximumf (Host.dotGeneral dot_S4096x4096_S4096x2048_S4096x2048_1_0_0_1_n_n none x w)
    (broadcastInDim S4096x2048 ![] bcast_S_S4096x2048 (constant S_ .f32 0x00000000#32))

/-- The scale. -/
def scl (x : FVec F S4096x4096 .f32) (w : FVec F S4096x2048 .f32) : FVec F S_ .f32 :=
  Host.divf (Host.reduce FloatOps.maximumf (Host.absf (relu x w)) (constant S_ .f32 0xFF800000#32) reducesTo_S4096x2048_S_d0_1 h_S_)
    (constant S_ .f32 0x43E00000#32)

/-- The clipped quotient. -/
def quo (x : FVec F S4096x4096 .f32) (w : FVec F S4096x2048 .f32) : FVec F S4096x2048 .f32 :=
  minimumf (Host.divf (relu x w) (broadcastInDim S4096x2048 ![] bcast_S_S4096x2048 (scl x w)))
    (broadcastInDim S4096x2048 ![] bcast_S_S4096x2048 (constant S_ .f32 0x43E00000#32))

variable (m : (ℓ : Loc nD τ sig) → Buf (Elt F) ℓ)

/-- The kernel call finds the clipped quotient in its first operand, -/
theorem V9 (c : Dev nD) : V m c main_v9 = quo (m (c.tc.loc main_arg0)) (m (c.tc.loc main_arg1)) := by
  unfold quo scl relu
  unfold_abbrev_sides
  after_results_simp

/-- and the scale in its second. -/
theorem V10 (c : Dev nD) (i : S1x1.Idx) : V m c main_v10 i = scl (m (c.tc.loc main_arg0)) (m (c.tc.loc main_arg1)) pt := by
  have h : V m c main_v10 = shapeCast S1x1 (scl (m (c.tc.loc main_arg0)) (m (c.tc.loc main_arg1))) shapeCasts_S_S1x1 := by
    unfold scl relu
    unfold_abbrev_sides
    after_results_simp
    rfl
  rw [h]
  show scl (m (c.tc.loc main_arg0)) (m (c.tc.loc main_arg1)) (Shape.reshapeEquiv _ i) = _
  exact congrArg _ (funext fun a => a.elim0)

end Terms

/-! ## At an entry -/

section AtEntry
variable (x : S4096x4096.Idx → EReal) (w : S4096x2048.Idx → EReal)

theorem relu_apply (i : S4096x2048.Idx) : (relu (F := Ideal) x w i : EReal) = Spec.prod x w i := by
  unfold relu
  show max (Ideal.matmul dot_S4096x4096_S4096x2048_S4096x2048_1_0_0_1_n_n x w (fun _ => 0) i) (Ideal.ofBits .f32 0x00000000#32) = _
  simp only [matmulApply, Ideal.ofBits_zero_f32, zero_add]
  rfl

/-- The absolute value of an entry is the entry. -/
theorem abs_relu (i : S4096x2048.Idx) : (Host.absf (relu (F := Ideal) x w) i : EReal) = Spec.prod x w i := by
  show max (relu (F := Ideal) x w i : EReal) (-(relu (F := Ideal) x w i : EReal)) = _
  have h0 : (0 : EReal) ≤ Spec.prod x w i := Spec.entry_nonneg _ _ _ _
  rw [relu_apply]
  exact max_eq_left (le_trans (by simpa using h0) h0)

/-- The reference's maximum is the greatest entry. -/
theorem amax_eq : (Host.reduce (α := EReal) (FloatOps.maximumf (F := Ideal) (φ := .f32)) (Host.absf (relu (F := Ideal) x w))
    (constant (F := Ideal) S_ .f32 0xFF800000#32) reducesTo_S4096x2048_S_d0_1 h_S_ pt) = Spec.top x w := by
  rw [Host.reduce_eq_fold]
  refine eq_of_forall_ge_iff fun b => ?_
  refine (Finset.fold_max_le (β := EReal) b).trans ?_
  unfold Spec.top
  rw [iSup_le_iff]
  constructor
  · intro h i
    exact (abs_relu x w i).symm.trans_le (h.2 i (Finset.mem_filter.mpr ⟨Finset.mem_univ i, funext fun a => a.elim0⟩))
  · intro h
    refine ⟨?_, fun i _ => (abs_relu x w i).trans_le (h i)⟩
    exact (Spec.bits_bot).trans_le bot_le

theorem scl_apply : (scl (F := Ideal) x w pt : EReal) = Spec.scale (Spec.top x w) := by
  unfold scl
  exact congrArg Spec.scale (amax_eq x w)

/-- The clip changes nothing. -/
theorem quo_apply (i : S4096x2048.Idx) : (quo (F := Ideal) x w i : EReal) = Ideal.div (Spec.prod x w i) (Spec.scale (Spec.top x w)) := by
  have hs : (broadcastInDim S4096x2048 ![] bcast_S_S4096x2048 (scl (F := Ideal) x w) i : EReal) = Spec.scale (Spec.top x w) := by
    rw [← scl_apply]
    exact congrArg (scl (F := Ideal) x w) (funext fun a => a.elim0)
  unfold quo
  show min (Ideal.div (relu (F := Ideal) x w i) (broadcastInDim S4096x2048 ![] bcast_S_S4096x2048 (scl (F := Ideal) x w) i))
    (Ideal.ofBits .f32 0x43E00000#32) = _
  rw [hs, relu_apply]
  exact Spec.clip_div (Spec.entry_nonneg _ _ _ _) (le_iSup (Spec.prod x w) i)

end AtEntry

/-! ## The result -/

variable (m : (ℓ : Loc nD τ sig) → Buf (Elt Ideal) ℓ)

/-- The result after the kernel call is what the specification says. -/
theorem result_eq (c : Dev nD) : ((dats m 0 c).arrAt 2 cfg0.N : S4096x2048.Idx → EReal) = Spec.out (m (c.tc.loc main_arg0)) (m (c.tc.loc main_arg1)) := by
  funext i
  have hb := congrFun ((Value.blocks2 m c (0 : Fin 1) rfl).trans (Value.flushed2 m c (0 : Fin 1))) i
  have he : ((cfg0.win 2).blk (0 : Fin 1)).view.emb i = i := by
    funext a
    apply Fin.ext
    match a with
    | ⟨0, _⟩ => show 0 * 4096 + 1 * (i 0).val = (i 0).val; omega
    | ⟨1, _⟩ => show 0 * 2048 + 1 * (i 1).val = (i 1).val; omega
  have hl : ((dats m 0 c).arrAt 2 cfg0.N : S4096x2048.Idx → EReal) i = out0_2 (iblk m c 0 (0 : Fin 1)) (iblk m c 1 (0 : Fin 1)) i := by
    refine Eq.trans ?_ hb
    exact congrArg ((dats m 0 c).arrAt 2 cfg0.N : S4096x2048.Idx → EReal) he.symm
  rw [hl]
  unfold out0_2
  rw [Value.canon2_eq]
  have hq : (View.ld (iblk m c 0 (0 : Fin 1)) r0_0 (Value.ix2_0 i) : EReal) = (quo (F := Ideal) (m (c.tc.loc main_arg0)) (m (c.tc.loc main_arg1)) i : EReal) := by
    rw [← V9]
    refine congrArg (V m c main_v9 : S4096x2048.Idx → EReal) ?_
    funext a
    apply Fin.ext
    match a with
    | ⟨0, _⟩ => show 0 * 4096 + 1 * (0 + 1 * (i 0).val) = (i 0).val; omega
    | ⟨1, _⟩ => show 0 * 2048 + 1 * (0 + 1 * (i 1).val) = (i 1).val; omega
  have hs : (View.ld (iblk m c 1 (0 : Fin 1)) r0_1 (Value.ix2_1 i) : EReal) =
      (scl (F := Ideal) (m (c.tc.loc main_arg0)) (m (c.tc.loc main_arg1)) pt : EReal) :=
    V10 m c _
  refine (congrArg₂ (fun a b : EReal => a * b) hq hs).trans ?_
  rw [quo_apply, scl_apply]
  rfl

end Cert.ReferenceIdeal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.KernelIdeal.Values
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel as printed ends, its operands unchanged and every counter at zero. -/
theorem quiescent_kernel : Cert.quiescent_Kernel (hKernel := Cert.Kernel.Gen.facts) := fun m g _ =>
  (θ_run _ _ _).mono (fun _ h => ⟨fun c => ⟨(h.1 c).1, (h.1 c).2.1⟩, h.2⟩) (Cert.Kernel.Body.run_main (F := Bits) m g)

/-- So does the kernel read over the reals. -/
theorem quiescent_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Body.run_main (F := Ideal) m g)

/-- So does the reference. -/
theorem quiescent_reference : Cert.quiescent_ReferenceIdeal (hReferenceIdeal := Cert.ReferenceIdeal.Gen.facts) := fun m g _ =>
  Cert.ReferenceIdeal.Gen.frame (F := Ideal) m g

/-- Each device's result, over the extended reals, is its block of columns of the reference's result. -/
theorem algebraic_proof : Cert.algebraic_KernelIdeal_ReferenceIdeal (hKernelIdeal := Cert.KernelIdeal.Gen.facts)
    (hReferenceIdeal := Cert.ReferenceIdeal.Gen.facts) := fun m g m' g' _ hA =>
  ⟨Cert.Spec.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.2.trans
        (Cert.KernelIdeal.Body.res_eq m g _ _ (fun c => (hA c).1) (fun c => (hA c).2) c), (h.1 c).1, (h.1 c).2.1⟩)
      (Cert.KernelIdeal.Body.run_main (F := Ideal) m g),
    (θ_run _ _ _).mono (fun _ h => ⟨(h 0).1.trans (Cert.ReferenceIdeal.Read.result_eq m' 0), (h 0).2⟩)
      (Cert.ReferenceIdeal.Value.run_blocks (F := Ideal) m' g')⟩

theorem claim : Cert.Claim := ⟨Cert.Kernel.Gen.facts, Cert.KernelIdeal.Gen.facts, Cert.ReferenceIdeal.Gen.facts,
  quiescent_kernel, quiescent_ideal, quiescent_reference, trivial, algebraic_proof⟩

end Cert.Proof

end
